-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x39x2048 : Shape := ⟨3, ![32, 39, 2048]⟩
abbrev S32 : Shape := ⟨1, ![32]⟩
abbrev S256x39x6 : Shape := ⟨3, ![256, 39, 6]⟩
abbrev S256 : Shape := ⟨1, ![256]⟩
abbrev S768x256 : Shape := ⟨2, ![768, 256]⟩
abbrev S768 : Shape := ⟨1, ![768]⟩
abbrev S1024x256 : Shape := ⟨2, ![1024, 256]⟩
abbrev S4x256x128 : Shape := ⟨3, ![4, 256, 128]⟩
abbrev S4x128 : Shape := ⟨2, ![4, 128]⟩
abbrev S32x39x1024x2 : Shape := ⟨4, ![32, 39, 1024, 2]⟩
abbrev S1024x32x39x2 : Shape := ⟨4, ![1024, 32, 39, 2]⟩
abbrev S1024x32x78 : Shape := ⟨3, ![1024, 32, 78]⟩
abbrev S_ : Shape := ⟨0, ![]⟩
abbrev S1024x32x128 : Shape := ⟨3, ![1024, 32, 128]⟩
abbrev S1088x32x128 : Shape := ⟨3, ![1088, 32, 128]⟩
abbrev S1023x32x128 : Shape := ⟨3, ![1023, 32, 128]⟩
abbrev S1022x32x128 : Shape := ⟨3, ![1022, 32, 128]⟩
abbrev S256x39x2 : Shape := ⟨3, ![256, 39, 2]⟩
abbrev S256x78 : Shape := ⟨2, ![256, 78]⟩
abbrev S78x256 : Shape := ⟨2, ![78, 256]⟩
abbrev S128x256 : Shape := ⟨2, ![128, 256]⟩
abbrev S32x1 : Shape := ⟨2, ![32, 1]⟩
abbrev S1x256 : Shape := ⟨2, ![1, 256]⟩
abbrev S256x768 : Shape := ⟨2, ![256, 768]⟩
abbrev S1x768 : Shape := ⟨2, ![1, 768]⟩
abbrev S256x1024 : Shape := ⟨2, ![256, 1024]⟩
abbrev S256x4x128 : Shape := ⟨3, ![256, 4, 128]⟩
abbrev S256x512 : Shape := ⟨2, ![256, 512]⟩
abbrev S1x512 : Shape := ⟨2, ![1, 512]⟩
abbrev S32x1024 : Shape := ⟨2, ![32, 1024]⟩
abbrev S64x32x128 : Shape := ⟨3, ![64, 32, 128]⟩
abbrev S32x256 : Shape := ⟨2, ![32, 256]⟩
abbrev S8x32 : Shape := ⟨2, ![8, 32]⟩
abbrev S64x32x768 : Shape := ⟨3, ![64, 32, 768]⟩
abbrev S64x32x256 : Shape := ⟨3, ![64, 32, 256]⟩
abbrev S64x32 : Shape := ⟨2, ![64, 32]⟩
abbrev S8x1024 : Shape := ⟨2, ![8, 1024]⟩
abbrev S1024 : Shape := ⟨1, ![1024]⟩
abbrev S1x1024 : Shape := ⟨2, ![1, 1024]⟩
abbrev S2048x256 : Shape := ⟨2, ![2048, 256]⟩
abbrev S2048x1024 : Shape := ⟨2, ![2048, 1024]⟩
abbrev S64x32x1024 : Shape := ⟨3, ![64, 32, 1024]⟩
abbrev S64x32x1 : Shape := ⟨3, ![64, 32, 1]⟩
abbrev S2048x768 : Shape := ⟨2, ![2048, 768]⟩
abbrev S1x32 : Shape := ⟨2, ![1, 32]⟩
abbrev S63x32 : Shape := ⟨2, ![63, 32]⟩
abbrev S2048x128 : Shape := ⟨2, ![2048, 128]⟩
abbrev S1x32x768 : Shape := ⟨3, ![1, 32, 768]⟩
abbrev S32x768 : Shape := ⟨2, ![32, 768]⟩
abbrev S1x32x256 : Shape := ⟨3, ![1, 32, 256]⟩
abbrev S1x32x1 : Shape := ⟨3, ![1, 32, 1]⟩
abbrev S2048x512 : Shape := ⟨2, ![2048, 512]⟩
abbrev S64x32x512 : Shape := ⟨3, ![64, 32, 512]⟩
abbrev S1x128 : Shape := ⟨2, ![1, 128]⟩
abbrev S128 : Shape := ⟨1, ![128]⟩
abbrev S1 : Shape := ⟨1, ![1]⟩
abbrev S1x1 : Shape := ⟨2, ![1, 1]⟩

abbrev nBuf : Space → Nat
  | .hbm => 67
  | .vmem => 42
  | .smem => 0
  | _ => 0

abbrev bufTy : (tb : Table) → Fin (tcTables nBuf tb) → BufTy
  | .hbm, ⟨0, _⟩ => ⟨S32x39x2048, .f32⟩
  | .hbm, ⟨1, _⟩ => ⟨S32, .i32⟩
  | .hbm, ⟨2, _⟩ => ⟨S256x39x6, .f32⟩
  | .hbm, ⟨3, _⟩ => ⟨S256, .f32⟩
  | .hbm, ⟨4, _⟩ => ⟨S768x256, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S768x256, .f32⟩
  | .hbm, ⟨9, _⟩ => ⟨S768x256, .f32⟩
  | .hbm, ⟨10, _⟩ => ⟨S768, .f32⟩
  | .hbm, ⟨11, _⟩ => ⟨S768, .f32⟩
  | .hbm, ⟨12, _⟩ => ⟨S1024x256, .f32⟩
  | .hbm, ⟨13, _⟩ => ⟨S4x256x128, .f32⟩
  | .hbm, ⟨14, _⟩ => ⟨S4x128, .f32⟩
  | .hbm, ⟨15, _⟩ => ⟨S4x128, .f32⟩
  | .hbm, ⟨16, _⟩ => ⟨S32x39x1024x2, .f32⟩
  | .hbm, ⟨17, _⟩ => ⟨S1024x32x39x2, .f32⟩
  | .hbm, ⟨18, _⟩ => ⟨S1024x32x78, .f32⟩
  | .hbm, ⟨19, _⟩ => ⟨S_, .i32⟩
  | .hbm, ⟨20, _⟩ => ⟨S_, .f32⟩
  | .hbm, ⟨21, _⟩ => ⟨S1024x32x128, .f32⟩
  | .hbm, ⟨22, _⟩ => ⟨S_, .i32⟩
  | .hbm, ⟨23, _⟩ => ⟨S_, .f32⟩
  | .hbm, ⟨24, _⟩ => ⟨S1088x32x128, .f32⟩
  | .hbm, ⟨25, _⟩ => ⟨S1023x32x128, .f32⟩
  | .hbm, ⟨26, _⟩ => ⟨S_, .i32⟩
  | .hbm, ⟨27, _⟩ => ⟨S_, .f32⟩
  | .hbm, ⟨28, _⟩ => ⟨S1088x32x128, .f32⟩
  | .hbm, ⟨29, _⟩ => ⟨S1022x32x128, .f32⟩
  | .hbm, ⟨30, _⟩ => ⟨S_, .i32⟩
  | .hbm, ⟨31, _⟩ => ⟨S_, .f32⟩
  | .hbm, ⟨32, _⟩ => ⟨S1088x32x128, .f32⟩
  | .hbm, ⟨33, _⟩ => ⟨S256x39x2, .f32⟩
  | .hbm, ⟨34, _⟩ => ⟨S256x78, .f32⟩
  | .hbm, ⟨35, _⟩ => ⟨S78x256, .f32⟩
  | .hbm, ⟨36, _⟩ => ⟨S_, .i32⟩
  | .hbm, ⟨37, _⟩ => ⟨S_, .f32⟩
  | .hbm, ⟨38, _⟩ => ⟨S128x256, .f32⟩
  | .hbm, ⟨39, _⟩ => ⟨S256x39x2, .f32⟩
  | .hbm, ⟨40, _⟩ => ⟨S256x78, .f32⟩
  | .hbm, ⟨41, _⟩ => ⟨S78x256, .f32⟩
  | .hbm, ⟨42, _⟩ => ⟨S_, .i32⟩
  | .hbm, ⟨43, _⟩ => ⟨S_, .f32⟩
  | .hbm, ⟨44, _⟩ => ⟨S128x256, .f32⟩
  | .hbm, ⟨45, _⟩ => ⟨S256x39x2, .f32⟩
  | .hbm, ⟨46, _⟩ => ⟨S256x78, .f32⟩
  | .hbm, ⟨47, _⟩ => ⟨S78x256, .f32⟩
  | .hbm, ⟨48, _⟩ => ⟨S_, .i32⟩
  | .hbm, ⟨49, _⟩ => ⟨S_, .f32⟩
  | .hbm, ⟨50, _⟩ => ⟨S128x256, .f32⟩
  | .hbm, ⟨51, _⟩ => ⟨S32x1, .i32⟩
  | .hbm, ⟨52, _⟩ => ⟨S1x256, .f32⟩
  | .hbm, ⟨53, _⟩ => ⟨S256x768, .f32⟩
  | .hbm, ⟨54, _⟩ => ⟨S256x768, .f32⟩
  | .hbm, ⟨55, _⟩ => ⟨S1x768, .f32⟩
  | .hbm, ⟨56, _⟩ => ⟨S1x768, .f32⟩
  | .hbm, ⟨57, _⟩ => ⟨S256x768, .f32⟩
  | .hbm, ⟨58, _⟩ => ⟨S256x768, .f32⟩
  | .hbm, ⟨59, _⟩ => ⟨S1x768, .f32⟩
  | .hbm, ⟨60, _⟩ => ⟨S1x768, .f32⟩
  | .hbm, ⟨61, _⟩ => ⟨S256x1024, .f32⟩
  | .hbm, ⟨62, _⟩ => ⟨S256x4x128, .f32⟩
  | .hbm, ⟨63, _⟩ => ⟨S256x512, .f32⟩
  | .hbm, ⟨64, _⟩ => ⟨S1x512, .f32⟩
  | .hbm, ⟨65, _⟩ => ⟨S1x512, .f32⟩
  | .hbm, ⟨66, _⟩ => ⟨S32x1024, .f32⟩
  | .local _ .vmem, ⟨0, _⟩ => ⟨S32x1, .i32⟩
  | .local _ .vmem, ⟨1, _⟩ => ⟨S64x32x128, .f32⟩
  | .local _ .vmem, ⟨2, _⟩ => ⟨S64x32x128, .f32⟩
  | .local _ .vmem, ⟨3, _⟩ => ⟨S64x32x128, .f32⟩
  | .local _ .vmem, ⟨4, _⟩ => ⟨S64x32x128, .f32⟩
  | .local _ .vmem, ⟨5, _⟩ => ⟨S64x32x128, .f32⟩
  | .local _ .vmem, ⟨6, _⟩ => ⟨S64x32x128, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x256, .f32⟩
  | .local _ .vmem, ⟨11, _⟩ => ⟨S256x768, .f32⟩
  | .local _ .vmem, ⟨12, _⟩ => ⟨S1x768, .f32⟩
  | .local _ .vmem, ⟨13, _⟩ => ⟨S256x768, .f32⟩
  | .local _ .vmem, ⟨14, _⟩ => ⟨S1x768, .f32⟩
  | .local _ .vmem, ⟨15, _⟩ => ⟨S1024x256, .f32⟩
  | .local _ .vmem, ⟨16, _⟩ => ⟨S256x1024, .f32⟩
  | .local _ .vmem, ⟨17, _⟩ => ⟨S256x768, .f32⟩
  | .local _ .vmem, ⟨18, _⟩ => ⟨S1x768, .f32⟩
  | .local _ .vmem, ⟨19, _⟩ => ⟨S256x768, .f32⟩
  | .local _ .vmem, ⟨20, _⟩ => ⟨S1x768, .f32⟩
  | .local _ .vmem, ⟨21, _⟩ => ⟨S256x512, .f32⟩
  | .local _ .vmem, ⟨22, _⟩ => ⟨S1x512, .f32⟩
  | .local _ .vmem, ⟨23, _⟩ => ⟨S1x512, .f32⟩
  | .local _ .vmem, ⟨24, _⟩ => ⟨S32x1024, .f32⟩
  | .local _ .vmem, ⟨25, _⟩ => ⟨S32x256, .f32⟩
  | .local _ .vmem, ⟨26, _⟩ => ⟨S32x256, .f32⟩
  | .local _ .vmem, ⟨27, _⟩ => ⟨S8x32, .i32⟩
  | .local _ .vmem, ⟨28, _⟩ => ⟨S64x32x768, .f32⟩
  | .local _ .vmem, ⟨29, _⟩ => ⟨S64x32x768, .f32⟩
  | .local _ .vmem, ⟨30, _⟩ => ⟨S64x32x256, .f32⟩
  | .local _ .vmem, ⟨31, _⟩ => ⟨S64x32x256, .f32⟩
  | .local _ .vmem, ⟨32, _⟩ => ⟨S64x32x256, .f32⟩
  | .local _ .vmem, ⟨33, _⟩ => ⟨S64x32, .i32⟩
  | .local _ .vmem, ⟨34, _⟩ => ⟨S32x256, .f32⟩
  | .local _ .vmem, ⟨35, _⟩ => ⟨S32x256, .f32⟩
  | .local _ .vmem, ⟨36, _⟩ => ⟨S32x256, .f32⟩
  | .local _ .vmem, ⟨37, _⟩ => ⟨S32x256, .f32⟩
  | .local _ .vmem, ⟨38, _⟩ => ⟨S8x32, .f32⟩
  | .local _ .vmem, ⟨39, _⟩ => ⟨S8x32, .f32⟩
  | .local _ .vmem, ⟨40, _⟩ => ⟨S32x256, .f32⟩
  | .local _ .vmem, ⟨41, _⟩ => ⟨S8x1024, .f32⟩
  | _, _ => ⟨S32x39x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_call2_v0 : Ref sig .tc := ⟨.hbm, 27, rfl⟩
abbrev main_v6 : Ref sig .tc := ⟨.hbm, 28, rfl⟩
abbrev main_v7 : Ref sig .tc := ⟨.hbm, 29, rfl⟩
abbrev main_c_2 : Ref sig .tc := ⟨.hbm, 30, rfl⟩
abbrev main_call3_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_3 : Ref sig .tc := ⟨.hbm, 36, rfl⟩
abbrev main_call4_v0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_call5_v0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_5 : Ref sig .tc := ⟨.hbm, 48, rfl⟩
abbrev main_call6_v0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_scratch11 : Ref sig .tc := ⟨.vmem, 36, rfl⟩
abbrev cc0_scratch12 : Ref sig .tc := ⟨.vmem, 37, rfl⟩
abbrev cc0_scratch13 : Ref sig .tc := ⟨.vmem, 38, rfl⟩
abbrev cc0_scratch14 : Ref sig .tc := ⟨.vmem, 39, rfl⟩
abbrev cc0_scratch15 : Ref sig .tc := ⟨.vmem, 40, rfl⟩
abbrev cc0_scratch16 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_72 : BitVec 32 := 0#32
  let c64_i32 : BitVec 32 := 64#32
  let v112 : BitVec 32 := Scalar.addi c0_i32_72 c64_i32
  let c1_i32_73 : BitVec 32 := 1#32
  ⟨c0_i32_72, v112, c1_i32_73⟩
def k0_off1 (k0_t1 : Fin k0_t1_loop.trips) : Fin 3 → Nat :=
  let c0_i32_72 : BitVec 32 := 0#32
  let c1_i32_73 : BitVec 32 := 1#32
  let arg40 : BitVec 32 := Scf.iv c0_i32_72 c1_i32_73 k0_t1
  let v309 : Index := Scalar.indexCast arg40
  let c0_164 : Index := 0#32
  let c0_165 : Index := 0#32
  ![v309.toNat, 0, 0]
def k0_off2 (k0_t1 : Fin k0_t1_loop.trips) : Fin 3 → Nat :=
  let c0_i32_72 : BitVec 32 := 0#32
  let c1_i32_73 : BitVec 32 := 1#32
  let arg40 : BitVec 32 := Scf.iv c0_i32_72 c1_i32_73 k0_t1
  let v334 : Index := Scalar.indexCast arg40
  let c0_168 : Index := 0#32
  let c0_169 : Index := 0#32
  ![v334.toNat, 0, 0]
def k0_cond4 (i : grid0.Coords) : BitVec 1 :=
  let arg0 : BitVec 32 := BitVec.ofNat 32 (i 0).val
  let c16_i32 : BitVec 32 := 16#32
  let v306 : BitVec 1 := Scalar.cmpi .eq arg0 c16_i32
  let v307 : BitVec 32 := Scalar.extui v306
  let c0_i32_163 : BitVec 32 := 0#32
  let v308 : BitVec 1 := Scalar.cmpi .ne v307 c0_i32_163
  v308

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S32x39x2048 : Shape := ⟨3, ![32, 39, 2048]⟩
abbrev S32 : Shape := ⟨1, ![32]⟩
abbrev S256x39x6 : Shape := ⟨3, ![256, 39, 6]⟩
abbrev S256 : Shape := ⟨1, ![256]⟩
abbrev S768x256 : Shape := ⟨2, ![768, 256]⟩
abbrev S768 : Shape := ⟨1, ![768]⟩
abbrev S1024x256 : Shape := ⟨2, ![1024, 256]⟩
abbrev S4x256x128 : Shape := ⟨3, ![4, 256, 128]⟩
abbrev S4x128 : Shape := ⟨2, ![4, 128]⟩
abbrev S32x39x1022 : Shape := ⟨3, ![32, 39, 1022]⟩
abbrev S256x39x1 : Shape := ⟨3, ![256, 39, 1]⟩
abbrev S256x39 : Shape := ⟨2, ![256, 39]⟩
abbrev S256x32x1022 : Shape := ⟨3, ![256, 32, 1022]⟩
abbrev S1022x32x256 : Shape := ⟨3, ![1022, 32, 256]⟩
abbrev S_ : Shape := ⟨0, ![]⟩
abbrev S1x1x256 : Shape := ⟨3, ![1, 1, 256]⟩
abbrev S1022 : Shape := ⟨1, ![1022]⟩
abbrev S1022x1 : Shape := ⟨2, ![1022, 1]⟩
abbrev S1x32 : Shape := ⟨2, ![1, 32]⟩
abbrev S1022x32 : Shape := ⟨2, ![1022, 32]⟩
abbrev S32x256 : Shape := ⟨2, ![32, 256]⟩
abbrev S1x32x256 : Shape := ⟨3, ![1, 32, 256]⟩
abbrev S256x768 : Shape := ⟨2, ![256, 768]⟩
abbrev S32x768 : Shape := ⟨2, ![32, 768]⟩
abbrev S1x768 : Shape := ⟨2, ![1, 768]⟩
abbrev S32x1 : Shape := ⟨2, ![32, 1]⟩
abbrev S256x1024 : Shape := ⟨2, ![256, 1024]⟩
abbrev S32x1024 : Shape := ⟨2, ![32, 1024]⟩
abbrev S1024 : Shape := ⟨1, ![1024]⟩
abbrev S1x1024 : Shape := ⟨2, ![1, 1024]⟩
abbrev S1021x32 : Shape := ⟨2, ![1021, 32]⟩
abbrev S1x1022 : Shape := ⟨2, ![1, 1022]⟩
abbrev S1022x1022 : Shape := ⟨2, ![1022, 1022]⟩
abbrev S1022x1022x1 : Shape := ⟨3, ![1022, 1022, 1]⟩
abbrev S1022x1x32 : Shape := ⟨3, ![1022, 1, 32]⟩
abbrev S1022x1022x32 : Shape := ⟨3, ![1022, 1022, 32]⟩
abbrev S1x1022x32 : Shape := ⟨3, ![1, 1022, 32]⟩
abbrev S1022x1x1 : Shape := ⟨3, ![1022, 1, 1]⟩
abbrev S32x1022x256 : Shape := ⟨3, ![32, 1022, 256]⟩
abbrev S4x128x32x1022 : Shape := ⟨4, ![4, 128, 32, 1022]⟩
abbrev S32x4x1022x128 : Shape := ⟨4, ![32, 4, 1022, 128]⟩
abbrev S1x4x1x128 : Shape := ⟨4, ![1, 4, 1, 128]⟩
abbrev S4x32x1022 : Shape := ⟨3, ![4, 32, 1022]⟩
abbrev S32x4x1022 : Shape := ⟨3, ![32, 4, 1022]⟩
abbrev S32x4 : Shape := ⟨2, ![32, 4]⟩
abbrev S32x4x1 : Shape := ⟨3, ![32, 4, 1]⟩
abbrev S32x4x256 : Shape := ⟨3, ![32, 4, 256]⟩

abbrev nBuf : Space → Nat
  | .hbm => 326
  | .vmem => 0
  | .smem => 0
  | _ => 0

abbrev hbmTy0_0 (i : Nat) : BufTy := match i % 128 with
  | 0 => ⟨S32x39x2048, .f32⟩
  | 1 => ⟨S32, .i32⟩
  | 2 => ⟨S256x39x6, .f32⟩
  | 3 => ⟨S256, .f32⟩
  | 4 => ⟨S768x256, .f32⟩
  | 5 => ⟨S768x256, .f32⟩
  | 6 => ⟨S768, .f32⟩
  | 7 => ⟨S768, .f32⟩
  | 8 => ⟨S768x256, .f32⟩
  | 9 => ⟨S768x256, .f32⟩
  | 10 => ⟨S768, .f32⟩
  | 11 => ⟨S768, .f32⟩
  | 12 => ⟨S1024x256, .f32⟩
  | 13 => ⟨S4x256x128, .f32⟩
  | 14 => ⟨S4x128, .f32⟩
  | 15 => ⟨S4x128, .f32⟩
  | 16 => ⟨S32x39x1022, .f32⟩
  | 17 => ⟨S256x39x1, .f32⟩
  | 18 => ⟨S256x39, .f32⟩
  | 19 => ⟨S256x32x1022, .f32⟩
  | 20 => ⟨S1022x32x256, .f32⟩
  | 21 => ⟨S_, .f32⟩
  | 22 => ⟨S1022x32x256, .f32⟩
  | 23 => ⟨S1022x32x256, .f32⟩
  | 24 => ⟨S32x39x1022, .f32⟩
  | 25 => ⟨S256x39x1, .f32⟩
  | 26 => ⟨S256x39, .f32⟩
  | 27 => ⟨S256x32x1022, .f32⟩
  | 28 => ⟨S1022x32x256, .f32⟩
  | 29 => ⟨S1022x32x256, .f32⟩
  | 30 => ⟨S32x39x1022, .f32⟩
  | 31 => ⟨S256x39x1, .f32⟩
  | 32 => ⟨S256x39, .f32⟩
  | 33 => ⟨S256x32x1022, .f32⟩
  | 34 => ⟨S1022x32x256, .f32⟩
  | 35 => ⟨S1022x32x256, .f32⟩
  | 36 => ⟨S32x39x1022, .f32⟩
  | 37 => ⟨S256x39x1, .f32⟩
  | 38 => ⟨S256x39, .f32⟩
  | 39 => ⟨S256x32x1022, .f32⟩
  | 40 => ⟨S1022x32x256, .f32⟩
  | 41 => ⟨S1022x32x256, .f32⟩
  | 42 => ⟨S32x39x1022, .f32⟩
  | 43 => ⟨S256x39x1, .f32⟩
  | 44 => ⟨S256x39, .f32⟩
  | 45 => ⟨S256x32x1022, .f32⟩
  | 46 => ⟨S1022x32x256, .f32⟩
  | 47 => ⟨S1022x32x256, .f32⟩
  | 48 => ⟨S32x39x1022, .f32⟩
  | 49 => ⟨S256x39x1, .f32⟩
  | 50 => ⟨S256x39, .f32⟩
  | 51 => ⟨S256x32x1022, .f32⟩
  | 52 => ⟨S1022x32x256, .f32⟩
  | 53 => ⟨S1022x32x256, .f32⟩
  | 54 => ⟨S1x1x256, .f32⟩
  | 55 => ⟨S1022x32x256, .f32⟩
  | 56 => ⟨S1022x32x256, .f32⟩
  | 57 => ⟨S_, .i32⟩
  | 58 => ⟨S32, .i32⟩
  | 59 => ⟨S32, .i32⟩
  | 60 => ⟨S_, .i32⟩
  | 61 => ⟨S_, .i32⟩
  | 62 => ⟨S32, .i32⟩
  | 63 => ⟨S32, .i32⟩
  | 64 => ⟨S32, .i32⟩
  | 65 => ⟨S_, .i32⟩
  | 66 => ⟨S32, .i32⟩
  | 67 => ⟨S32, .i1⟩
  | 68 => ⟨S32, .i32⟩
  | 69 => ⟨S32, .i32⟩
  | 70 => ⟨S_, .i32⟩
  | 71 => ⟨S32, .i32⟩
  | 72 => ⟨S32, .i1⟩
  | 73 => ⟨S32, .i1⟩
  | 74 => ⟨S_, .i32⟩
  | 75 => ⟨S32, .i32⟩
  | 76 => ⟨S32, .i32⟩
  | 77 => ⟨S32, .i32⟩
  | 78 => ⟨S1022, .i32⟩
  | 79 => ⟨S1022x1, .i32⟩
  | 80 => ⟨S1x32, .i32⟩
  | 81 => ⟨S1022x32, .i32⟩
  | 82 => ⟨S1022x32, .i32⟩
  | 83 => ⟨S1022x32, .i1⟩
  | 84 => ⟨S1022x32, .f32⟩
  | 85 => ⟨S_, .f32⟩
  | 86 => ⟨S32x256, .f32⟩
  | 87 => ⟨S_, .i32⟩
  | 88 => ⟨S32, .i32⟩
  | 89 => ⟨S_, .i32⟩
  | 90 => ⟨S1022x32, .i32⟩
  | 91 => ⟨S_, .f32⟩
  | 92 => ⟨S1022x32x256, .f32⟩
  | 93 => ⟨S_, .i32⟩
  | 94 => ⟨S1022x32x256, .f32⟩
  | 95 => ⟨S1022x32, .f32⟩
  | 96 => ⟨S768x256, .f32⟩
  | 97 => ⟨S768, .f32⟩
  | 98 => ⟨S768x256, .f32⟩
  | 99 => ⟨S768, .f32⟩
  | 100 => ⟨S1024x256, .f32⟩
  | 101 => ⟨S768x256, .f32⟩
  | 102 => ⟨S768, .f32⟩
  | 103 => ⟨S768x256, .f32⟩
  | 104 => ⟨S768, .f32⟩
  | 105 => ⟨S_, .i32⟩
  | 106 => ⟨S32x256, .f32⟩
  | 107 => ⟨S32x256, .f32⟩
  | 108 => ⟨S32, .i32⟩
  | 109 => ⟨S1022x32, .i32⟩
  | 110 => ⟨S1022x32x256, .f32⟩
  | 111 => ⟨S_, .i32⟩
  | 112 => ⟨S_, .i1⟩
  | 113 => ⟨S_, .i32⟩
  | 114 => ⟨S_, .i32⟩
  | 115 => ⟨S1x32x256, .f32⟩
  | 116 => ⟨S32x256, .f32⟩
  | 117 => ⟨S_, .i32⟩
  | 118 => ⟨S1x32, .f32⟩
  | 119 => ⟨S32, .f32⟩
  | 120 => ⟨S256x768, .f32⟩
  | 121 => ⟨S32x768, .f32⟩
  | 122 => ⟨S1x768, .f32⟩
  | 123 => ⟨S32x768, .f32⟩
  | 124 => ⟨S32x768, .f32⟩
  | 125 => ⟨S256x768, .f32⟩
  | 126 => ⟨S32x768, .f32⟩
  | 127 => ⟨S1x768, .f32⟩
  | _ => ⟨S32x39x2048, .f32⟩

abbrev hbmTy0_1 (i : Nat) : BufTy := match i % 128 with
  | 0 => ⟨S32x768, .f32⟩
  | 1 => ⟨S32x768, .f32⟩
  | 2 => ⟨S32x256, .f32⟩
  | 3 => ⟨S32x256, .f32⟩
  | 4 => ⟨S32x256, .f32⟩
  | 5 => ⟨S32x256, .f32⟩
  | 6 => ⟨S32x256, .f32⟩
  | 7 => ⟨S32x256, .f32⟩
  | 8 => ⟨S32x256, .f32⟩
  | 9 => ⟨S32x256, .f32⟩
  | 10 => ⟨S32x256, .f32⟩
  | 11 => ⟨S_, .f32⟩
  | 12 => ⟨S32x256, .f32⟩
  | 13 => ⟨S32x256, .f32⟩
  | 14 => ⟨S_, .f32⟩
  | 15 => ⟨S32x256, .f32⟩
  | 16 => ⟨S32x256, .f32⟩
  | 17 => ⟨S32x256, .f32⟩
  | 18 => ⟨S32x256, .f32⟩
  | 19 => ⟨S32x256, .f32⟩
  | 20 => ⟨S_, .f32⟩
  | 21 => ⟨S32x256, .f32⟩
  | 22 => ⟨S32x256, .f32⟩
  | 23 => ⟨S_, .f32⟩
  | 24 => ⟨S32x256, .f32⟩
  | 25 => ⟨S32x256, .f32⟩
  | 26 => ⟨S32x256, .f32⟩
  | 27 => ⟨S32x256, .f32⟩
  | 28 => ⟨S32x256, .f32⟩
  | 29 => ⟨S_, .f32⟩
  | 30 => ⟨S32x256, .f32⟩
  | 31 => ⟨S32x256, .f32⟩
  | 32 => ⟨S32x256, .f32⟩
  | 33 => ⟨S32x256, .f32⟩
  | 34 => ⟨S32x256, .f32⟩
  | 35 => ⟨S32x1, .f32⟩
  | 36 => ⟨S32x256, .f32⟩
  | 37 => ⟨S32x256, .f32⟩
  | 38 => ⟨S32x256, .f32⟩
  | 39 => ⟨S_, .f32⟩
  | 40 => ⟨S32, .f32⟩
  | 41 => ⟨S32x1, .f32⟩
  | 42 => ⟨S256x1024, .f32⟩
  | 43 => ⟨S32x1024, .f32⟩
  | 44 => ⟨S_, .f32⟩
  | 45 => ⟨S32x1024, .f32⟩
  | 46 => ⟨S32x1024, .f32⟩
  | 47 => ⟨S32x1024, .f32⟩
  | 48 => ⟨S32x1024, .f32⟩
  | 49 => ⟨S1024x256, .f32⟩
  | 50 => ⟨S_, .f32⟩
  | 51 => ⟨S1024, .f32⟩
  | 52 => ⟨S1x1024, .f32⟩
  | 53 => ⟨S32x1024, .f32⟩
  | 54 => ⟨S32x1024, .f32⟩
  | 55 => ⟨S_, .f32⟩
  | 56 => ⟨S32, .f32⟩
  | 57 => ⟨S32x1, .f32⟩
  | 58 => ⟨S32x1024, .f32⟩
  | 59 => ⟨S32x1024, .i1⟩
  | 60 => ⟨S1024, .i32⟩
  | 61 => ⟨S1x1024, .i32⟩
  | 62 => ⟨S_, .i32⟩
  | 63 => ⟨S_, .i32⟩
  | 64 => ⟨S32x1024, .i32⟩
  | 65 => ⟨S32x1024, .i32⟩
  | 66 => ⟨S32x1024, .i32⟩
  | 67 => ⟨S_, .i32⟩
  | 68 => ⟨S32, .i32⟩
  | 69 => ⟨S_, .i32⟩
  | 70 => ⟨S32, .i32⟩
  | 71 => ⟨S32, .i1⟩
  | 72 => ⟨S_, .i32⟩
  | 73 => ⟨S32, .i32⟩
  | 74 => ⟨S32, .i32⟩
  | 75 => ⟨S32, .i32⟩
  | 76 => ⟨S32x1, .i32⟩
  | 77 => ⟨S32x256, .f32⟩
  | 78 => ⟨S32x256, .f32⟩
  | 79 => ⟨S32x256, .f32⟩
  | 80 => ⟨S32, .i1⟩
  | 81 => ⟨S32, .f32⟩
  | 82 => ⟨S32x1, .f32⟩
  | 83 => ⟨S32x256, .f32⟩
  | 84 => ⟨S32x256, .f32⟩
  | 85 => ⟨S256x768, .f32⟩
  | 86 => ⟨S32x768, .f32⟩
  | 87 => ⟨S1x768, .f32⟩
  | 88 => ⟨S32x768, .f32⟩
  | 89 => ⟨S32x768, .f32⟩
  | 90 => ⟨S256x768, .f32⟩
  | 91 => ⟨S32x768, .f32⟩
  | 92 => ⟨S1x768, .f32⟩
  | 93 => ⟨S32x768, .f32⟩
  | 94 => ⟨S32x768, .f32⟩
  | 95 => ⟨S32x256, .f32⟩
  | 96 => ⟨S32x256, .f32⟩
  | 97 => ⟨S32x256, .f32⟩
  | 98 => ⟨S32x256, .f32⟩
  | 99 => ⟨S32x256, .f32⟩
  | 100 => ⟨S32x256, .f32⟩
  | 101 => ⟨S32x256, .f32⟩
  | 102 => ⟨S32x256, .f32⟩
  | 103 => ⟨S32x256, .f32⟩
  | 104 => ⟨S_, .f32⟩
  | 105 => ⟨S32x256, .f32⟩
  | 106 => ⟨S32x256, .f32⟩
  | 107 => ⟨S_, .f32⟩
  | 108 => ⟨S32x256, .f32⟩
  | 109 => ⟨S32x256, .f32⟩
  | 110 => ⟨S32x256, .f32⟩
  | 111 => ⟨S32x256, .f32⟩
  | 112 => ⟨S32x256, .f32⟩
  | 113 => ⟨S_, .f32⟩
  | 114 => ⟨S32x256, .f32⟩
  | 115 => ⟨S32x256, .f32⟩
  | 116 => ⟨S_, .f32⟩
  | 117 => ⟨S32x256, .f32⟩
  | 118 => ⟨S32x256, .f32⟩
  | 119 => ⟨S32x256, .f32⟩
  | 120 => ⟨S32x256, .f32⟩
  | 121 => ⟨S32x256, .f32⟩
  | 122 => ⟨S_, .f32⟩
  | 123 => ⟨S32x256, .f32⟩
  | 124 => ⟨S32x256, .f32⟩
  | 125 => ⟨S32x256, .f32⟩
  | 126 => ⟨S32x256, .f32⟩
  | 127 => ⟨S32x256, .f32⟩
  | _ => ⟨S32x39x2048, .f32⟩

abbrev hbmTy0_2 (i : Nat) : BufTy := match i % 128 with
  | 0 => ⟨S1x32, .i32⟩
  | 1 => ⟨S_, .i32⟩
  | 2 => ⟨S1022x32, .i32⟩
  | 3 => ⟨S1x32x256, .f32⟩
  | 4 => ⟨S_, .i32⟩
  | 5 => ⟨S_, .i32⟩
  | 6 => ⟨S1022x32x256, .f32⟩
  | 7 => ⟨S_, .i32⟩
  | 8 => ⟨S_, .i32⟩
  | 9 => ⟨S1021x32, .i32⟩
  | 10 => ⟨S1021x32, .i32⟩
  | 11 => ⟨S1021x32, .i1⟩
  | 12 => ⟨S_, .i1⟩
  | 13 => ⟨S1x32, .i1⟩
  | 14 => ⟨S1022x32, .i1⟩
  | 15 => ⟨S1022, .i32⟩
  | 16 => ⟨S1022x1, .i32⟩
  | 17 => ⟨S1022, .i32⟩
  | 18 => ⟨S1x1022, .i32⟩
  | 19 => ⟨S1022x1022, .i32⟩
  | 20 => ⟨S1022x1022, .i32⟩
  | 21 => ⟨S1022x1022, .i1⟩
  | 22 => ⟨S1022x1022x1, .i1⟩
  | 23 => ⟨S1022x1x32, .i1⟩
  | 24 => ⟨S1022x1x32, .i32⟩
  | 25 => ⟨S_, .i32⟩
  | 26 => ⟨S_, .i32⟩
  | 27 => ⟨S1022x1022x32, .i1⟩
  | 28 => ⟨S1022x1022x32, .i32⟩
  | 29 => ⟨S1022x1022x32, .i32⟩
  | 30 => ⟨S1022x1022x32, .i32⟩
  | 31 => ⟨S_, .i32⟩
  | 32 => ⟨S1022x32, .i32⟩
  | 33 => ⟨S1x1022x32, .i32⟩
  | 34 => ⟨S1022, .i32⟩
  | 35 => ⟨S1022x1x1, .i32⟩
  | 36 => ⟨S1022x1022x32, .i32⟩
  | 37 => ⟨S1022x1022x32, .i32⟩
  | 38 => ⟨S1022x1022x32, .i1⟩
  | 39 => ⟨S1x1022x32, .i1⟩
  | 40 => ⟨S1022x1022x32, .i1⟩
  | 41 => ⟨S1022x1022x32, .i1⟩
  | 42 => ⟨S1022x1022x32, .f32⟩
  | 43 => ⟨S32x1022x256, .f32⟩
  | 44 => ⟨S4x128x32x1022, .f32⟩
  | 45 => ⟨S32x4x1022x128, .f32⟩
  | 46 => ⟨S1x4x1x128, .f32⟩
  | 47 => ⟨S32x4x1022x128, .f32⟩
  | 48 => ⟨S32x4x1022x128, .f32⟩
  | 49 => ⟨S32x4x1022x128, .f32⟩
  | 50 => ⟨S4x32x1022, .f32⟩
  | 51 => ⟨S32x4x1022, .f32⟩
  | 52 => ⟨S32x4x1022, .f32⟩
  | 53 => ⟨S_, .f32⟩
  | 54 => ⟨S32x4, .f32⟩
  | 55 => ⟨S32x4x1, .f32⟩
  | 56 => ⟨S32x4x1022, .f32⟩
  | 57 => ⟨S32x4x1022, .f32⟩
  | 58 => ⟨S32x4x256, .f32⟩
  | 59 => ⟨S32x1024, .f32⟩
  | 60 => ⟨S32x1024, .f32⟩
  | 61 => ⟨S_, .f32⟩
  | 62 => ⟨S32, .f32⟩
  | 63 => ⟨S32x1, .f32⟩
  | 64 => ⟨S32x1, .f32⟩
  | 65 => ⟨S_, .f32⟩
  | 66 => ⟨S32x1, .f32⟩
  | 67 => ⟨S32x1, .f32⟩
  | 68 => ⟨S32x1024, .f32⟩
  | 69 => ⟨S32x1024, .f32⟩
  | _ => ⟨S32x39x2048, .f32⟩

abbrev hbmTy (i : Nat) : BufTy := match i / 128 with
  | 0 => hbmTy0_0 i
  | 1 => hbmTy0_1 i
  | 2 => hbmTy0_2 i
  | _ => ⟨S32x39x2048, .f32⟩

abbrev bufTy : (tb : Table) → Fin (tcTables nBuf tb) → BufTy
  | .hbm, ⟨i, _⟩ => hbmTy i
  | _, _ => ⟨S32x39x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c : Ref sig .tc := ⟨.hbm, 57, rfl⟩
abbrev main_v40 : Ref sig .tc := ⟨.hbm, 58, rfl⟩
abbrev main_v41 : Ref sig .tc := ⟨.hbm, 59, rfl⟩
abbrev main_c_0 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_1 : Ref sig .tc := ⟨.hbm, 85, rfl⟩
abbrev main_v50 : Ref sig .tc := ⟨.hbm, 86, rfl⟩
abbrev main_c_2 : Ref sig .tc := ⟨.hbm, 87, rfl⟩
abbrev main_v51 : Ref sig .tc := ⟨.hbm, 88, rfl⟩
abbrev main_c_3 : Ref sig .tc := ⟨.hbm, 89, rfl⟩
abbrev main_v52 : Ref sig .tc := ⟨.hbm, 90, rfl⟩
abbrev main_cst_4 : Ref sig .tc := ⟨.hbm, 91, rfl⟩
abbrev main_v53 : Ref sig .tc := ⟨.hbm, 92, rfl⟩
abbrev main_c_5 : Ref sig .tc := ⟨.hbm, 93, rfl⟩
abbrev main_v54_0 : Ref sig .tc := ⟨.hbm, 94, rfl⟩
abbrev main_v54_1 : Ref sig .tc := ⟨.hbm, 95, rfl⟩
abbrev main_v54_2 : Ref sig .tc := ⟨.hbm, 96, rfl⟩
abbrev main_v54_3 : Ref sig .tc := ⟨.hbm, 97, rfl⟩
abbrev main_v54_4 : Ref sig .tc := ⟨.hbm, 98, rfl⟩
abbrev main_v54_5 : Ref sig .tc := ⟨.hbm, 99, rfl⟩
abbrev main_v54_6 : Ref sig .tc := ⟨.hbm, 100, rfl⟩
abbrev main_v54_7 : Ref sig .tc := ⟨.hbm, 101, rfl⟩
abbrev main_v54_8 : Ref sig .tc := ⟨.hbm, 102, rfl⟩
abbrev main_v54_9 : Ref sig .tc := ⟨.hbm, 103, rfl⟩
abbrev main_v54_10 : Ref sig .tc := ⟨.hbm, 104, rfl⟩
abbrev main_v54_11 : Ref sig .tc := ⟨.hbm, 105, rfl⟩
abbrev main_v54_12 : Ref sig .tc := ⟨.hbm, 106, rfl⟩
abbrev main_v54_13 : Ref sig .tc := ⟨.hbm, 107, rfl⟩
abbrev main_v54_14 : Ref sig .tc := ⟨.hbm, 108, rfl⟩
abbrev main_v54_15 : Ref sig .tc := ⟨.hbm, 109, rfl⟩
abbrev main_v54_16 : Ref sig .tc := ⟨.hbm, 110, rfl⟩
abbrev main_while0c_c_27 : Ref sig .tc := ⟨.hbm, 111, rfl⟩
abbrev main_while0c_v103 : Ref sig .tc := ⟨.hbm, 112, rfl⟩
abbrev main_while0b_call1_c : Ref sig .tc := ⟨.hbm, 113, rfl⟩
abbrev main_while0b_call1_c_0 : Ref sig .tc := ⟨.hbm, 114, rfl⟩
abbrev main_while0b_call1_v0 : Ref sig .tc := ⟨.hbm, 115, rfl⟩
abbrev main_while0b_v103 : Ref sig .tc := ⟨.hbm, 116, rfl⟩
abbrev main_while0b_call2_c : Ref sig .tc := ⟨.hbm, 117, rfl⟩
abbrev main_while0b_call2_v0 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_v112 : Ref sig .tc := ⟨.hbm, 127, rfl⟩
abbrev main_while0b_v113 : Ref sig .tc := ⟨.hbm, 128, rfl⟩
abbrev main_while0b_v114 : Ref sig .tc := ⟨.hbm, 129, rfl⟩
abbrev main_while0b_v115 : Ref sig .tc := ⟨.hbm, 130, rfl⟩
abbrev main_while0b_v116 : Ref sig .tc := ⟨.hbm, 131, rfl⟩
abbrev main_while0b_v117 : Ref sig .tc := ⟨.hbm, 132, rfl⟩
abbrev main_while0b_v118 : Ref sig .tc := ⟨.hbm, 133, rfl⟩
abbrev main_while0b_v119 : Ref sig .tc := ⟨.hbm, 134, rfl⟩
abbrev main_while0b_v120 : Ref sig .tc := ⟨.hbm, 135, rfl⟩
abbrev main_while0b_v121 : Ref sig .tc := ⟨.hbm, 136, rfl⟩
abbrev main_while0b_v122 : Ref sig .tc := ⟨.hbm, 137, rfl⟩
abbrev main_while0b_v123 : Ref sig .tc := ⟨.hbm, 138, rfl⟩
abbrev main_while0b_cst_27 : Ref sig .tc := ⟨.hbm, 139, rfl⟩
abbrev main_while0b_v124 : Ref sig .tc := ⟨.hbm, 140, rfl⟩
abbrev main_while0b_v125 : Ref sig .tc := ⟨.hbm, 141, rfl⟩
abbrev main_while0b_cst_28 : Ref sig .tc := ⟨.hbm, 142, rfl⟩
abbrev main_while0b_v126 : Ref sig .tc := ⟨.hbm, 143, rfl⟩
abbrev main_while0b_v127 : Ref sig .tc := ⟨.hbm, 144, rfl⟩
abbrev main_while0b_v128 : Ref sig .tc := ⟨.hbm, 145, rfl⟩
abbrev main_while0b_v129 : Ref sig .tc := ⟨.hbm, 146, rfl⟩
abbrev main_while0b_v130 : Ref sig .tc := ⟨.hbm, 147, rfl⟩
abbrev main_while0b_cst_29 : Ref sig .tc := ⟨.hbm, 148, rfl⟩
abbrev main_while0b_v131 : Ref sig .tc := ⟨.hbm, 149, rfl⟩
abbrev main_while0b_v132 : Ref sig .tc := ⟨.hbm, 150, rfl⟩
abbrev main_while0b_cst_30 : Ref sig .tc := ⟨.hbm, 151, rfl⟩
abbrev main_while0b_v133 : Ref sig .tc := ⟨.hbm, 152, rfl⟩
abbrev main_while0b_v134 : Ref sig .tc := ⟨.hbm, 153, rfl⟩
abbrev main_while0b_v135 : Ref sig .tc := ⟨.hbm, 154, rfl⟩
abbrev main_while0b_v136 : Ref sig .tc := ⟨.hbm, 155, rfl⟩
abbrev main_while0b_v137 : Ref sig .tc := ⟨.hbm, 156, rfl⟩
abbrev main_while0b_cst_31 : Ref sig .tc := ⟨.hbm, 157, rfl⟩
abbrev main_while0b_v138 : Ref sig .tc := ⟨.hbm, 158, rfl⟩
abbrev main_while0b_v139 : Ref sig .tc := ⟨.hbm, 159, rfl⟩
abbrev main_while0b_v140 : Ref sig .tc := ⟨.hbm, 160, rfl⟩
abbrev main_while0b_v141 : Ref sig .tc := ⟨.hbm, 161, rfl⟩
abbrev main_while0b_v142 : Ref sig .tc := ⟨.hbm, 162, rfl⟩
abbrev main_while0b_v143 : Ref sig .tc := ⟨.hbm, 163, rfl⟩
abbrev main_while0b_v144 : Ref sig .tc := ⟨.hbm, 164, rfl⟩
abbrev main_while0b_v145 : Ref sig .tc := ⟨.hbm, 165, rfl⟩
abbrev main_while0b_v146 : Ref sig .tc := ⟨.hbm, 166, rfl⟩
abbrev main_while0b_cst_32 : Ref sig .tc := ⟨.hbm, 167, rfl⟩
abbrev main_while0b_v147 : Ref sig .tc := ⟨.hbm, 168, rfl⟩
abbrev main_while0b_v148 : Ref sig .tc := ⟨.hbm, 169, rfl⟩
abbrev main_while0b_v149 : Ref sig .tc := ⟨.hbm, 170, rfl⟩
abbrev main_while0b_v150 : Ref sig .tc := ⟨.hbm, 171, rfl⟩
abbrev main_while0b_cst_33 : Ref sig .tc := ⟨.hbm, 172, rfl⟩
abbrev main_while0b_v151 : Ref sig .tc := ⟨.hbm, 173, rfl⟩
abbrev main_while0b_v152 : Ref sig .tc := ⟨.hbm, 174, rfl⟩
abbrev main_while0b_v153 : Ref sig .tc := ⟨.hbm, 175, rfl⟩
abbrev main_while0b_v154 : Ref sig .tc := ⟨.hbm, 176, rfl⟩
abbrev main_while0b_v155 : Ref sig .tc := ⟨.hbm, 177, rfl⟩
abbrev main_while0b_cst_34 : Ref sig .tc := ⟨.hbm, 178, rfl⟩
abbrev main_while0b_v156 : Ref sig .tc := ⟨.hbm, 179, rfl⟩
abbrev main_while0b_v157 : Ref sig .tc := ⟨.hbm, 180, rfl⟩
abbrev main_while0b_v158 : Ref sig .tc := ⟨.hbm, 181, rfl⟩
abbrev main_while0b_v159 : Ref sig .tc := ⟨.hbm, 182, rfl⟩
abbrev main_while0b_cst_35 : Ref sig .tc := ⟨.hbm, 183, rfl⟩
abbrev main_while0b_v160 : Ref sig .tc := ⟨.hbm, 184, rfl⟩
abbrev main_while0b_v161 : Ref sig .tc := ⟨.hbm, 185, rfl⟩
abbrev main_while0b_v162 : Ref sig .tc := ⟨.hbm, 186, rfl⟩
abbrev main_while0b_v163 : Ref sig .tc := ⟨.hbm, 187, rfl⟩
abbrev main_while0b_v164 : Ref sig .tc := ⟨.hbm, 188, rfl⟩
abbrev main_while0b_v165 : Ref sig .tc := ⟨.hbm, 189, rfl⟩
abbrev main_while0b_c_36 : Ref sig .tc := ⟨.hbm, 190, rfl⟩
abbrev main_while0b_call3_v0 : Ref sig .tc := ⟨.hbm, 191, rfl⟩
abbrev main_while0b_call3_v1 : Ref sig .tc := ⟨.hbm, 192, rfl⟩
abbrev main_while0b_call3_v2 : Ref sig .tc := ⟨.hbm, 193, rfl⟩
abbrev main_while0b_v166 : Ref sig .tc := ⟨.hbm, 194, rfl⟩
abbrev main_while0b_c_37 : Ref sig .tc := ⟨.hbm, 195, rfl⟩
abbrev main_while0b_v167 : Ref sig .tc := ⟨.hbm, 196, rfl⟩
abbrev main_while0b_c_38 : Ref sig .tc := ⟨.hbm, 197, rfl⟩
abbrev main_while0b_v168 : Ref sig .tc := ⟨.hbm, 198, rfl⟩
abbrev main_while0b_v169 : Ref sig .tc := ⟨.hbm, 199, rfl⟩
abbrev main_while0b_c_39 : Ref sig .tc := ⟨.hbm, 200, rfl⟩
abbrev main_while0b_v170 : Ref sig .tc := ⟨.hbm, 201, rfl⟩
abbrev main_while0b_v171 : Ref sig .tc := ⟨.hbm, 202, rfl⟩
abbrev main_while0b_v172 : Ref sig .tc := ⟨.hbm, 203, rfl⟩
abbrev main_while0b_v173 : Ref sig .tc := ⟨.hbm, 204, rfl⟩
abbrev main_while0b_v174 : Ref sig .tc := ⟨.hbm, 205, rfl⟩
abbrev main_while0b_v175 : Ref sig .tc := ⟨.hbm, 206, rfl⟩
abbrev main_while0b_v176 : Ref sig .tc := ⟨.hbm, 207, rfl⟩
abbrev main_while0b_v177 : Ref sig .tc := ⟨.hbm, 208, rfl⟩
abbrev main_while0b_v178 : Ref sig .tc := ⟨.hbm, 209, rfl⟩
abbrev main_while0b_v179 : Ref sig .tc := ⟨.hbm, 210, rfl⟩
abbrev main_while0b_v180 : Ref sig .tc := ⟨.hbm, 211, rfl⟩
abbrev main_while0b_v181 : Ref sig .tc := ⟨.hbm, 212, rfl⟩
abbrev main_while0b_v182 : Ref sig .tc := ⟨.hbm, 213, rfl⟩
abbrev main_while0b_v183 : Ref sig .tc := ⟨.hbm, 214, rfl⟩
abbrev main_while0b_v184 : Ref sig .tc := ⟨.hbm, 215, rfl⟩
abbrev main_while0b_v185 : Ref sig .tc := ⟨.hbm, 216, rfl⟩
abbrev main_while0b_v186 : Ref sig .tc := ⟨.hbm, 217, rfl⟩
abbrev main_while0b_v187 : Ref sig .tc := ⟨.hbm, 218, rfl⟩
abbrev main_while0b_v188 : Ref sig .tc := ⟨.hbm, 219, rfl⟩
abbrev main_while0b_v189 : Ref sig .tc := ⟨.hbm, 220, rfl⟩
abbrev main_while0b_v190 : Ref sig .tc := ⟨.hbm, 221, rfl⟩
abbrev main_while0b_v191 : Ref sig .tc := ⟨.hbm, 222, rfl⟩
abbrev main_while0b_v192 : Ref sig .tc := ⟨.hbm, 223, rfl⟩
abbrev main_while0b_v193 : Ref sig .tc := ⟨.hbm, 224, rfl⟩
abbrev main_while0b_v194 : Ref sig .tc := ⟨.hbm, 225, rfl⟩
abbrev main_while0b_v195 : Ref sig .tc := ⟨.hbm, 226, rfl⟩
abbrev main_while0b_v196 : Ref sig .tc := ⟨.hbm, 227, rfl⟩
abbrev main_while0b_v197 : Ref sig .tc := ⟨.hbm, 228, rfl⟩
abbrev main_while0b_v198 : Ref sig .tc := ⟨.hbm, 229, rfl⟩
abbrev main_while0b_v199 : Ref sig .tc := ⟨.hbm, 230, rfl⟩
abbrev main_while0b_v200 : Ref sig .tc := ⟨.hbm, 231, rfl⟩
abbrev main_while0b_cst_40 : Ref sig .tc := ⟨.hbm, 232, rfl⟩
abbrev main_while0b_v201 : Ref sig .tc := ⟨.hbm, 233, rfl⟩
abbrev main_while0b_v202 : Ref sig .tc := ⟨.hbm, 234, rfl⟩
abbrev main_while0b_cst_41 : Ref sig .tc := ⟨.hbm, 235, rfl⟩
abbrev main_while0b_v203 : Ref sig .tc := ⟨.hbm, 236, rfl⟩
abbrev main_while0b_v204 : Ref sig .tc := ⟨.hbm, 237, rfl⟩
abbrev main_while0b_v205 : Ref sig .tc := ⟨.hbm, 238, rfl⟩
abbrev main_while0b_v206 : Ref sig .tc := ⟨.hbm, 239, rfl⟩
abbrev main_while0b_v207 : Ref sig .tc := ⟨.hbm, 240, rfl⟩
abbrev main_while0b_cst_42 : Ref sig .tc := ⟨.hbm, 241, rfl⟩
abbrev main_while0b_v208 : Ref sig .tc := ⟨.hbm, 242, rfl⟩
abbrev main_while0b_v209 : Ref sig .tc := ⟨.hbm, 243, rfl⟩
abbrev main_while0b_cst_43 : Ref sig .tc := ⟨.hbm, 244, rfl⟩
abbrev main_while0b_v210 : Ref sig .tc := ⟨.hbm, 245, rfl⟩
abbrev main_while0b_v211 : Ref sig .tc := ⟨.hbm, 246, rfl⟩
abbrev main_while0b_v212 : Ref sig .tc := ⟨.hbm, 247, rfl⟩
abbrev main_while0b_v213 : Ref sig .tc := ⟨.hbm, 248, rfl⟩
abbrev main_while0b_v214 : Ref sig .tc := ⟨.hbm, 249, rfl⟩
abbrev main_while0b_cst_44 : Ref sig .tc := ⟨.hbm, 250, rfl⟩
abbrev main_while0b_v215 : Ref sig .tc := ⟨.hbm, 251, rfl⟩
abbrev main_while0b_v216 : Ref sig .tc := ⟨.hbm, 252, rfl⟩
abbrev main_while0b_v217 : Ref sig .tc := ⟨.hbm, 253, rfl⟩
abbrev main_while0b_v218 : Ref sig .tc := ⟨.hbm, 254, rfl⟩
abbrev main_while0b_v219 : Ref sig .tc := ⟨.hbm, 255, rfl⟩
abbrev main_while0b_call4_v0 : Ref sig .tc := ⟨.hbm, 256, rfl⟩
abbrev main_while0b_call4_c : Ref sig .tc := ⟨.hbm, 257, rfl⟩
abbrev main_while0b_v220 : Ref sig .tc := ⟨.hbm, 258, rfl⟩
abbrev main_while0b_call5_v0 : Ref sig .tc := ⟨.hbm, 259, rfl⟩
abbrev main_while0b_call5_c : Ref sig .tc := ⟨.hbm, 260, rfl⟩
abbrev main_while0b_call5_c_0 : Ref sig .tc := ⟨.hbm, 261, rfl⟩
abbrev main_while0b_v221 : Ref sig .tc := ⟨.hbm, 262, rfl⟩
abbrev main_while0b_c_45 : Ref sig .tc := ⟨.hbm, 263, rfl⟩
abbrev main_while0b_v222 : Ref sig .tc := ⟨.hbm, 264, rfl⟩
abbrev main_v55 : Ref sig .tc := ⟨.hbm, 265, rfl⟩
abbrev main_v56 : Ref sig .tc := ⟨.hbm, 266, rfl⟩
abbrev main_v57 : Ref sig .tc := ⟨.hbm, 267, rfl⟩
abbrev main_c_6 : Ref sig .tc := ⟨.hbm, 268, rfl⟩
abbrev main_v58 : Ref sig .tc := ⟨.hbm, 269, rfl⟩
abbrev main_v59 : Ref sig .tc := ⟨.hbm, 270, rfl⟩
abbrev main_v60 : Ref sig .tc := ⟨.hbm, 271, rfl⟩
abbrev main_v61 : Ref sig .tc := ⟨.hbm, 272, rfl⟩
abbrev main_v62 : Ref sig .tc := ⟨.hbm, 273, rfl⟩
abbrev main_v63 : Ref sig .tc := ⟨.hbm, 274, rfl⟩
abbrev main_v64 : Ref sig .tc := ⟨.hbm, 275, rfl⟩
abbrev main_v65 : Ref sig .tc := ⟨.hbm, 276, rfl⟩
abbrev main_v66 : Ref sig .tc := ⟨.hbm, 277, rfl⟩
abbrev main_v67 : Ref sig .tc := ⟨.hbm, 278, rfl⟩
abbrev main_v68 : Ref sig .tc := ⟨.hbm, 279, rfl⟩
abbrev main_v69 : Ref sig .tc := ⟨.hbm, 280, rfl⟩
abbrev main_c_7 : Ref sig .tc := ⟨.hbm, 281, rfl⟩
abbrev main_call6_v0 : Ref sig .tc := ⟨.hbm, 282, rfl⟩
abbrev main_call6_v1 : Ref sig .tc := ⟨.hbm, 283, rfl⟩
abbrev main_call6_v2 : Ref sig .tc := ⟨.hbm, 284, rfl⟩
abbrev main_call6_v3 : Ref sig .tc := ⟨.hbm, 285, rfl⟩
abbrev main_v70 : Ref sig .tc := ⟨.hbm, 286, rfl⟩
abbrev main_c_8 : Ref sig .tc := ⟨.hbm, 287, rfl⟩
abbrev main_v71 : Ref sig .tc := ⟨.hbm, 288, rfl⟩
abbrev main_v72 : Ref sig .tc := ⟨.hbm, 289, rfl⟩
abbrev main_v73 : Ref sig .tc := ⟨.hbm, 290, rfl⟩
abbrev main_v74 : Ref sig .tc := ⟨.hbm, 291, rfl⟩
abbrev main_v75 : Ref sig .tc := ⟨.hbm, 292, rfl⟩
abbrev main_v76 : Ref sig .tc := ⟨.hbm, 293, rfl⟩
abbrev main_v77 : Ref sig .tc := ⟨.hbm, 294, rfl⟩
abbrev main_v78 : Ref sig .tc := ⟨.hbm, 295, rfl⟩
abbrev main_v79 : Ref sig .tc := ⟨.hbm, 296, rfl⟩
abbrev main_v80 : Ref sig .tc := ⟨.hbm, 297, rfl⟩
abbrev main_v81 : Ref sig .tc := ⟨.hbm, 298, rfl⟩
abbrev main_v82 : Ref sig .tc := ⟨.hbm, 299, rfl⟩
abbrev main_v83 : Ref sig .tc := ⟨.hbm, 300, rfl⟩
abbrev main_v84 : Ref sig .tc := ⟨.hbm, 301, rfl⟩
abbrev main_v85 : Ref sig .tc := ⟨.hbm, 302, rfl⟩
abbrev main_v86 : Ref sig .tc := ⟨.hbm, 303, rfl⟩
abbrev main_v87 : Ref sig .tc := ⟨.hbm, 304, rfl⟩
abbrev main_v88 : Ref sig .tc := ⟨.hbm, 305, rfl⟩
abbrev main_v89 : Ref sig .tc := ⟨.hbm, 306, rfl⟩
abbrev main_v90 : Ref sig .tc := ⟨.hbm, 307, rfl⟩
abbrev main_v91 : Ref sig .tc := ⟨.hbm, 308, rfl⟩
abbrev main_cst_9 : Ref sig .tc := ⟨.hbm, 309, rfl⟩
abbrev main_v92 : Ref sig .tc := ⟨.hbm, 310, rfl⟩
abbrev main_v93 : Ref sig .tc := ⟨.hbm, 311, rfl⟩
abbrev main_v94 : Ref sig .tc := ⟨.hbm, 312, rfl⟩
abbrev main_v95 : Ref sig .tc := ⟨.hbm, 313, rfl⟩
abbrev main_v96 : Ref sig .tc := ⟨.hbm, 314, rfl⟩
abbrev main_v97 : Ref sig .tc := ⟨.hbm, 315, rfl⟩
abbrev main_call7_v0 : Ref sig .tc := ⟨.hbm, 316, rfl⟩
abbrev main_call7_cst : Ref sig .tc := ⟨.hbm, 317, rfl⟩
abbrev main_call7_v1 : Ref sig .tc := ⟨.hbm, 318, rfl⟩
abbrev main_call7_v2 : Ref sig .tc := ⟨.hbm, 319, rfl⟩
abbrev main_v98 : Ref sig .tc := ⟨.hbm, 320, rfl⟩
abbrev main_cst_10 : Ref sig .tc := ⟨.hbm, 321, rfl⟩
abbrev main_v99 : Ref sig .tc := ⟨.hbm, 322, rfl⟩
abbrev main_v100 : Ref sig .tc := ⟨.hbm, 323, rfl⟩
abbrev main_v101 : Ref sig .tc := ⟨.hbm, 324, rfl⟩
abbrev main_v102 : Ref sig .tc := ⟨.hbm, 325, rfl⟩

abbrev nD : Nat := 1
abbrev τ : Topo := Topo.v7x

variable {F : FTy → Type} [FloatOps F]

abbrev main_while0_count : Scf.Loop 32 := ⟨0#32, 1022#32, 1#32⟩
-- ==== Proof.KernelIdealBody.lean ====
/- The frame of the kernel `KernelIdeal`, by hand: the kernel's body run once at an arbitrary grid point, at any value instance.
   The body keeps state in seventeen scratch buffers that hold nothing yet when the first point starts, so the invariant here says
   only that the buffers are owned; the body's inputs come back as they were, the output block and the scratch at some contents. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four places where the body asks which grid point it is at: the first, the second, any from the third on, the last. -/
abbrev atFirst (i : grid0.Coords) : Prop := Scalar.cmpi .ne (Scalar.extui (Scalar.cmpi .eq (BitVec.ofNat 32 (i 0).val) 0#32)) 0#32 = 1#1
abbrev atSecond (i : grid0.Coords) : Prop := Scalar.cmpi .ne (Scalar.extui (Scalar.cmpi .eq (BitVec.ofNat 32 (i 0).val) 1#32)) 0#32 = 1#1
abbrev fromThird (i : grid0.Coords) : Prop := Scalar.cmpi .ne (Scalar.extui (Scalar.cmpi .sge (BitVec.ofNat 32 (i 0).val) 2#32)) 0#32 = 1#1
abbrev atLast (i : grid0.Coords) : Prop := k0_cond4 i = 1#1

/-- Which of the four hold, point by point: the points fall into the first, the second, those between, and the last. -/
theorem point_cases : ∀ i : grid0.Coords,
    (atFirst i ∧ ¬atSecond i ∧ ¬fromThird i ∧ ¬atLast i) ∨ (¬atFirst i ∧ atSecond i ∧ ¬fromThird i ∧ ¬atLast i)
      ∨ (¬atFirst i ∧ ¬atSecond i ∧ fromThird i ∧ ¬atLast i) ∨ (¬atFirst i ∧ ¬atSecond i ∧ fromThird i ∧ atLast i) := by
  decide

set_option maxHeartbeats 40000000 in
/-- The body at any point: from its inputs at any contents and its output block and scratch owned, it runs to its return, the inputs
    as they were. -/
theorem kernel_run (c : Dev nD) (i : grid0.Coords)
    (arg1 : Memref sig .tc .vmem S32x1 .i32) (harg1 : arg1.IsWhole)
    (arg2 : Memref sig .tc .vmem S64x32x128 .f32) (harg2 : arg2.IsWhole)
    (arg3 : Memref sig .tc .vmem S64x32x128 .f32) (harg3 : arg3.IsWhole)
    (arg4 : Memref sig .tc .vmem S64x32x128 .f32) (harg4 : arg4.IsWhole)
    (arg5 : Memref sig .tc .vmem S128x256 .f32) (harg5 : arg5.IsWhole)
    (arg6 : Memref sig .tc .vmem S128x256 .f32) (harg6 : arg6.IsWhole)
    (arg7 : Memref sig .tc .vmem S128x256 .f32) (harg7 : arg7.IsWhole)
    (arg8 : Memref sig .tc .vmem S1x256 .f32) (harg8 : arg8.IsWhole)
    (arg9 : Memref sig .tc .vmem S256x768 .f32) (harg9 : arg9.IsWhole)
    (arg10 : Memref sig .tc .vmem S1x768 .f32) (harg10 : arg10.IsWhole)
    (arg11 : Memref sig .tc .vmem S256x768 .f32) (harg11 : arg11.IsWhole)
    (arg12 : Memref sig .tc .vmem S1x768 .f32) (harg12 : arg12.IsWhole)
    (arg13 : Memref sig .tc .vmem S1024x256 .f32) (harg13 : arg13.IsWhole)
    (arg14 : Memref sig .tc .vmem S256x1024 .f32) (harg14 : arg14.IsWhole)
    (arg15 : Memref sig .tc .vmem S256x768 .f32) (harg15 : arg15.IsWhole)
    (arg16 : Memref sig .tc .vmem S1x768 .f32) (harg16 : arg16.IsWhole)
    (arg17 : Memref sig .tc .vmem S256x768 .f32) (harg17 : arg17.IsWhole)
    (arg18 : Memref sig .tc .vmem S1x768 .f32) (harg18 : arg18.IsWhole)
    (arg19 : Memref sig .tc .vmem S256x512 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S32x1024 .f32) (harg22 : arg22.IsWhole)
    (arg23 : Memref sig .tc .vmem S32x256 .f32) (harg23 : arg23.IsWhole)
    (arg24 : Memref sig .tc .vmem S32x256 .f32) (harg24 : arg24.IsWhole)
    (arg25 : Memref sig .tc .vmem S8x32 .i32) (harg25 : arg25.IsWhole)
    (arg26 : Memref sig .tc .vmem S64x32x768 .f32) (harg26 : arg26.IsWhole)
    (arg27 : Memref sig .tc .vmem S64x32x768 .f32) (harg27 : arg27.IsWhole)
    (arg28 : Memref sig .tc .vmem S64x32x256 .f32) (harg28 : arg28.IsWhole)
    (arg29 : Memref sig .tc .vmem S64x32x256 .f32) (harg29 : arg29.IsWhole)
    (arg30 : Memref sig .tc .vmem S64x32x256 .f32) (harg30 : arg30.IsWhole)
    (arg31 : Memref sig .tc .vmem S64x32 .i32) (harg31 : arg31.IsWhole)
    (arg32 : Memref sig .tc .vmem S32x256 .f32) (harg32 : arg32.IsWhole)
    (arg33 : Memref sig .tc .vmem S32x256 .f32) (harg33 : arg33.IsWhole)
    (arg34 : Memref sig .tc .vmem S32x256 .f32) (harg34 : arg34.IsWhole)
    (arg35 : Memref sig .tc .vmem S32x256 .f32) (harg35 : arg35.IsWhole)
    (arg36 : Memref sig .tc .vmem S8x32 .f32) (harg36 : arg36.IsWhole)
    (arg37 : Memref sig .tc .vmem S8x32 .f32) (harg37 : arg37.IsWhole)
    (arg38 : Memref sig .tc .vmem S32x256 .f32) (harg38 : arg38.IsWhole)
    (arg39 : Memref sig .tc .vmem S8x1024 .f32) (harg39 : arg39.IsWhole)
    (x1 : S32x1.Idx → Elt F .i32) (x2 : S64x32x128.Idx → Elt F .f32) (x3 : S64x32x128.Idx → Elt F .f32) (x4 : S64x32x128.Idx → Elt F .f32)
    (x5 : S128x256.Idx → Elt F .f32) (x6 : S128x256.Idx → Elt F .f32) (x7 : S128x256.Idx → Elt F .f32) (x8 : S1x256.Idx → Elt F .f32)
    (x9 : S256x768.Idx → Elt F .f32) (x10 : S1x768.Idx → Elt F .f32) (x11 : S256x768.Idx → Elt F .f32) (x12 : S1x768.Idx → Elt F .f32)
    (x13 : S1024x256.Idx → Elt F .f32) (x14 : S256x1024.Idx → Elt F .f32) (x15 : S256x768.Idx → Elt F .f32) (x16 : S1x768.Idx → Elt F .f32)
    (x17 : S256x768.Idx → Elt F .f32) (x18 : S1x768.Idx → Elt F .f32) (x19 : S256x512.Idx → Elt F .f32) (x20 : S1x512.Idx → Elt F .f32)
    (x21 : S1x512.Idx → Elt F .f32)
    (K : PUnit → sProp 𝕄) :
    iprop(owns (c : Thread nD τ) arg1 fullShare x1 ∗ owns (c : Thread nD τ) arg2 fullShare x2 ∗ owns (c : Thread nD τ) arg3 fullShare x3 ∗
        owns (c : Thread nD τ) arg4 fullShare x4 ∗ owns (c : Thread nD τ) arg5 fullShare x5 ∗ owns (c : Thread nD τ) arg6 fullShare x6 ∗
        owns (c : Thread nD τ) arg7 fullShare x7 ∗ owns (c : Thread nD τ) arg8 fullShare x8 ∗ owns (c : Thread nD τ) arg9 fullShare x9 ∗
        owns (c : Thread nD τ) arg10 fullShare x10 ∗ owns (c : Thread nD τ) arg11 fullShare x11 ∗ owns (c : Thread nD τ) arg12 fullShare x12 ∗
        owns (c : Thread nD τ) arg13 fullShare x13 ∗ owns (c : Thread nD τ) arg14 fullShare x14 ∗ owns (c : Thread nD τ) arg15 fullShare x15 ∗
        owns (c : Thread nD τ) arg16 fullShare x16 ∗ owns (c : Thread nD τ) arg17 fullShare x17 ∗ owns (c : Thread nD τ) arg18 fullShare x18 ∗
        owns (c : Thread nD τ) arg19 fullShare x19 ∗ owns (c : Thread nD τ) arg20 fullShare x20 ∗ owns (c : Thread nD τ) arg21 fullShare x21 ∗
        (∃ d, owns (c : Thread nD τ) arg22 fullShare d) ∗ (∃ d, owns (c : Thread nD τ) arg23 fullShare d) ∗ (∃ d, owns (c : Thread nD τ) arg24 fullShare d) ∗
        (∃ d, owns (c : Thread nD τ) arg25 fullShare d) ∗ (∃ d, owns (c : Thread nD τ) arg26 fullShare d) ∗ (∃ d, owns (c : Thread nD τ) arg27 fullShare d) ∗
        (∃ d, owns (c : Thread nD τ) arg28 fullShare d) ∗ (∃ d, owns (c : Thread nD τ) arg29 fullShare d) ∗ (∃ d, owns (c : Thread nD τ) arg30 fullShare d) ∗
        (∃ d, owns (c : Thread nD τ) arg31 fullShare d) ∗ (∃ d, owns (c : Thread nD τ) arg32 fullShare d) ∗ (∃ d, owns (c : Thread nD τ) arg33 fullShare d) ∗
        (∃ d, owns (c : Thread nD τ) arg34 fullShare d) ∗ (∃ d, owns (c : Thread nD τ) arg35 fullShare d) ∗ (∃ d, owns (c : Thread nD τ) arg36 fullShare d) ∗
        (∃ d, owns (c : Thread nD τ) arg37 fullShare d) ∗ (∃ d, owns (c : Thread nD τ) arg38 fullShare d) ∗ (∃ d, owns (c : Thread nD τ) arg39 fullShare d)
      ∗ (iprop(owns (c : Thread nD τ) arg1 fullShare x1 ∗ owns (c : Thread nD τ) arg2 fullShare x2 ∗ owns (c : Thread nD τ) arg3 fullShare x3 ∗
        owns (c : Thread nD τ) arg4 fullShare x4 ∗ owns (c : Thread nD τ) arg5 fullShare x5 ∗ owns (c : Thread nD τ) arg6 fullShare x6 ∗
        owns (c : Thread nD τ) arg7 fullShare x7 ∗ owns (c : Thread nD τ) arg8 fullShare x8 ∗ owns (c : Thread nD τ) arg9 fullShare x9 ∗
        owns (c : Thread nD τ) arg10 fullShare x10 ∗ owns (c : Thread nD τ) arg11 fullShare x11 ∗ owns (c : Thread nD τ) arg12 fullShare x12 ∗
        owns (c : Thread nD τ) arg13 fullShare x13 ∗ owns (c : Thread nD τ) arg14 fullShare x14 ∗ owns (c : Thread nD τ) arg15 fullShare x15 ∗
        owns (c : Thread nD τ) arg16 fullShare x16 ∗ owns (c : Thread nD τ) arg17 fullShare x17 ∗ owns (c : Thread nD τ) arg18 fullShare x18 ∗
        owns (c : Thread nD τ) arg19 fullShare x19 ∗ owns (c : Thread nD τ) arg20 fullShare x20 ∗ owns (c : Thread nD τ) arg21 fullShare x21 ∗
        (∃ d, owns (c : Thread nD τ) arg22 fullShare d) ∗ (∃ d, owns (c : Thread nD τ) arg23 fullShare d) ∗ (∃ d, owns (c : Thread nD τ) arg24 fullShare d) ∗
        (∃ d, owns (c : Thread nD τ) arg25 fullShare d) ∗ (∃ d, owns (c : Thread nD τ) arg26 fullShare d) ∗ (∃ d, owns (c : Thread nD τ) arg27 fullShare d) ∗
        (∃ d, owns (c : Thread nD τ) arg28 fullShare d) ∗ (∃ d, owns (c : Thread nD τ) arg29 fullShare d) ∗ (∃ d, owns (c : Thread nD τ) arg30 fullShare d) ∗
        (∃ d, owns (c : Thread nD τ) arg31 fullShare d) ∗ (∃ d, owns (c : Thread nD τ) arg32 fullShare d) ∗ (∃ d, owns (c : Thread nD τ) arg33 fullShare d) ∗
        (∃ d, owns (c : Thread nD τ) arg34 fullShare d) ∗ (∃ d, owns (c : Thread nD τ) arg35 fullShare d) ∗ (∃ d, owns (c : Thread nD τ) arg36 fullShare d) ∗
        (∃ d, owns (c : Thread nD τ) arg37 fullShare d) ∗ (∃ d, owns (c : Thread nD τ) arg38 fullShare d) ∗ (∃ d, owns (c : Thread nD τ) arg39 fullShare d)) -∗ K ⟨⟩))
      ⊢ wp frame (wpE (defs₀ (F := F)) Variants.none c none) Set.univ (cc0__fused i
        arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0__fused_eq_skeleton]; unfold cc0__fused_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, Hk⟩
  obtain ⟨h1, h2, h3, h4⟩ | ⟨h1, h2, h3, h4⟩ | ⟨h1, h2, h3, h4⟩ | ⟨h1, h2, h3, h4⟩ := point_cases i
  all_goals
    sl_exec
    sl_step
    iapply Hk
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact hf10
      iexact H10
    isplitl [H11]
    · iexists _; isplitr
      · ipureintro; exact hf11
      iexact H11
    isplitl [H12]
    · iexists _; isplitr
      · ipureintro; exact hf12
      iexact H12
    isplitl [H13]
    · iexists _; isplitr
      · ipureintro; exact hf13
      iexact H13
    isplitl [H14]
    · iexists _; isplitr
      · ipureintro; exact hf14
      iexact H14
    isplitl [H15]
    · iexists _; isplitr
      · ipureintro; exact hf15
      iexact H15
    isplitl [H16]
    · iexists _; isplitr
      · ipureintro; exact hf16
      iexact H16
    isplitl [H17]
    · iexists _; isplitr
      · ipureintro; exact hf17
      iexact H17
    isplitl [H18]
    · iexists _; isplitr
      · ipureintro; exact hf18
      iexact H18
    isplitl [H19]
    · iexists _; isplitr
      · ipureintro; exact hf19
      iexact H19
    isplitl [H20]
    · iexists _; isplitr
      · ipureintro; exact hf20
      iexact H20
    isplitl [H21]
    · iexists _; isplitr
      · ipureintro; exact hf21
      iexact H21
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _, _; isplitr; swap; · iexact H35
      ipureintro; rfl
    isplitl [H36]
    · iexists _, _; isplitr; swap; · iexact H36
      ipureintro; rfl
    isplitl [H37]
    · iexists _, _; isplitr; swap; · iexact H37
      ipureintro; rfl
    isplitl [H38]
    · iexists _, _; isplitr; swap; · iexact H38
      ipureintro; rfl
    iexists _, _; isplitr; swap; · iexact H39
    ipureintro; rfl

end Cert.KernelIdeal.Hand

end
-- ==== Proof.KernelIdealFrame.lean ====
/- The frame of the kernel `KernelIdeal`, by hand: the launch. The invariant between points is the library's plain one (the scratch owned at
   some contents); the output window is forgotten; every input window is handed back as found. -/
module

public import proofs.«01_k».proof.Proof.KernelIdealBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each window's staging buffer at a point, and the scratch buffers -/

abbrev ms0 (t : Fin cfg0.N) := win0_0.stage (cfg0.slots t 0)
theorem hs0 (t : Fin cfg0.N) : (ms0 t).IsWhole := hstage0_0 ((cfg0.slots t 0).cast nbuf0_0)
abbrev ms1 (t : Fin cfg0.N) := win0_1.stage (cfg0.slots t 1)
theorem hs1 (t : Fin cfg0.N) : (ms1 t).IsWhole := hstage0_1 ((cfg0.slots t 1).cast nbuf0_1)
abbrev ms2 (t : Fin cfg0.N) := win0_2.stage (cfg0.slots t 2)
theorem hs2 (t : Fin cfg0.N) : (ms2 t).IsWhole := hstage0_2 ((cfg0.slots t 2).cast nbuf0_2)
abbrev ms3 (t : Fin cfg0.N) := win0_3.stage (cfg0.slots t 3)
theorem hs3 (t : Fin cfg0.N) : (ms3 t).IsWhole := hstage0_3 ((cfg0.slots t 3).cast nbuf0_3)
abbrev ms4 (t : Fin cfg0.N) := win0_4.stage (cfg0.slots t 4)
theorem hs4 (t : Fin cfg0.N) : (ms4 t).IsWhole := hstage0_4 ((cfg0.slots t 4).cast nbuf0_4)
abbrev ms5 (t : Fin cfg0.N) := win0_5.stage (cfg0.slots t 5)
theorem hs5 (t : Fin cfg0.N) : (ms5 t).IsWhole := hstage0_5 ((cfg0.slots t 5).cast nbuf0_5)
abbrev ms6 (t : Fin cfg0.N) := win0_6.stage (cfg0.slots t 6)
theorem hs6 (t : Fin cfg0.N) : (ms6 t).IsWhole := hstage0_6 ((cfg0.slots t 6).cast nbuf0_6)
abbrev ms7 (t : Fin cfg0.N) := win0_7.stage (cfg0.slots t 7)
theorem hs7 (t : Fin cfg0.N) : (ms7 t).IsWhole := hstage0_7 ((cfg0.slots t 7).cast nbuf0_7)
abbrev ms8 (t : Fin cfg0.N) := win0_8.stage (cfg0.slots t 8)
theorem hs8 (t : Fin cfg0.N) : (ms8 t).IsWhole := hstage0_8 ((cfg0.slots t 8).cast nbuf0_8)
abbrev ms9 (t : Fin cfg0.N) := win0_9.stage (cfg0.slots t 9)
theorem hs9 (t : Fin cfg0.N) : (ms9 t).IsWhole := hstage0_9 ((cfg0.slots t 9).cast nbuf0_9)
abbrev ms10 (t : Fin cfg0.N) := win0_10.stage (cfg0.slots t 10)
theorem hs10 (t : Fin cfg0.N) : (ms10 t).IsWhole := hstage0_10 ((cfg0.slots t 10).cast nbuf0_10)
abbrev ms11 (t : Fin cfg0.N) := win0_11.stage (cfg0.slots t 11)
theorem hs11 (t : Fin cfg0.N) : (ms11 t).IsWhole := hstage0_11 ((cfg0.slots t 11).cast nbuf0_11)
abbrev ms12 (t : Fin cfg0.N) := win0_12.stage (cfg0.slots t 12)
theorem hs12 (t : Fin cfg0.N) : (ms12 t).IsWhole := hstage0_12 ((cfg0.slots t 12).cast nbuf0_12)
abbrev ms13 (t : Fin cfg0.N) := win0_13.stage (cfg0.slots t 13)
theorem hs13 (t : Fin cfg0.N) : (ms13 t).IsWhole := hstage0_13 ((cfg0.slots t 13).cast nbuf0_13)
abbrev ms14 (t : Fin cfg0.N) := win0_14.stage (cfg0.slots t 14)
theorem hs14 (t : Fin cfg0.N) : (ms14 t).IsWhole := hstage0_14 ((cfg0.slots t 14).cast nbuf0_14)
abbrev ms15 (t : Fin cfg0.N) := win0_15.stage (cfg0.slots t 15)
theorem hs15 (t : Fin cfg0.N) : (ms15 t).IsWhole := hstage0_15 ((cfg0.slots t 15).cast nbuf0_15)
abbrev ms16 (t : Fin cfg0.N) := win0_16.stage (cfg0.slots t 16)
theorem hs16 (t : Fin cfg0.N) : (ms16 t).IsWhole := hstage0_16 ((cfg0.slots t 16).cast nbuf0_16)
abbrev ms17 (t : Fin cfg0.N) := win0_17.stage (cfg0.slots t 17)
theorem hs17 (t : Fin cfg0.N) : (ms17 t).IsWhole := hstage0_17 ((cfg0.slots t 17).cast nbuf0_17)
abbrev ms18 (t : Fin cfg0.N) := win0_18.stage (cfg0.slots t 18)
theorem hs18 (t : Fin cfg0.N) : (ms18 t).IsWhole := hstage0_18 ((cfg0.slots t 18).cast nbuf0_18)
abbrev ms19 (t : Fin cfg0.N) := win0_19.stage (cfg0.slots t 19)
theorem hs19 (t : Fin cfg0.N) : (ms19 t).IsWhole := hstage0_19 ((cfg0.slots t 19).cast nbuf0_19)
abbrev ms20 (t : Fin cfg0.N) := win0_20.stage (cfg0.slots t 20)
theorem hs20 (t : Fin cfg0.N) : (ms20 t).IsWhole := hstage0_20 ((cfg0.slots t 20).cast nbuf0_20)
abbrev ms21 (t : Fin cfg0.N) := win0_21.stage (cfg0.slots t 21)
theorem hs21 (t : Fin cfg0.N) : (ms21 t).IsWhole := hstage0_21 ((cfg0.slots t 21).cast nbuf0_21)
abbrev sc0 : Memref sig .tc .vmem S32x256 .f32 := Memref.whole cc0_scratch0
abbrev sc1 : Memref sig .tc .vmem S32x256 .f32 := Memref.whole cc0_scratch1
abbrev sc2 : Memref sig .tc .vmem S8x32 .i32 := Memref.whole cc0_scratch2
abbrev sc3 : Memref sig .tc .vmem S64x32x768 .f32 := Memref.whole cc0_scratch3
abbrev sc4 : Memref sig .tc .vmem S64x32x768 .f32 := Memref.whole cc0_scratch4
abbrev sc5 : Memref sig .tc .vmem S64x32x256 .f32 := Memref.whole cc0_scratch5
abbrev sc6 : Memref sig .tc .vmem S64x32x256 .f32 := Memref.whole cc0_scratch6
abbrev sc7 : Memref sig .tc .vmem S64x32x256 .f32 := Memref.whole cc0_scratch7
abbrev sc8 : Memref sig .tc .vmem S64x32 .i32 := Memref.whole cc0_scratch8
abbrev sc9 : Memref sig .tc .vmem S32x256 .f32 := Memref.whole cc0_scratch9
abbrev sc10 : Memref sig .tc .vmem S32x256 .f32 := Memref.whole cc0_scratch10
abbrev sc11 : Memref sig .tc .vmem S32x256 .f32 := Memref.whole cc0_scratch11
abbrev sc12 : Memref sig .tc .vmem S32x256 .f32 := Memref.whole cc0_scratch12
abbrev sc13 : Memref sig .tc .vmem S8x32 .f32 := Memref.whole cc0_scratch13
abbrev sc14 : Memref sig .tc .vmem S8x32 .f32 := Memref.whole cc0_scratch14
abbrev sc15 : Memref sig .tc .vmem S32x256 .f32 := Memref.whole cc0_scratch15
abbrev sc16 : Memref sig .tc .vmem S8x1024 .f32 := Memref.whole cc0_scratch16

/-- The plain invariant, spelled out: each scratch buffer owned at some contents, and the generator register at some state. -/
theorem plain_inv_eq (c : Dev nD) :
    (Pipeline.ΦA spec0 c : sProp 𝕄)
      = iprop(iprop((∃ d, owns (c : Thread nD τ) sc0 fullShare d) ∗ (∃ d, owns (c : Thread nD τ) sc1 fullShare d) ∗
        (∃ d, owns (c : Thread nD τ) sc2 fullShare d) ∗ (∃ d, owns (c : Thread nD τ) sc3 fullShare d) ∗
        (∃ d, owns (c : Thread nD τ) sc4 fullShare d) ∗ (∃ d, owns (c : Thread nD τ) sc5 fullShare d) ∗
        (∃ d, owns (c : Thread nD τ) sc6 fullShare d) ∗ (∃ d, owns (c : Thread nD τ) sc7 fullShare d) ∗
        (∃ d, owns (c : Thread nD τ) sc8 fullShare d) ∗ (∃ d, owns (c : Thread nD τ) sc9 fullShare d) ∗
        (∃ d, owns (c : Thread nD τ) sc10 fullShare d) ∗ (∃ d, owns (c : Thread nD τ) sc11 fullShare d) ∗
        (∃ d, owns (c : Thread nD τ) sc12 fullShare d) ∗ (∃ d, owns (c : Thread nD τ) sc13 fullShare d) ∗
        (∃ d, owns (c : Thread nD τ) sc14 fullShare d) ∗ (∃ d, owns (c : Thread nD τ) sc15 fullShare d) ∗
        (∃ d, owns (c : Thread nD τ) sc16 fullShare d)) ∗ (∃ r, prngReg c r)) := by
  unfold Pipeline.ΦA; rw [scopedRest0_eq]; simp only [sc0, sc1, sc2, sc3, sc4, sc5, sc6, sc7, sc8, sc9, sc10, sc11, sc12, sc13, sc14, sc15, sc16, owns_whole]; try rfl

/-! ## The proof data -/

/-- Nothing is said of the output. -/
def forgotten : Fin 22 → Bool := fun w => w.val == 21

/-- The proof data: each array as the region finds it, every input block handed back, the output block unnamed. -/
def frameDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, h⟩ => Pipeline.Dat.unnamed (cfg := cfg0) ⟨21, h⟩ t
    | ⟨n + 22, h⟩ => absurd h (Nat.not_lt.mpr (Nat.le_add_left 22 n))
  Φ _ := Pipeline.ΦA spec0 c
  q _ := fullShare
  owed _ := 0

theorem frame_A_eq (c : Dev nD) (w : Fin cfg0.W) : (frameDats m 0 c).A w = V m c (Pipeline.arrRef spec0 w) := by dsimp only [frameDats]

theorem frame_after0 (c : Dev nD) (t : Fin cfg0.N) : (frameDats m 0 c).after 0 t = iblk m c 0 t := rfl
theorem frame_before0 (c : Dev nD) (t : Fin cfg0.N) (d) : (frameDats m 0 c).before 0 t d = iblk m c 0 t :=
  before0_0_of m (frameDats m 0 c) (frame_A_eq m c 0) (frame_after0 m c) t d
theorem frame_after1 (c : Dev nD) (t : Fin cfg0.N) : (frameDats m 0 c).after 1 t = iblk m c 1 t := rfl
theorem frame_before1 (c : Dev nD) (t : Fin cfg0.N) (d) : (frameDats m 0 c).before 1 t d = iblk m c 1 t :=
  before0_1_of m (frameDats m 0 c) (frame_A_eq m c 1) (frame_after1 m c) t d
theorem frame_after2 (c : Dev nD) (t : Fin cfg0.N) : (frameDats m 0 c).after 2 t = iblk m c 2 t := rfl
theorem frame_before2 (c : Dev nD) (t : Fin cfg0.N) (d) : (frameDats m 0 c).before 2 t d = iblk m c 2 t :=
  before0_2_of m (frameDats m 0 c) (frame_A_eq m c 2) (frame_after2 m c) t d
theorem frame_after3 (c : Dev nD) (t : Fin cfg0.N) : (frameDats m 0 c).after 3 t = iblk m c 3 t := rfl
theorem frame_before3 (c : Dev nD) (t : Fin cfg0.N) (d) : (frameDats m 0 c).before 3 t d = iblk m c 3 t :=
  before0_3_of m (frameDats m 0 c) (frame_A_eq m c 3) (frame_after3 m c) t d
theorem frame_after4 (c : Dev nD) (t : Fin cfg0.N) : (frameDats m 0 c).after 4 t = iblk m c 4 t := rfl
theorem frame_before4 (c : Dev nD) (t : Fin cfg0.N) (d) : (frameDats m 0 c).before 4 t d = iblk m c 4 t :=
  before0_4_of m (frameDats m 0 c) (frame_A_eq m c 4) (frame_after4 m c) t d
theorem frame_after5 (c : Dev nD) (t : Fin cfg0.N) : (frameDats m 0 c).after 5 t = iblk m c 5 t := rfl
theorem frame_before5 (c : Dev nD) (t : Fin cfg0.N) (d) : (frameDats m 0 c).before 5 t d = iblk m c 5 t :=
  before0_5_of m (frameDats m 0 c) (frame_A_eq m c 5) (frame_after5 m c) t d
theorem frame_after6 (c : Dev nD) (t : Fin cfg0.N) : (frameDats m 0 c).after 6 t = iblk m c 6 t := rfl
theorem frame_before6 (c : Dev nD) (t : Fin cfg0.N) (d) : (frameDats m 0 c).before 6 t d = iblk m c 6 t :=
  before0_6_of m (frameDats m 0 c) (frame_A_eq m c 6) (frame_after6 m c) t d
theorem frame_after7 (c : Dev nD) (t : Fin cfg0.N) : (frameDats m 0 c).after 7 t = iblk m c 7 t := rfl
theorem frame_before7 (c : Dev nD) (t : Fin cfg0.N) (d) : (frameDats m 0 c).before 7 t d = iblk m c 7 t :=
  before0_7_of m (frameDats m 0 c) (frame_A_eq m c 7) (frame_after7 m c) t d
theorem frame_after8 (c : Dev nD) (t : Fin cfg0.N) : (frameDats m 0 c).after 8 t = iblk m c 8 t := rfl
theorem frame_before8 (c : Dev nD) (t : Fin cfg0.N) (d) : (frameDats m 0 c).before 8 t d = iblk m c 8 t :=
  before0_8_of m (frameDats m 0 c) (frame_A_eq m c 8) (frame_after8 m c) t d
theorem frame_after9 (c : Dev nD) (t : Fin cfg0.N) : (frameDats m 0 c).after 9 t = iblk m c 9 t := rfl
theorem frame_before9 (c : Dev nD) (t : Fin cfg0.N) (d) : (frameDats m 0 c).before 9 t d = iblk m c 9 t :=
  before0_9_of m (frameDats m 0 c) (frame_A_eq m c 9) (frame_after9 m c) t d
theorem frame_after10 (c : Dev nD) (t : Fin cfg0.N) : (frameDats m 0 c).after 10 t = iblk m c 10 t := rfl
theorem frame_before10 (c : Dev nD) (t : Fin cfg0.N) (d) : (frameDats m 0 c).before 10 t d = iblk m c 10 t :=
  before0_10_of m (frameDats m 0 c) (frame_A_eq m c 10) (frame_after10 m c) t d
theorem frame_after11 (c : Dev nD) (t : Fin cfg0.N) : (frameDats m 0 c).after 11 t = iblk m c 11 t := rfl
theorem frame_before11 (c : Dev nD) (t : Fin cfg0.N) (d) : (frameDats m 0 c).before 11 t d = iblk m c 11 t :=
  before0_11_of m (frameDats m 0 c) (frame_A_eq m c 11) (frame_after11 m c) t d
theorem frame_after12 (c : Dev nD) (t : Fin cfg0.N) : (frameDats m 0 c).after 12 t = iblk m c 12 t := rfl
theorem frame_before12 (c : Dev nD) (t : Fin cfg0.N) (d) : (frameDats m 0 c).before 12 t d = iblk m c 12 t :=
  before0_12_of m (frameDats m 0 c) (frame_A_eq m c 12) (frame_after12 m c) t d
theorem frame_after13 (c : Dev nD) (t : Fin cfg0.N) : (frameDats m 0 c).after 13 t = iblk m c 13 t := rfl
theorem frame_before13 (c : Dev nD) (t : Fin cfg0.N) (d) : (frameDats m 0 c).before 13 t d = iblk m c 13 t :=
  before0_13_of m (frameDats m 0 c) (frame_A_eq m c 13) (frame_after13 m c) t d
theorem frame_after14 (c : Dev nD) (t : Fin cfg0.N) : (frameDats m 0 c).after 14 t = iblk m c 14 t := rfl
theorem frame_before14 (c : Dev nD) (t : Fin cfg0.N) (d) : (frameDats m 0 c).before 14 t d = iblk m c 14 t :=
  before0_14_of m (frameDats m 0 c) (frame_A_eq m c 14) (frame_after14 m c) t d
theorem frame_after15 (c : Dev nD) (t : Fin cfg0.N) : (frameDats m 0 c).after 15 t = iblk m c 15 t := rfl
theorem frame_before15 (c : Dev nD) (t : Fin cfg0.N) (d) : (frameDats m 0 c).before 15 t d = iblk m c 15 t :=
  before0_15_of m (frameDats m 0 c) (frame_A_eq m c 15) (frame_after15 m c) t d
theorem frame_after16 (c : Dev nD) (t : Fin cfg0.N) : (frameDats m 0 c).after 16 t = iblk m c 16 t := rfl
theorem frame_before16 (c : Dev nD) (t : Fin cfg0.N) (d) : (frameDats m 0 c).before 16 t d = iblk m c 16 t :=
  before0_16_of m (frameDats m 0 c) (frame_A_eq m c 16) (frame_after16 m c) t d
theorem frame_after17 (c : Dev nD) (t : Fin cfg0.N) : (frameDats m 0 c).after 17 t = iblk m c 17 t := rfl
theorem frame_before17 (c : Dev nD) (t : Fin cfg0.N) (d) : (frameDats m 0 c).before 17 t d = iblk m c 17 t :=
  before0_17_of m (frameDats m 0 c) (frame_A_eq m c 17) (frame_after17 m c) t d
theorem frame_after18 (c : Dev nD) (t : Fin cfg0.N) : (frameDats m 0 c).after 18 t = iblk m c 18 t := rfl
theorem frame_before18 (c : Dev nD) (t : Fin cfg0.N) (d) : (frameDats m 0 c).before 18 t d = iblk m c 18 t :=
  before0_18_of m (frameDats m 0 c) (frame_A_eq m c 18) (frame_after18 m c) t d
theorem frame_after19 (c : Dev nD) (t : Fin cfg0.N) : (frameDats m 0 c).after 19 t = iblk m c 19 t := rfl
theorem frame_before19 (c : Dev nD) (t : Fin cfg0.N) (d) : (frameDats m 0 c).before 19 t d = iblk m c 19 t :=
  before0_19_of m (frameDats m 0 c) (frame_A_eq m c 19) (frame_after19 m c) t d
theorem frame_after20 (c : Dev nD) (t : Fin cfg0.N) : (frameDats m 0 c).after 20 t = iblk m c 20 t := rfl
theorem frame_before20 (c : Dev nD) (t : Fin cfg0.N) (d) : (frameDats m 0 c).before 20 t d = iblk m c 20 t :=
  before0_20_of m (frameDats m 0 c) (frame_A_eq m c 20) (frame_after20 m c) t d

/-- What the body is called with at a point, and what it returns. -/
def framePre (c : Dev nD) (t : Fin cfg0.N) : sProp 𝕄 :=
  iprop((frameDats m 0 c).Φ t.castSucc ∗ (frameDats m 0 c).owesAt () t.castSucc
    ∗ (∃ d, owns (c : Thread nD τ) (ms0 t) fullShare ((frameDats m 0 c).before 0 t d))
    ∗ (∃ d, owns (c : Thread nD τ) (ms1 t) fullShare ((frameDats m 0 c).before 1 t d))
    ∗ (∃ d, owns (c : Thread nD τ) (ms2 t) fullShare ((frameDats m 0 c).before 2 t d))
    ∗ (∃ d, owns (c : Thread nD τ) (ms3 t) fullShare ((frameDats m 0 c).before 3 t d))
    ∗ (∃ d, owns (c : Thread nD τ) (ms4 t) fullShare ((frameDats m 0 c).before 4 t d))
    ∗ (∃ d, owns (c : Thread nD τ) (ms5 t) fullShare ((frameDats m 0 c).before 5 t d))
    ∗ (∃ d, owns (c : Thread nD τ) (ms6 t) fullShare ((frameDats m 0 c).before 6 t d))
    ∗ (∃ d, owns (c : Thread nD τ) (ms7 t) fullShare ((frameDats m 0 c).before 7 t d))
    ∗ (∃ d, owns (c : Thread nD τ) (ms8 t) fullShare ((frameDats m 0 c).before 8 t d))
    ∗ (∃ d, owns (c : Thread nD τ) (ms9 t) fullShare ((frameDats m 0 c).before 9 t d))
    ∗ (∃ d, owns (c : Thread nD τ) (ms10 t) fullShare ((frameDats m 0 c).before 10 t d))
    ∗ (∃ d, owns (c : Thread nD τ) (ms11 t) fullShare ((frameDats m 0 c).before 11 t d))
    ∗ (∃ d, owns (c : Thread nD τ) (ms12 t) fullShare ((frameDats m 0 c).before 12 t d))
    ∗ (∃ d, owns (c : Thread nD τ) (ms13 t) fullShare ((frameDats m 0 c).before 13 t d))
    ∗ (∃ d, owns (c : Thread nD τ) (ms14 t) fullShare ((frameDats m 0 c).before 14 t d))
    ∗ (∃ d, owns (c : Thread nD τ) (ms15 t) fullShare ((frameDats m 0 c).before 15 t d))
    ∗ (∃ d, owns (c : Thread nD τ) (ms16 t) fullShare ((frameDats m 0 c).before 16 t d))
    ∗ (∃ d, owns (c : Thread nD τ) (ms17 t) fullShare ((frameDats m 0 c).before 17 t d))
    ∗ (∃ d, owns (c : Thread nD τ) (ms18 t) fullShare ((frameDats m 0 c).before 18 t d))
    ∗ (∃ d, owns (c : Thread nD τ) (ms19 t) fullShare ((frameDats m 0 c).before 19 t d))
    ∗ (∃ d, owns (c : Thread nD τ) (ms20 t) fullShare ((frameDats m 0 c).before 20 t d))
    ∗ (∃ d, owns (c : Thread nD τ) (ms21 t) fullShare d))
def framePost (c : Dev nD) (t : Fin cfg0.N) : sProp 𝕄 :=
  iprop((frameDats m 0 c).Φ t.succ ∗ (frameDats m 0 c).owesAt () t.succ
    ∗ (frameDats m 0 c).leavesExact 0 t
    ∗ (frameDats m 0 c).leavesExact 1 t
    ∗ (frameDats m 0 c).leavesExact 2 t
    ∗ (frameDats m 0 c).leavesExact 3 t
    ∗ (frameDats m 0 c).leavesExact 4 t
    ∗ (frameDats m 0 c).leavesExact 5 t
    ∗ (frameDats m 0 c).leavesExact 6 t
    ∗ (frameDats m 0 c).leavesExact 7 t
    ∗ (frameDats m 0 c).leavesExact 8 t
    ∗ (frameDats m 0 c).leavesExact 9 t
    ∗ (frameDats m 0 c).leavesExact 10 t
    ∗ (frameDats m 0 c).leavesExact 11 t
    ∗ (frameDats m 0 c).leavesExact 12 t
    ∗ (frameDats m 0 c).leavesExact 13 t
    ∗ (frameDats m 0 c).leavesExact 14 t
    ∗ (frameDats m 0 c).leavesExact 15 t
    ∗ (frameDats m 0 c).leavesExact 16 t
    ∗ (frameDats m 0 c).leavesExact 17 t
    ∗ (frameDats m 0 c).leavesExact 18 t
    ∗ (frameDats m 0 c).leavesExact 19 t
    ∗ (frameDats m 0 c).leavesExact 20 t
    ∗ (∃ d, owns (c : Thread nD τ) (ms21 t) fullShare d))

/-- An input window is live at every point: what is left in it is what the proof data say. -/
theorem live_at (w : Fin cfg0.W) (hw : w ≠ 21) (t : Fin cfg0.N) : cfg0.idle w (grid0.coords t) = false := by
  fin_cases w <;> first | rfl | exact absurd rfl hw

theorem frame_body (c : Dev nD) (t : Fin cfg0.N) :
    framePre m c t ⊢ wp frame (wpE (defs₀ (F := F)) Variants.none c none) Set.univ (bodyAt0 t) (fun _ => framePost m c t) := by
  unfold framePre framePost bodyAt0
  rw [show (frameDats m 0 c).Φ t.succ = (frameDats m 0 c).Φ t.castSucc from rfl,
    show (frameDats m 0 c).owesAt () t.succ = (frameDats m 0 c).owesAt () t.castSucc from rfl,
    show (frameDats m 0 c).Φ t.castSucc = Pipeline.ΦA spec0 c from rfl, plain_inv_eq]
  unfold Dat.leavesExact
  simp only [live_at 0 (by decide) t, live_at 1 (by decide) t, live_at 2 (by decide) t, live_at 3 (by decide) t, live_at 4 (by decide) t, live_at 5 (by decide) t, live_at 6 (by decide) t, live_at 7 (by decide) t, live_at 8 (by decide) t, live_at 9 (by decide) t, live_at 10 (by decide) t, live_at 11 (by decide) t, live_at 12 (by decide) t, live_at 13 (by decide) t, live_at 14 (by decide) t, live_at 15 (by decide) t, live_at 16 (by decide) t, live_at 17 (by decide) t, live_at 18 (by decide) t, live_at 19 (by decide) t, live_at 20 (by decide) t]
  simp only [frame_before0, frame_after0, frame_before1, frame_after1, frame_before2, frame_after2, frame_before3, frame_after3, frame_before4, frame_after4, frame_before5, frame_after5, frame_before6, frame_after6, frame_before7, frame_after7, frame_before8, frame_after8, frame_before9, frame_after9, frame_before10, frame_after10, frame_before11, frame_after11, frame_before12, frame_after12, frame_before13, frame_after13, frame_before14, frame_after14, frame_before15, frame_after15, frame_before16, frame_after16, frame_before17, frame_after17, frame_before18, frame_after18, frame_before19, frame_after19, frame_before20, frame_after20]
  iintro ⟨⟨⟨S0, S1, S2, S3, S4, S5, S6, S7, S8, S9, S10, S11, S12, S13, S14, S15, S16⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, H21⟩
  iapply (kernel_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t)
    sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) sc16 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  iintro ⟨H0, H1, H2, H3, H4, H5, H6, H7, H8, H9, H10, H11, H12, H13, H14, H15, H16, H17, H18, H19, H20, H21, S0, S1, S2, S3, S4, S5, S6, S7, S8, S9, S10, S11, S12, S13, S14, S15, S16⟩
  isplitl [S0 S1 S2 S3 S4 S5 S6 S7 S8 S9 S10 S11 S12 S13 S14 S15 S16 Hg]
  · isplitl [S0 S1 S2 S3 S4 S5 S6 S7 S8 S9 S10 S11 S12 S13 S14 S15 S16]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S16
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at the point is the body as the generated text spells it. -/
theorem body_row (t : Fin cfg0.N) : defs₀ (F := F) .tc cfg0.body (cfg0.bodyArgs t (cfg0.slots t)) = bodyAt0 t := by
  unfold defs₀; rw [Defs.onTc_tc]

theorem frame_obligation (c : Dev nD) :
    BodyObligation (frameDats (F := F) m 0 c) (defs₀ (F := F)) Variants.none () Set.univ forgotten := fun t => by
  rw [bigSep_W0, bigSep_W0, body_row]
  exact triple_restated (frame_body m c t) rfl .rfl fun _ => .rfl

/-! ## The launch -/

set_option backward.isDefEq.respectTransparency.types false in
set_option maxHeartbeats 800000 in
/-- Every execution ends, with every unstaged buffer as the region found it and every semaphore counter at zero. -/
theorem frame_run :
    θ_run defs (onTc (τ := τ) (main (F := F))) (s₀ m ρ)
      (fun r => Pipeline.RDat.FramePost (cfgs 0) (fun c => (frameDats m 0 c).toRForget forgotten) (V m) r ∧ r.2.sem = fun _ => 0) :=
  Pipeline.θ_run_frame_forget (Q' := _) cfgs (frameDats m) (0 : Fin 1) launch0 defs₀ Variants.none forgotten m ρ main
    (hbody := fun c => (frame_obligation m c).loose) (hshare := fun c => (frameDats m 0 c).share_full fun _ => rfl)
    (howed := fun _ _ => rfl) (V := V m) (hmain := hmain m Variants.none) (hA := frame_A_eq m) (hΦ := fun _ _ => rfl)

variable {m ρ}

/-- The arguments after such a run: each as launched, whether a window stages it or not. -/
theorem args_unchanged {r : PUnit × MemSt nD τ sig (Elt F)}
    (h : Pipeline.RDat.FramePost (cfgs 0) (fun c => (frameDats (F := F) m 0 c).toRForget forgotten) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    (h.arr_in c 12 rfl).trans ((frame_A_eq m c 12).trans (V_main_arg12 m c)),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c)⟩

end Cert.KernelIdeal.Hand

end
-- ==== Proof.KernelIdealReads.lean ====
/- What the kernel's loads and stores come to, on the vectors its buffers hold: whole buffers, single rows, single slabs; and
   what the counted loop of its body leaves: the two recurrences it carries, slab by slab. -/
module

public import proofs.«01_k».proof.Proof.KernelIdealBody
public import Idealize.ShloMosaic.Lib.VecWindow
public import Idealize.ShloMosaic.Lib.Pointwise

@[expose] public section

set_option maxRecDepth 16384

noncomputable section

namespace Cert.KernelIdeal.Hand

open Cert.KernelIdeal.Gen
open Idealize.ShloMosaic Idealize.ShloMosaic.TcCoe

variable {F : FTy → Type} [FloatOps F]

/-- Row `k` of a vector of eight rows, as a vector of one row. -/
def getRow {α : Type} {n : ℕ} (k : Fin 8) (X : (⟨2, ![8, n]⟩ : Shape).Idx → α) : (⟨2, ![1, n]⟩ : Shape).Idx → α :=
  fun j => X (ix2 k (j 1))

/-- A vector of eight rows with row `k` replaced. -/
def setRow {α : Type} {n : ℕ} (k : Fin 8) (v : (⟨2, ![1, n]⟩ : Shape).Idx → α) (X : (⟨2, ![8, n]⟩ : Shape).Idx → α) :
    (⟨2, ![8, n]⟩ : Shape).Idx → α :=
  fun j => if (j 0 : ℕ) = k.val then v (ix2 0 (j 1)) else X j

/-- Slab `k` of a vector of sixty-four slabs. -/
def slab {α : Type} {n : ℕ} (k : ℕ) (X : (⟨3, ![64, 32, n]⟩ : Shape).Idx → α) : (⟨3, ![1, 32, n]⟩ : Shape).Idx → α :=
  fun j => X (ix3 ⟨k % 64, Nat.mod_lt _ (by decide)⟩ (j 1) (j 2))

theorem getRow_setRow_same {α : Type} {n : ℕ} (k : Fin 8) (v : (⟨2, ![1, n]⟩ : Shape).Idx → α) (X : (⟨2, ![8, n]⟩ : Shape).Idx → α) :
    getRow k (setRow k v X) = v := by
  funext j
  have : j = ix2 0 (j 1) := by rw [eq_ix2 j]; congr 1; exact Subsingleton.elim (α := Fin 1) _ _
  unfold getRow setRow
  rw [if_pos (by rfl)]
  exact congrArg v this.symm

theorem getRow_setRow_ne {α : Type} {n : ℕ} (k k' : Fin 8) (h : k ≠ k') (v : (⟨2, ![1, n]⟩ : Shape).Idx → α) (X : (⟨2, ![8, n]⟩ : Shape).Idx → α) :
    getRow k (setRow k' v X) = getRow k X := by
  funext j
  unfold getRow setRow
  exact if_neg (fun e => h (Fin.ext e))

section Views
variable {sig : RefSig} {κ : Kind} {sp : Space} {e : EltTy} {Val : EltTy → Type} {n : ℕ}

theorem read_set_row (v : View sig κ sp ⟨2, ![8, n]⟩ e) (f : v.ty.Contents Val) (k : Fin 8)
    (inb : ∀ a : Fin 2, (![k.val, 0] : Fin 2 → ℕ) a + (![1, n] : Fin 2 → ℕ) a ≤ (![8, n] : Fin 2 → ℕ) a)
    (w : (⟨2, ![1, n]⟩ : Shape).Idx → Val e) (L : List (View.Piece Val ⟨2, ![8, n]⟩ e)) :
    v.read Val (v.writes Val f ((⟨Rect.unit (s := ⟨2, ![8, n]⟩) ![k.val, 0] ![1, n] inb, w⟩ : View.Piece Val _ _) :: L))
      = setRow k w (v.read Val (v.writes Val f L)) := by
  funext y
  unfold setRow
  by_cases h : (y 0 : ℕ) = k.val
  · rw [if_pos h]
    refine View.read_writes_cons_unit_of_mem v f inb w L y (ix2 0 (y 1)) rfl fun a => ?_
    match a with
    | ⟨0, _⟩ => exact h
    | ⟨1, _⟩ => exact (Nat.zero_add _).symm
  · rw [if_neg h]
    refine View.read_writes_cons_unit_of_not_mem v f inb w L y rfl (0 : Fin 2) ?_
    show (y 0 : ℕ) < k.val ∨ k.val + 1 ≤ (y 0 : ℕ)
    omega

theorem readAt_row (v : View sig κ sp ⟨2, ![8, n]⟩ e) (f : v.ty.Contents Val) (k : Fin 8)
    (inb : ∀ a : Fin 2, (![k.val, 0] : Fin 2 → ℕ) a + (![1, n] : Fin 2 → ℕ) a ≤ (![8, n] : Fin 2 → ℕ) a) :
    v.readAt Val (Rect.unit (s := ⟨2, ![8, n]⟩) ![k.val, 0] ![1, n] inb).toLoadRect f = getRow k (v.read Val f) := by
  funext y
  refine congrArg (v.read Val f) (funext fun a => Fin.ext ?_)
  match a with
  | ⟨0, _⟩ =>
    show k.val + 1 * (y 0 : ℕ) = k.val
    have : (y 0 : ℕ) < 1 := (y 0).isLt
    omega
  | ⟨1, _⟩ =>
    show 0 + 1 * (y 1 : ℕ) = (y 1 : ℕ)
    omega

/-- A load stated over the pieces alone is the load of what they leave. -/
theorem readCov_eq [∀ e, Nonempty (Val e)] {s : Shape} (v : View sig κ sp s e) (L : List (View.Piece Val s e)) (B : LoadRect s) :
    v.readCov L B = v.readAt Val B (v.writes Val v.junk L) := rfl

theorem read_set_slab (v : View sig κ sp ⟨3, ![64, 32, n]⟩ e) (f : v.ty.Contents Val) (k : ℕ) (off : Fin 3 → ℕ)
    (hoff : off = ![k, 0, 0]) (inb : ∀ a : Fin 3, off a + (![1, 32, n] : Fin 3 → ℕ) a ≤ (![64, 32, n] : Fin 3 → ℕ) a)
    (w : (⟨3, ![1, 32, n]⟩ : Shape).Idx → Val e) (L : List (View.Piece Val ⟨3, ![64, 32, n]⟩ e)) (y : (⟨3, ![64, 32, n]⟩ : Shape).Idx) :
    v.read Val (v.writes Val f ((⟨Rect.unit (s := ⟨3, ![64, 32, n]⟩) off ![1, 32, n] inb, w⟩ : View.Piece Val _ _) :: L)) y
      = if (y 0 : ℕ) = k then w (ix3 0 (y 1) (y 2)) else v.read Val (v.writes Val f L) y := by
  subst hoff
  by_cases h : (y 0 : ℕ) = k
  · rw [if_pos h]
    refine View.read_writes_cons_unit_of_mem v f inb w L y (ix3 0 (y 1) (y 2)) rfl fun a => ?_
    match a with
    | ⟨0, _⟩ => exact h
    | ⟨1, _⟩ => exact (Nat.zero_add _).symm
    | ⟨2, _⟩ => exact (Nat.zero_add _).symm
  · rw [if_neg h]
    refine View.read_writes_cons_unit_of_not_mem v f inb w L y rfl (0 : Fin 3) ?_
    show (y 0 : ℕ) < k ∨ k + 1 ≤ (y 0 : ℕ)
    omega

theorem readAt_slab (v : View sig κ sp ⟨3, ![64, 32, n]⟩ e) (f : v.ty.Contents Val) (k : ℕ) (hk : k < 64) (off : Fin 3 → ℕ)
    (hoff : off = ![k, 0, 0]) (inb : ∀ a : Fin 3, off a + (![1, 32, n] : Fin 3 → ℕ) a ≤ (![64, 32, n] : Fin 3 → ℕ) a) :
    v.readAt Val (Rect.unit (s := ⟨3, ![64, 32, n]⟩) off ![1, 32, n] inb).toLoadRect f = slab k (v.read Val f) := by
  subst hoff
  funext y
  refine congrArg (v.read Val f) (funext fun a => Fin.ext ?_)
  match a with
  | ⟨0, _⟩ =>
    show k + 1 * (y 0 : ℕ) = k % 64
    have : (y 0 : ℕ) < 1 := (y 0).isLt
    omega
  | ⟨1, _⟩ =>
    show 0 + 1 * (y 1 : ℕ) = (y 1 : ℕ)
    omega
  | ⟨2, _⟩ =>
    show 0 + 1 * (y 2 : ℕ) = (y 2 : ℕ)
    omega

end Views

/-! ## The counted loop -/

/-- One trip of the loop on the pair it carries: the first recurrence from its input `g1`, the second from its input `g2` and its
    keep flags `c2`. -/
def tripStep (w1 : Vec F S256x768 .f32) (b1 : Vec F S1x768 .f32) (w2 : Vec F S256x768 .f32) (b2 : Vec F S1x768 .f32)
    (g1 g2 : Vec F S1x32x768 .f32) (c2 : Vec F S1x32x256 .f32) (acc : Vec F S32x256 .f32 × Vec F S32x256 .f32) :
    Vec F S32x256 .f32 × Vec F S32x256 .f32 :=
  (k0_pay22 (k0_pay64 w1) (k0_pay65 b1) acc.1 g1,
    k0_pay68 (k0_pay24 g2) (k0_pay25 acc.2 c2) (k0_pay26 (k0_pay66 w2) (k0_pay67 b2) acc.2 c2)
      (k0_pay27 (k0_pay66 w2) (k0_pay67 b2) acc.2 g2 c2) (k0_pay28 (k0_pay66 w2) (k0_pay67 b2) acc.2 g2 c2))

/-- The pair before trip `k`. -/
def loopSt (w1 : Vec F S256x768 .f32) (b1 : Vec F S1x768 .f32) (w2 : Vec F S256x768 .f32) (b2 : Vec F S1x768 .f32)
    (g1 g2 : Vec F S64x32x768 .f32) (c2 : Vec F S64x32x256 .f32) (init : Vec F S32x256 .f32 × Vec F S32x256 .f32) :
    ℕ → Vec F S32x256 .f32 × Vec F S32x256 .f32
  | 0 => init
  | k + 1 => tripStep w1 b1 w2 b2 (slab k g1) (slab k g2) (slab k c2) (loopSt w1 b1 w2 b2 g1 g2 c2 init k)

theorem pay23_at (v103 : FVec F S256x768 .f32) (v105 : FVec F S1x768 .f32) (h : Vec F S32x256 .f32) (g : Vec F S1x32x768 .f32)
    (b : Fin 32) (d : Fin 256) : k0_pay23 v103 v105 h g (ix3 0 b d) = k0_pay22 v103 v105 h g (ix2 b d) := by
  pointwise [k0_pay23]

theorem pay69_at (v340 : FVec F S32x768 .f32) (v344 : FVec F S32x256 .f32) (v347 : FVec F S32x768 .f32) (v351 v355 : FVec F S32x256 .f32)
    (b : Fin 32) (d : Fin 256) : k0_pay69 v340 v344 v347 v351 v355 (ix3 0 b d) = k0_pay68 v340 v344 v347 v351 v355 (ix2 b d) := by
  pointwise [k0_pay69]

section Loop
variable (𝒱 : Variants) (c : Dev nD) (bd : Option 𝒱.V) (i : grid0.Coords)
    (arg1 : Memref sig .tc .vmem S32x1 .i32) (harg1 : arg1.IsWhole)
    (arg2 : Memref sig .tc .vmem S64x32x128 .f32) (harg2 : arg2.IsWhole)
    (arg3 : Memref sig .tc .vmem S64x32x128 .f32) (harg3 : arg3.IsWhole)
    (arg4 : Memref sig .tc .vmem S64x32x128 .f32) (harg4 : arg4.IsWhole)
    (arg5 : Memref sig .tc .vmem S128x256 .f32) (harg5 : arg5.IsWhole)
    (arg6 : Memref sig .tc .vmem S128x256 .f32) (harg6 : arg6.IsWhole)
    (arg7 : Memref sig .tc .vmem S128x256 .f32) (harg7 : arg7.IsWhole)
    (arg8 : Memref sig .tc .vmem S1x256 .f32) (harg8 : arg8.IsWhole)
    (arg9 : Memref sig .tc .vmem S256x768 .f32) (harg9 : arg9.IsWhole)
    (arg10 : Memref sig .tc .vmem S1x768 .f32) (harg10 : arg10.IsWhole)
    (arg11 : Memref sig .tc .vmem S256x768 .f32) (harg11 : arg11.IsWhole)
    (arg12 : Memref sig .tc .vmem S1x768 .f32) (harg12 : arg12.IsWhole)
    (arg13 : Memref sig .tc .vmem S1024x256 .f32) (harg13 : arg13.IsWhole)
    (arg14 : Memref sig .tc .vmem S256x1024 .f32) (harg14 : arg14.IsWhole)
    (arg15 : Memref sig .tc .vmem S256x768 .f32) (harg15 : arg15.IsWhole)
    (arg16 : Memref sig .tc .vmem S1x768 .f32) (harg16 : arg16.IsWhole)
    (arg17 : Memref sig .tc .vmem S256x768 .f32) (harg17 : arg17.IsWhole)
    (arg18 : Memref sig .tc .vmem S1x768 .f32) (harg18 : arg18.IsWhole)
    (arg19 : Memref sig .tc .vmem S256x512 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S32x1024 .f32) (harg22 : arg22.IsWhole)
    (arg23 : Memref sig .tc .vmem S32x256 .f32) (harg23 : arg23.IsWhole)
    (arg24 : Memref sig .tc .vmem S32x256 .f32) (harg24 : arg24.IsWhole)
    (arg25 : Memref sig .tc .vmem S8x32 .i32) (harg25 : arg25.IsWhole)
    (arg26 : Memref sig .tc .vmem S64x32x768 .f32) (harg26 : arg26.IsWhole)
    (arg27 : Memref sig .tc .vmem S64x32x768 .f32) (harg27 : arg27.IsWhole)
    (arg28 : Memref sig .tc .vmem S64x32x256 .f32) (harg28 : arg28.IsWhole)
    (arg29 : Memref sig .tc .vmem S64x32x256 .f32) (harg29 : arg29.IsWhole)
    (arg30 : Memref sig .tc .vmem S64x32x256 .f32) (harg30 : arg30.IsWhole)
    (arg31 : Memref sig .tc .vmem S64x32 .i32) (harg31 : arg31.IsWhole)
    (arg32 : Memref sig .tc .vmem S32x256 .f32) (harg32 : arg32.IsWhole)
    (arg33 : Memref sig .tc .vmem S32x256 .f32) (harg33 : arg33.IsWhole)
    (arg34 : Memref sig .tc .vmem S32x256 .f32) (harg34 : arg34.IsWhole)
    (arg35 : Memref sig .tc .vmem S32x256 .f32) (harg35 : arg35.IsWhole)
    (arg36 : Memref sig .tc .vmem S8x32 .f32) (harg36 : arg36.IsWhole)
    (arg37 : Memref sig .tc .vmem S8x32 .f32) (harg37 : arg37.IsWhole)
    (arg38 : Memref sig .tc .vmem S32x256 .f32) (harg38 : arg38.IsWhole)
    (arg39 : Memref sig .tc .vmem S8x1024 .f32) (harg39 : arg39.IsWhole)
    (v102 : Vec F S256x768 .f32) (v104 : Vec F S1x768 .f32) (v106 : Vec F S256x768 .f32) (v108 : Vec F S1x768 .f32)
    (X26 : BufTy.Contents (Elt F) arg26.view.ty) (X27 : BufTy.Contents (Elt F) arg27.view.ty) (X30 : BufTy.Contents (Elt F) arg30.view.ty)

theorem trip_result (k : Fin k0_t1_loop.trips) (acc : Vec F S32x256 .f32 × Vec F S32x256 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 k acc
      = tripStep v102 v104 v106 v108 (slab k.val (arg26.view.read (Elt F) X26)) (slab k.val (arg27.view.read (Elt F) X27))
          (slab k.val (arg30.view.read (Elt F) X30)) acc := by
  have hk : k.val < 64 := Nat.lt_of_lt_of_le k.isLt k0_t1_abs.2.1
  rw [← readAt_slab arg26.view X26 k.val hk (k0_off1 k) (k0_off1_eq k) (k0_off1_inb k),
    ← readAt_slab arg27.view X27 k.val hk (k0_off1 k) (k0_off1_eq k) (k0_off1_inb k),
    ← readAt_slab arg30.view X30 k.val hk (k0_off2 k) (k0_off2_eq k) (k0_off2_inb k)]
  unfold tripR_k0_t1 trip_k0_t1
  rfl

theorem trip_pieces (k : Fin k0_t1_loop.trips) (acc : Vec F S32x256 .f32 × Vec F S32x256 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 k acc
      = ([⟨Rect.unit (s := S64x32x256) (k0_off2 k) S1x32x256.size (k0_off2_inb k),
            k0_pay23 (k0_pay64 v102) (k0_pay65 v104) acc.1 (slab k.val (arg26.view.read (Elt F) X26))⟩],
        [⟨Rect.unit (s := S64x32x256) (k0_off2 k) S1x32x256.size (k0_off2_inb k),
            k0_pay69 (k0_pay24 (slab k.val (arg27.view.read (Elt F) X27))) (k0_pay25 acc.2 (slab k.val (arg30.view.read (Elt F) X30)))
              (k0_pay26 (k0_pay66 v106) (k0_pay67 v108) acc.2 (slab k.val (arg30.view.read (Elt F) X30)))
              (k0_pay27 (k0_pay66 v106) (k0_pay67 v108) acc.2 (slab k.val (arg27.view.read (Elt F) X27)) (slab k.val (arg30.view.read (Elt F) X30)))
              (k0_pay28 (k0_pay66 v106) (k0_pay67 v108) acc.2 (slab k.val (arg27.view.read (Elt F) X27)) (slab k.val (arg30.view.read (Elt F) X30)))⟩]) := by
  have hk : k.val < 64 := Nat.lt_of_lt_of_le k.isLt k0_t1_abs.2.1
  rw [← readAt_slab arg26.view X26 k.val hk (k0_off1 k) (k0_off1_eq k) (k0_off1_inb k),
    ← readAt_slab arg27.view X27 k.val hk (k0_off1 k) (k0_off1_eq k) (k0_off1_inb k),
    ← readAt_slab arg30.view X30 k.val hk (k0_off2 k) (k0_off2_eq k) (k0_off2_inb k)]
  unfold tripL_k0_t1 trip_k0_t1
  rfl

/-- The loop's carried pair is the recursion's. -/
theorem loop_carried (init : Vec F S32x256 .f32 × Vec F S32x256 .f32) (k : ℕ) (hk : k ≤ k0_t1_loop.trips) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init k).1
      = loopSt v102 v104 v106 v108 (arg26.view.read (Elt F) X26) (arg27.view.read (Elt F) X27) (arg30.view.read (Elt F) X30) init k := by
  induction k with
  | zero => rfl
  | succ k ih =>
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init ⟨k, hk⟩
    rw [e, ih (Nat.le_of_succ_le hk), trip_result]
    rfl

/-- What the loop leaves in the two buffers it writes: slab `t` holds the pair after trip `t`. -/
theorem loop_slabs (init : Vec F S32x256 .f32 × Vec F S32x256 .f32) (k : ℕ) (hk : k ≤ k0_t1_loop.trips)
    (f28 : BufTy.Contents (Elt F) arg28.view.ty) (f29 : BufTy.Contents (Elt F) arg29.view.ty) (y : S64x32x256.Idx) (hy : (y 0 : ℕ) < k) :
    arg28.view.read (Elt F) (arg28.view.writes (Elt F) f28 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init k).2.1) y
        = (loopSt v102 v104 v106 v108 (arg26.view.read (Elt F) X26) (arg27.view.read (Elt F) X27) (arg30.view.read (Elt F) X30) init ((y 0 : ℕ) + 1)).1 (ix2 (y 1) (y 2))
    ∧ arg29.view.read (Elt F) (arg29.view.writes (Elt F) f29 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init k).2.2) y
        = (loopSt v102 v104 v106 v108 (arg26.view.read (Elt F) X26) (arg27.view.read (Elt F) X27) (arg30.view.read (Elt F) X30) init ((y 0 : ℕ) + 1)).2 (ix2 (y 1) (y 2)) := by
  induction k with
  | zero => exact absurd hy (Nat.not_lt_zero _)
  | succ k ih =>
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init ⟨k, hk⟩
    have hl := loop_carried (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init k (Nat.le_of_succ_le hk)
    rw [e, trip_pieces, hl]
    dsimp only [List.cons_append, List.nil_append]
    rw [read_set_slab arg28.view f28 k (k0_off2 ⟨k, hk⟩) (k0_off2_eq ⟨k, hk⟩) (k0_off2_inb ⟨k, hk⟩),
      read_set_slab arg29.view f29 k (k0_off2 ⟨k, hk⟩) (k0_off2_eq ⟨k, hk⟩) (k0_off2_inb ⟨k, hk⟩)]
    by_cases h : (y 0 : ℕ) = k
    · rw [if_pos h, if_pos h, h]
      exact ⟨pay23_at _ _ _ _ (y 1) (y 2), pay69_at _ _ _ _ _ (y 1) (y 2)⟩
    · rw [if_neg h, if_neg h]
      exact ih (Nat.le_of_succ_le hk) (by omega)

end Loop

end Cert.KernelIdeal.Hand

end
-- ==== Proof.KernelIdealSteps.lean ====
/- The kernel's body as a function: what one grid point makes of its inputs and of the scratch it finds. -/
module

public import proofs.«01_k».proof.Proof.KernelIdealReads

@[expose] public section

set_option maxRecDepth 16384

noncomputable section

namespace Cert.KernelIdeal.Hand

open Cert.KernelIdeal.Gen
open Idealize.ShloMosaic Idealize.ShloMosaic.TcCoe

/-- A point's input blocks, in the order of the windows. -/
structure Ins (F : FTy → Type) where
  x1 : Vec F S32x1 .i32
  x2 : Vec F S64x32x128 .f32
  x3 : Vec F S64x32x128 .f32
  x4 : Vec F S64x32x128 .f32
  x5 : Vec F S128x256 .f32
  x6 : Vec F S128x256 .f32
  x7 : Vec F S128x256 .f32
  x8 : Vec F S1x256 .f32
  x9 : Vec F S256x768 .f32
  x10 : Vec F S1x768 .f32
  x11 : Vec F S256x768 .f32
  x12 : Vec F S1x768 .f32
  x13 : Vec F S1024x256 .f32
  x14 : Vec F S256x1024 .f32
  x15 : Vec F S256x768 .f32
  x16 : Vec F S1x768 .f32
  x17 : Vec F S256x768 .f32
  x18 : Vec F S1x768 .f32
  x19 : Vec F S256x512 .f32
  x20 : Vec F S1x512 .f32
  x21 : Vec F S1x512 .f32

/-- The scratch that a point leaves for the next: the two recurrences' states, the codes of the last position (row 0), the masked
    states of the chunk, the four heads' weighted sums, the heads' weights and the segment count (rows 0 to 4), the scores (rows 0
    to 3) and the state of the last position, the codebook's squared lengths (row 0). -/
structure Scr (F : FTy → Type) where
  h1 : Vec F S32x256 .f32
  h2 : Vec F S32x256 .f32
  pidx : Vec F S8x32 .i32
  y : Vec F S64x32x256 .f32
  n0 : Vec F S32x256 .f32
  n1 : Vec F S32x256 .f32
  n2 : Vec F S32x256 .f32
  n3 : Vec F S32x256 .f32
  den : Vec F S8x32 .f32
  scst : Vec F S8x32 .f32
  hsst : Vec F S32x256 .f32
  cn : Vec F S8x1024 .f32

variable {F : FTy → Type} [FloatOps F]

/-- The codes of the chunk the point finds, and the code before each. -/
def idxOf (X : Ins F) (S : Scr F) : IVec S64x32 32 := k0_pay52 S.y (getRow 0 S.cn) X.x14
def prevOf (X : Ins F) (S : Scr F) : IVec S64x32 32 := k0_pay56 (idxOf X S) (getRow 0 S.pidx)

/-- The two recurrences over the chunk: before trip `k`. -/
def lpOf (X : Ins F) (S : Scr F) (k : ℕ) : Vec F S32x256 .f32 × Vec F S32x256 .f32 :=
  loopSt X.x11 X.x12 X.x17 X.x18 (k0_pay61 (k0_pay59 X.x2) (k0_pay60 X.x3) X.x4 X.x5 X.x6 X.x7 X.x8 X.x9 X.x10)
    (k0_pay55 (k0_pay54 S.y (getRow 0 S.cn) X.x14) X.x13 X.x15 X.x16) (k0_pay57 (idxOf X S) (getRow 0 S.pidx)) (S.h1, S.h2) k
def yOf (X : Ins F) (S : Scr F) : Vec F S64x32x256 .f32 := fun j => (lpOf X S ((j 0 : ℕ) + 1)).1 (ix2 (j 1) (j 2))
def hsOf (X : Ins F) (S : Scr F) : Vec F S64x32x256 .f32 := fun j => (lpOf X S ((j 0 : ℕ) + 1)).2 (ix2 (j 1) (j 2))

/-- What the first and the second point set up. -/
def enterFirst (X : Ins F) (S : Scr F) : Scr F := { S with h1 := k0_pay41, cn := setRow 0 (k0_pay42 X.x14) S.cn }
def enterSecond (S : Scr F) : Scr F :=
  { S with h2 := k0_pay43, pidx := k0_pay44, n0 := k0_pay45, n1 := k0_pay46, n2 := k0_pay47, n3 := k0_pay48, den := k0_pay49 }

/-- From the third point on the last position of the chunk before is added, when its code changes. -/
def flushLast (X : Ins F) (S : Scr F) : Scr F :=
  let v26 := idxOf X S
  let v50 := prevOf X S
  let v313 := k0_pay10 v26 v50
  { S with
    n0 := k0_pay12 v26 v50 S.hsst (getRow 0 S.scst) S.n0
    n1 := k0_pay15 v26 v50 S.hsst (getRow 1 S.scst) S.n1
    n2 := k0_pay18 v313 S.hsst (getRow 2 S.scst) S.n2
    n3 := k0_pay21 v313 S.hsst (getRow 3 S.scst) S.n3
    den := setRow 4 (k0_pay63 v313 (getRow 4 S.den)) (setRow 3 (k0_pay62 (k0_pay20 v313 (getRow 3 S.scst)) (getRow 3 S.den))
      (setRow 2 (k0_pay19 v313 (getRow 2 S.scst) (getRow 2 S.den)) (setRow 1 (k0_pay16 (k0_pay14 v26 v50 (getRow 1 S.scst)) (getRow 1 S.den))
        (setRow 0 (k0_pay13 v26 v50 (getRow 0 S.scst) (getRow 0 S.den)) S.den)))) }

/-- The scratch as the point's main part finds it. -/
def enter (i : grid0.Coords) (X : Ins F) (S : Scr F) : Scr F :=
  open Classical in if atFirst i then enterFirst X S else if atSecond i then enterSecond S else flushLast X S

/-- The main part, from the scratch `S` as it finds it. -/
def mainPart (i : grid0.Coords) (X : Ins F) (S : Scr F) : Scr F :=
  let w := BitVec.ofNat 32 (i 0).val
  let v26 := idxOf X S
  let v163 := hsOf X S
  let v172 := k0_pay76 v163 X.x19 X.x20
  let v174 := k0_pay77 X.x21
  let v177 := k0_pay78 v172 v174
  let v197 := k0_pay79 w v26
  { h1 := k0_pay70 (lpOf X S 64).1
    h2 := k0_pay71 (lpOf X S 64).2
    pidx := setRow 0 (k0_pay58 v26) S.pidx
    y := k0_pay75 w (k0_pay72 X.x1) 2#32 (k0_pay73 X.x1) (k0_pay74 X.x1) 1#32 0#32 (yOf X S)
    n0 := k0_pay82 w v26 v163 v172 v174 S.n0
    n1 := k0_pay87 v163 v177 v197 S.n1
    n2 := k0_pay93 S.n2 (k0_pay92 v163 v177 v197)
    n3 := k0_pay98 v163 v177 v197 S.n3
    den := setRow 4 (k0_pay2 v197 (getRow 4 S.den)) (setRow 3 (k0_pay99 v177 v197 (getRow 3 S.den))
      (setRow 2 (k0_pay94 (k0_pay91 v177 v197) (getRow 2 S.den)) (setRow 1 (k0_pay88 v177 v197 (getRow 1 S.den))
        (setRow 0 (k0_pay83 w v26 v172 v174 (getRow 0 S.den)) S.den))))
    scst := setRow 3 (k0_pay1 (k0_pay96 v177)) (setRow 2 (k0_pay95 (k0_pay90 v177)) (setRow 1 (k0_pay89 v177) (setRow 0 (k0_pay84 (k0_pay80 v172 v174)) S.scst)))
    hsst := k0_pay3 v163
    cn := S.cn }

/-- One grid point. -/
def stepScr (i : grid0.Coords) (X : Ins F) (S : Scr F) : Scr F := mainPart i X (enter i X S)

/-- The last point's output from the scratch `S` it leaves, one head after the other. -/
def IsOut (X : Ins F) (S : Scr F) (d : Vec F S32x1024 .f32) : Prop :=
  let v314 := k0_pay29 X.x20 X.x21
  let r4 := getRow 4 S.den
  let v347 := k0_pay33 (getRow 1 S.den)
  let v350 := k0_pay35 X.x20 X.x21
  let v383 := k0_pay38 v314 (k0_pay30 r4) (k0_pay32 X.x20 X.x21 r4 (getRow 0 S.den) S.n0) v347 (k0_pay34 r4) v350 S.n1 (getRow 2 S.den) S.n2
  let v391 := k0_pay39 (getRow 3 S.den)
  let v396 := k0_pay40 v314 (k0_pay30 r4)
  ∀ (b : Fin 32) (e : Fin 256),
    d (ix2 b ⟨e.val, by omega⟩) = k0_pay6 (k0_pay31 X.x20 X.x21 r4 (getRow 0 S.den) S.n0) v383 v391 v396 S.n3 (ix2 b e)
    ∧ d (ix2 b ⟨256 + e.val, by omega⟩) = k0_pay7 (k0_pay36 v347 (k0_pay34 r4) v350 S.n1) v383 v391 v396 S.n3 (ix2 b e)
    ∧ d (ix2 b ⟨512 + e.val, by omega⟩) = k0_pay8 (k0_pay37 v314 (k0_pay30 r4) (getRow 2 S.den) S.n2) v383 v391 v396 S.n3 (ix2 b e)
    ∧ d (ix2 b ⟨768 + e.val, by omega⟩) = k0_pay9 v383 v391 v396 S.n3 (ix2 b e)

end Cert.KernelIdeal.Hand

end
-- ==== Proof.KernelIdealVals.lean ====
/- The kernel's body at a grid point, with values: from the scratch `S` and the inputs `X` it leaves the scratch `stepScr i X S`. -/
module

public import proofs.«01_k».proof.Proof.KernelIdealSteps
public import Idealize.ShloMosaic.Lib.Tactic.Stretches

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Views
variable {sig : RefSig} {κ : Kind} {sp : Space} {e : EltTy} {Val : EltTy → Type} {s : Shape}

theorem writes_none (v : View sig κ sp s e) (f : v.ty.Contents Val) : v.writes Val f [] = f := rfl

theorem whole_read (v : View sig κ sp s e) (f : v.ty.Contents Val) (off : Fin s.rank → ℕ) (inb) :
    v.readAt Val (Rect.unit off (no_index s.size) inb).toLoadRect f = v.read Val f := View.readAt_full v f inb

theorem whole_write (v : View sig κ sp s e) (f : v.ty.Contents Val) (off : Fin s.rank → ℕ) (inb) (w : s.Idx → Val e) (L : List (View.Piece Val s e)) :
    v.read Val (v.writes Val f ((⟨Rect.unit off (no_index s.size) inb, w⟩ : View.Piece Val _ _) :: L)) = w := View.read_writes_full v f inb w L

theorem set0 (v : View sig κ sp S8x32 e) (f : v.ty.Contents Val) (inb) (w : S1x32.Idx → Val e) (L : List (View.Piece Val S8x32 e)) :
    v.read Val (v.writes Val f ((⟨Rect.unit (s := S8x32) ![0, 0] (no_index S1x32.size) inb, w⟩ : View.Piece Val _ _) :: L)) = setRow 0 w (v.read Val (v.writes Val f L)) :=
  read_set_row v f 0 inb w L
theorem get0 (v : View sig κ sp S8x32 e) (f : v.ty.Contents Val) (inb) :
    v.readAt Val (Rect.unit (s := S8x32) ![0, 0] (no_index S1x32.size) inb).toLoadRect f = getRow 0 (v.read Val f) :=
  readAt_row v f 0 inb
theorem set0w (v : View sig κ sp S8x1024 e) (f : v.ty.Contents Val) (inb) (w : S1x1024.Idx → Val e) (L : List (View.Piece Val S8x1024 e)) :
    v.read Val (v.writes Val f ((⟨Rect.unit (s := S8x1024) ![0, 0] (no_index S1x1024.size) inb, w⟩ : View.Piece Val _ _) :: L)) = setRow 0 w (v.read Val (v.writes Val f L)) :=
  read_set_row v f 0 inb w L
theorem get0w (v : View sig κ sp S8x1024 e) (f : v.ty.Contents Val) (inb) :
    v.readAt Val (Rect.unit (s := S8x1024) ![0, 0] (no_index S1x1024.size) inb).toLoadRect f = getRow 0 (v.read Val f) :=
  readAt_row v f 0 inb
theorem set1 (v : View sig κ sp S8x32 e) (f : v.ty.Contents Val) (inb) (w : S1x32.Idx → Val e) (L : List (View.Piece Val S8x32 e)) :
    v.read Val (v.writes Val f ((⟨Rect.unit (s := S8x32) ![1, 0] (no_index S1x32.size) inb, w⟩ : View.Piece Val _ _) :: L)) = setRow 1 w (v.read Val (v.writes Val f L)) :=
  read_set_row v f 1 inb w L
theorem get1 (v : View sig κ sp S8x32 e) (f : v.ty.Contents Val) (inb) :
    v.readAt Val (Rect.unit (s := S8x32) ![1, 0] (no_index S1x32.size) inb).toLoadRect f = getRow 1 (v.read Val f) :=
  readAt_row v f 1 inb
theorem set2 (v : View sig κ sp S8x32 e) (f : v.ty.Contents Val) (inb) (w : S1x32.Idx → Val e) (L : List (View.Piece Val S8x32 e)) :
    v.read Val (v.writes Val f ((⟨Rect.unit (s := S8x32) ![2, 0] (no_index S1x32.size) inb, w⟩ : View.Piece Val _ _) :: L)) = setRow 2 w (v.read Val (v.writes Val f L)) :=
  read_set_row v f 2 inb w L
theorem get2 (v : View sig κ sp S8x32 e) (f : v.ty.Contents Val) (inb) :
    v.readAt Val (Rect.unit (s := S8x32) ![2, 0] (no_index S1x32.size) inb).toLoadRect f = getRow 2 (v.read Val f) :=
  readAt_row v f 2 inb
theorem set3 (v : View sig κ sp S8x32 e) (f : v.ty.Contents Val) (inb) (w : S1x32.Idx → Val e) (L : List (View.Piece Val S8x32 e)) :
    v.read Val (v.writes Val f ((⟨Rect.unit (s := S8x32) ![3, 0] (no_index S1x32.size) inb, w⟩ : View.Piece Val _ _) :: L)) = setRow 3 w (v.read Val (v.writes Val f L)) :=
  read_set_row v f 3 inb w L
theorem get3 (v : View sig κ sp S8x32 e) (f : v.ty.Contents Val) (inb) :
    v.readAt Val (Rect.unit (s := S8x32) ![3, 0] (no_index S1x32.size) inb).toLoadRect f = getRow 3 (v.read Val f) :=
  readAt_row v f 3 inb
theorem set4 (v : View sig κ sp S8x32 e) (f : v.ty.Contents Val) (inb) (w : S1x32.Idx → Val e) (L : List (View.Piece Val S8x32 e)) :
    v.read Val (v.writes Val f ((⟨Rect.unit (s := S8x32) ![4, 0] (no_index S1x32.size) inb, w⟩ : View.Piece Val _ _) :: L)) = setRow 4 w (v.read Val (v.writes Val f L)) :=
  read_set_row v f 4 inb w L
theorem get4 (v : View sig κ sp S8x32 e) (f : v.ty.Contents Val) (inb) :
    v.readAt Val (Rect.unit (s := S8x32) ![4, 0] (no_index S1x32.size) inb).toLoadRect f = getRow 4 (v.read Val f) :=
  readAt_row v f 4 inb

/-- Four column blocks of a vector of thirty-two rows, each read back. -/
theorem out_blocks (v : View sig κ sp S32x1024 e) (f : v.ty.Contents Val) (i0 i1 i2 i3) (w0 w1 w2 w3 : S32x256.Idx → Val e) (b : Fin 32) (d : Fin 256) :
    let X := v.read Val (v.writes Val f [(⟨Rect.unit (s := S32x1024) ![0, 768] S32x256.size i3, w3⟩ : View.Piece Val _ _),
      ⟨Rect.unit (s := S32x1024) ![0, 512] S32x256.size i2, w2⟩, ⟨Rect.unit (s := S32x1024) ![0, 256] S32x256.size i1, w1⟩,
      ⟨Rect.unit (s := S32x1024) ![0, 0] S32x256.size i0, w0⟩])
    X (ix2 b ⟨d.val, by omega⟩) = w0 (ix2 b d) ∧ X (ix2 b ⟨256 + d.val, by omega⟩) = w1 (ix2 b d)
      ∧ X (ix2 b ⟨512 + d.val, by omega⟩) = w2 (ix2 b d) ∧ X (ix2 b ⟨768 + d.val, by omega⟩) = w3 (ix2 b d) := by
  have hit : ∀ (o : ℕ) (inb) (w : S32x256.Idx → Val e) (L : List (View.Piece Val S32x1024 e)) (q : Fin 1024), q.val = o + d.val →
      v.read Val (v.writes Val f ((⟨Rect.unit (s := S32x1024) ![0, o] S32x256.size inb, w⟩ : View.Piece Val _ _) :: L)) (ix2 b q) = w (ix2 b d) := by
    intro o inb w L q hq
    refine View.read_writes_cons_unit_of_mem v f inb w L (ix2 b q) (ix2 b d) rfl fun a => ?_
    match a with
    | ⟨0, _⟩ => exact (Nat.zero_add _).symm
    | ⟨1, _⟩ => exact hq
  have miss : ∀ (o : ℕ) (inb) (w : S32x256.Idx → Val e) (L : List (View.Piece Val S32x1024 e)) (q : Fin 1024), q.val < o →
      v.read Val (v.writes Val f ((⟨Rect.unit (s := S32x1024) ![0, o] S32x256.size inb, w⟩ : View.Piece Val _ _) :: L)) (ix2 b q)
        = v.read Val (v.writes Val f L) (ix2 b q) := by
    intro o inb w L q hq
    exact View.read_writes_cons_unit_of_not_mem v f inb w L (ix2 b q) rfl (1 : Fin 2) (Or.inl hq)
  refine ⟨?_, ?_, ?_, ?_⟩
  · rw [miss 768 i3 w3 _ _ (by show d.val < 768; omega), miss 512 i2 w2 _ _ (by show d.val < 512; omega), miss 256 i1 w1 _ _ (by show d.val < 256; omega)]
    exact hit 0 i0 w0 _ _ (Nat.zero_add _).symm
  · rw [miss 768 i3 w3 _ _ (by show 256 + d.val < 768; omega), miss 512 i2 w2 _ _ (by show 256 + d.val < 512; omega)]
    exact hit 256 i1 w1 _ _ rfl
  · rw [miss 768 i3 w3 _ _ (by show 512 + d.val < 768; omega)]
    exact hit 512 i2 w2 _ _ rfl
  · exact hit 768 i3 w3 _ _ rfl

end Views

theorem yOf_eq (X : Ins F) (S : Scr F) : yOf X S = fun j => (lpOf X S ((j 0 : ℕ) + 1)).1 (ix2 (j 1) (j 2)) := rfl
theorem hsOf_eq (X : Ins F) (S : Scr F) : hsOf X S = fun j => (lpOf X S ((j 0 : ℕ) + 1)).2 (ix2 (j 1) (j 2)) := rfl

theorem loop_pair (𝒱 : Variants) (c : Dev nD) (bd : Option 𝒱.V) (i : grid0.Coords)
(arg1 : Memref sig .tc .vmem S32x1 .i32) (harg1 : arg1.IsWhole)
    (arg2 : Memref sig .tc .vmem S64x32x128 .f32) (harg2 : arg2.IsWhole)
    (arg3 : Memref sig .tc .vmem S64x32x128 .f32) (harg3 : arg3.IsWhole)
    (arg4 : Memref sig .tc .vmem S64x32x128 .f32) (harg4 : arg4.IsWhole)
    (arg5 : Memref sig .tc .vmem S128x256 .f32) (harg5 : arg5.IsWhole)
    (arg6 : Memref sig .tc .vmem S128x256 .f32) (harg6 : arg6.IsWhole)
    (arg7 : Memref sig .tc .vmem S128x256 .f32) (harg7 : arg7.IsWhole)
    (arg8 : Memref sig .tc .vmem S1x256 .f32) (harg8 : arg8.IsWhole)
    (arg9 : Memref sig .tc .vmem S256x768 .f32) (harg9 : arg9.IsWhole)
    (arg10 : Memref sig .tc .vmem S1x768 .f32) (harg10 : arg10.IsWhole)
    (arg11 : Memref sig .tc .vmem S256x768 .f32) (harg11 : arg11.IsWhole)
    (arg12 : Memref sig .tc .vmem S1x768 .f32) (harg12 : arg12.IsWhole)
    (arg13 : Memref sig .tc .vmem S1024x256 .f32) (harg13 : arg13.IsWhole)
    (arg14 : Memref sig .tc .vmem S256x1024 .f32) (harg14 : arg14.IsWhole)
    (arg15 : Memref sig .tc .vmem S256x768 .f32) (harg15 : arg15.IsWhole)
    (arg16 : Memref sig .tc .vmem S1x768 .f32) (harg16 : arg16.IsWhole)
    (arg17 : Memref sig .tc .vmem S256x768 .f32) (harg17 : arg17.IsWhole)
    (arg18 : Memref sig .tc .vmem S1x768 .f32) (harg18 : arg18.IsWhole)
    (arg19 : Memref sig .tc .vmem S256x512 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S32x1024 .f32) (harg22 : arg22.IsWhole)
    (arg23 : Memref sig .tc .vmem S32x256 .f32) (harg23 : arg23.IsWhole)
    (arg24 : Memref sig .tc .vmem S32x256 .f32) (harg24 : arg24.IsWhole)
    (arg25 : Memref sig .tc .vmem S8x32 .i32) (harg25 : arg25.IsWhole)
    (arg26 : Memref sig .tc .vmem S64x32x768 .f32) (harg26 : arg26.IsWhole)
    (arg27 : Memref sig .tc .vmem S64x32x768 .f32) (harg27 : arg27.IsWhole)
    (arg28 : Memref sig .tc .vmem S64x32x256 .f32) (harg28 : arg28.IsWhole)
    (arg29 : Memref sig .tc .vmem S64x32x256 .f32) (harg29 : arg29.IsWhole)
    (arg30 : Memref sig .tc .vmem S64x32x256 .f32) (harg30 : arg30.IsWhole)
    (arg31 : Memref sig .tc .vmem S64x32 .i32) (harg31 : arg31.IsWhole)
    (arg32 : Memref sig .tc .vmem S32x256 .f32) (harg32 : arg32.IsWhole)
    (arg33 : Memref sig .tc .vmem S32x256 .f32) (harg33 : arg33.IsWhole)
    (arg34 : Memref sig .tc .vmem S32x256 .f32) (harg34 : arg34.IsWhole)
    (arg35 : Memref sig .tc .vmem S32x256 .f32) (harg35 : arg35.IsWhole)
    (arg36 : Memref sig .tc .vmem S8x32 .f32) (harg36 : arg36.IsWhole)
    (arg37 : Memref sig .tc .vmem S8x32 .f32) (harg37 : arg37.IsWhole)
    (arg38 : Memref sig .tc .vmem S32x256 .f32) (harg38 : arg38.IsWhole)
    (arg39 : Memref sig .tc .vmem S8x1024 .f32) (harg39 : arg39.IsWhole)
    (v102 : Vec F S256x768 .f32) (v104 : Vec F S1x768 .f32) (v106 : Vec F S256x768 .f32) (v108 : Vec F S1x768 .f32)
    (X26 : BufTy.Contents (Elt F) arg26.view.ty) (X27 : BufTy.Contents (Elt F) arg27.view.ty) (X30 : BufTy.Contents (Elt F) arg30.view.ty)
    (init : Vec F S32x256 .f32 × Vec F S32x256 .f32) (f28 : BufTy.Contents (Elt F) arg28.view.ty) (f29 : BufTy.Contents (Elt F) arg29.view.ty) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init (Scf.trips k0_t1_loop.lb k0_t1_loop.ub k0_t1_loop.st)).1 = loopSt v102 v104 v106 v108 (arg26.view.read (Elt F) X26) (arg27.view.read (Elt F) X27) (arg30.view.read (Elt F) X30) init 64
    ∧ arg28.view.read (Elt F) (arg28.view.writes (Elt F) f28 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init (Scf.trips k0_t1_loop.lb k0_t1_loop.ub k0_t1_loop.st)).2.1)
      = (fun j => (loopSt v102 v104 v106 v108 (arg26.view.read (Elt F) X26) (arg27.view.read (Elt F) X27) (arg30.view.read (Elt F) X30) init ((j 0 : ℕ) + 1)).1 (ix2 (j 1) (j 2)))
    ∧ arg29.view.read (Elt F) (arg29.view.writes (Elt F) f29 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init (Scf.trips k0_t1_loop.lb k0_t1_loop.ub k0_t1_loop.st)).2.2)
      = (fun j => (loopSt v102 v104 v106 v108 (arg26.view.read (Elt F) X26) (arg27.view.read (Elt F) X27) (arg30.view.read (Elt F) X30) init ((j 0 : ℕ) + 1)).2 (ix2 (j 1) (j 2))) := by
  have h64 : Scf.trips k0_t1_loop.lb k0_t1_loop.ub k0_t1_loop.st = 64 := by decide
  rw [h64]
  have hk : 64 ≤ k0_t1_loop.trips := Nat.le_of_eq h64.symm
  have hs := fun y hy => loop_slabs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init 64 hk f28 f29 y hy
  exact ⟨loop_carried (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v102 v104 v106 v108 X26 X27 X30 init 64 hk,
    funext fun y => (hs y (y 0).isLt).1, funext fun y => (hs y (y 0).isLt).2⟩

set_option maxHeartbeats 40000000 in
/-- The body's run at the first point. -/
theorem vals_first (c : Dev nD) (i : grid0.Coords)
(arg1 : Memref sig .tc .vmem S32x1 .i32) (harg1 : arg1.IsWhole)
    (arg2 : Memref sig .tc .vmem S64x32x128 .f32) (harg2 : arg2.IsWhole)
    (arg3 : Memref sig .tc .vmem S64x32x128 .f32) (harg3 : arg3.IsWhole)
    (arg4 : Memref sig .tc .vmem S64x32x128 .f32) (harg4 : arg4.IsWhole)
    (arg5 : Memref sig .tc .vmem S128x256 .f32) (harg5 : arg5.IsWhole)
    (arg6 : Memref sig .tc .vmem S128x256 .f32) (harg6 : arg6.IsWhole)
    (arg7 : Memref sig .tc .vmem S128x256 .f32) (harg7 : arg7.IsWhole)
    (arg8 : Memref sig .tc .vmem S1x256 .f32) (harg8 : arg8.IsWhole)
    (arg9 : Memref sig .tc .vmem S256x768 .f32) (harg9 : arg9.IsWhole)
    (arg10 : Memref sig .tc .vmem S1x768 .f32) (harg10 : arg10.IsWhole)
    (arg11 : Memref sig .tc .vmem S256x768 .f32) (harg11 : arg11.IsWhole)
    (arg12 : Memref sig .tc .vmem S1x768 .f32) (harg12 : arg12.IsWhole)
    (arg13 : Memref sig .tc .vmem S1024x256 .f32) (harg13 : arg13.IsWhole)
    (arg14 : Memref sig .tc .vmem S256x1024 .f32) (harg14 : arg14.IsWhole)
    (arg15 : Memref sig .tc .vmem S256x768 .f32) (harg15 : arg15.IsWhole)
    (arg16 : Memref sig .tc .vmem S1x768 .f32) (harg16 : arg16.IsWhole)
    (arg17 : Memref sig .tc .vmem S256x768 .f32) (harg17 : arg17.IsWhole)
    (arg18 : Memref sig .tc .vmem S1x768 .f32) (harg18 : arg18.IsWhole)
    (arg19 : Memref sig .tc .vmem S256x512 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S32x1024 .f32) (harg22 : arg22.IsWhole)
    (arg23 : Memref sig .tc .vmem S32x256 .f32) (harg23 : arg23.IsWhole)
    (arg24 : Memref sig .tc .vmem S32x256 .f32) (harg24 : arg24.IsWhole)
    (arg25 : Memref sig .tc .vmem S8x32 .i32) (harg25 : arg25.IsWhole)
    (arg26 : Memref sig .tc .vmem S64x32x768 .f32) (harg26 : arg26.IsWhole)
    (arg27 : Memref sig .tc .vmem S64x32x768 .f32) (harg27 : arg27.IsWhole)
    (arg28 : Memref sig .tc .vmem S64x32x256 .f32) (harg28 : arg28.IsWhole)
    (arg29 : Memref sig .tc .vmem S64x32x256 .f32) (harg29 : arg29.IsWhole)
    (arg30 : Memref sig .tc .vmem S64x32x256 .f32) (harg30 : arg30.IsWhole)
    (arg31 : Memref sig .tc .vmem S64x32 .i32) (harg31 : arg31.IsWhole)
    (arg32 : Memref sig .tc .vmem S32x256 .f32) (harg32 : arg32.IsWhole)
    (arg33 : Memref sig .tc .vmem S32x256 .f32) (harg33 : arg33.IsWhole)
    (arg34 : Memref sig .tc .vmem S32x256 .f32) (harg34 : arg34.IsWhole)
    (arg35 : Memref sig .tc .vmem S32x256 .f32) (harg35 : arg35.IsWhole)
    (arg36 : Memref sig .tc .vmem S8x32 .f32) (harg36 : arg36.IsWhole)
    (arg37 : Memref sig .tc .vmem S8x32 .f32) (harg37 : arg37.IsWhole)
    (arg38 : Memref sig .tc .vmem S32x256 .f32) (harg38 : arg38.IsWhole)
    (arg39 : Memref sig .tc .vmem S8x1024 .f32) (harg39 : arg39.IsWhole)
    (X : Ins F) (S : Scr F) (h1 : atFirst i) (h2 : ¬atSecond i) (h3 : ¬fromThird i) (h4 : ¬atLast i)
    (K : PUnit → sProp 𝕄) :
    iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, owns (c : Thread nD τ) arg22 fullShare d) ∗ owns (c : Thread nD τ) arg23 fullShare S.h1 ∗ owns (c : Thread nD τ) arg24 fullShare S.h2 ∗
        owns (c : Thread nD τ) arg25 fullShare S.pidx ∗ (∃ d, owns (c : Thread nD τ) arg26 fullShare d) ∗ (∃ d, owns (c : Thread nD τ) arg27 fullShare d) ∗
        owns (c : Thread nD τ) arg28 fullShare S.y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare S.n0 ∗ owns (c : Thread nD τ) arg33 fullShare S.n1 ∗
        owns (c : Thread nD τ) arg34 fullShare S.n2 ∗ owns (c : Thread nD τ) arg35 fullShare S.n3 ∗ owns (c : Thread nD τ) arg36 fullShare S.den ∗
        owns (c : Thread nD τ) arg37 fullShare S.scst ∗ owns (c : Thread nD τ) arg38 fullShare S.hsst ∗ owns (c : Thread nD τ) arg39 fullShare S.cn
      ∗ (iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, ⌜atLast i → IsOut X (stepScr i X S) d⌝ ∗ owns (c : Thread nD τ) arg22 fullShare d) ∗ owns (c : Thread nD τ) arg23 fullShare (stepScr i X S).h1 ∗ owns (c : Thread nD τ) arg24 fullShare (stepScr i X S).h2 ∗
        owns (c : Thread nD τ) arg25 fullShare (stepScr i X S).pidx ∗ (∃ d, owns (c : Thread nD τ) arg26 fullShare d) ∗ (∃ d, owns (c : Thread nD τ) arg27 fullShare d) ∗
        owns (c : Thread nD τ) arg28 fullShare (stepScr i X S).y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare (stepScr i X S).n0 ∗ owns (c : Thread nD τ) arg33 fullShare (stepScr i X S).n1 ∗
        owns (c : Thread nD τ) arg34 fullShare (stepScr i X S).n2 ∗ owns (c : Thread nD τ) arg35 fullShare (stepScr i X S).n3 ∗ owns (c : Thread nD τ) arg36 fullShare (stepScr i X S).den ∗
        owns (c : Thread nD τ) arg37 fullShare (stepScr i X S).scst ∗ owns (c : Thread nD τ) arg38 fullShare (stepScr i X S).hsst ∗ owns (c : Thread nD τ) arg39 fullShare (stepScr i X S).cn) -∗ K ⟨⟩))
      ⊢ wp frame (wpE (defs₀ (F := F)) Variants.none c none) Set.univ (cc0__fused i
        arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  have hstep : stepScr i X S = mainPart i X (enterFirst X S) := by
    rw [stepScr, enter, if_pos h1]
  have hL := fun a b a' b' X26 X27 X30 init f28 f29 => (loop_pair (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 a b a' b' X26 X27 X30 init f28 f29)
  have hC := fun a b a' b' X26 X27 X30 init => (hL a b a' b' X26 X27 X30 init arg28.view.junk arg29.view.junk).1
  have hY := fun a b a' b' X26 X27 X30 init f28 => (hL a b a' b' X26 X27 X30 init f28 arg29.view.junk).2.1
  have hZ := fun a b a' b' X26 X27 X30 init f29 => (hL a b a' b' X26 X27 X30 init arg28.view.junk f29).2.2
  simp only [cc0__fused_eq_skeleton]; unfold cc0__fused_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%f23, %hf23, H23⟩, ⟨%f24, %hf24, H24⟩, ⟨%f25, %hf25, H25⟩, ⟨%d26, %f26, -, H26⟩, ⟨%d27, %f27, -, H27⟩, ⟨%f28, %hf28, H28⟩, ⟨%d29, %f29, -, H29⟩, ⟨%d30, %f30, -, H30⟩, ⟨%d31, %f31, -, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, Hk⟩
  · sl_exec
    sl_step
    iapply Hk
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact hf10
      iexact H10
    isplitl [H11]
    · iexists _; isplitr
      · ipureintro; exact hf11
      iexact H11
    isplitl [H12]
    · iexists _; isplitr
      · ipureintro; exact hf12
      iexact H12
    isplitl [H13]
    · iexists _; isplitr
      · ipureintro; exact hf13
      iexact H13
    isplitl [H14]
    · iexists _; isplitr
      · ipureintro; exact hf14
      iexact H14
    isplitl [H15]
    · iexists _; isplitr
      · ipureintro; exact hf15
      iexact H15
    isplitl [H16]
    · iexists _; isplitr
      · ipureintro; exact hf16
      iexact H16
    isplitl [H17]
    · iexists _; isplitr
      · ipureintro; exact hf17
      iexact H17
    isplitl [H18]
    · iexists _; isplitr
      · ipureintro; exact hf18
      iexact H18
    isplitl [H19]
    · iexists _; isplitr
      · ipureintro; exact hf19
      iexact H19
    isplitl [H20]
    · iexists _; isplitr
      · ipureintro; exact hf20
      iexact H20
    isplitl [H21]
    · iexists _; isplitr
      · ipureintro; exact hf21
      iexact H21
    isplitl [H22]
    · iexists _; isplitr; swap
      · iexists _; isplitr; swap; · iexact H22
        ipureintro; rfl
      ipureintro
      exact fun h => absurd h h4
    isplitl [H23]
    · iexists _; isplitr; swap; · iexact H23
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H24]
    · iexists _; isplitr; swap; · iexact H24
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H25]
    · iexists _; isplitr; swap; · iexact H25
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H26]
    · iexists _, _; isplitr; swap; · iexact H26
      ipureintro; rfl
    isplitl [H27]
    · iexists _, _; isplitr; swap; · iexact H27
      ipureintro; rfl
    isplitl [H28]
    · iexists _; isplitr; swap; · iexact H28
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _; isplitr; swap; · iexact H32
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H33]
    · iexists _; isplitr; swap; · iexact H33
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H34]
    · iexists _; isplitr; swap; · iexact H34
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H35]
    · iexists _; isplitr; swap; · iexact H35
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H36]
    · iexists _; isplitr; swap; · iexact H36
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H37]
    · iexists _; isplitr; swap; · iexact H37
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H38]
    · iexists _; isplitr; swap; · iexact H38
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    · iexists _; isplitr; swap; · iexact H39
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]

set_option maxHeartbeats 40000000 in
/-- The body's run at the second point. -/
theorem vals_second (c : Dev nD) (i : grid0.Coords)
(arg1 : Memref sig .tc .vmem S32x1 .i32) (harg1 : arg1.IsWhole)
    (arg2 : Memref sig .tc .vmem S64x32x128 .f32) (harg2 : arg2.IsWhole)
    (arg3 : Memref sig .tc .vmem S64x32x128 .f32) (harg3 : arg3.IsWhole)
    (arg4 : Memref sig .tc .vmem S64x32x128 .f32) (harg4 : arg4.IsWhole)
    (arg5 : Memref sig .tc .vmem S128x256 .f32) (harg5 : arg5.IsWhole)
    (arg6 : Memref sig .tc .vmem S128x256 .f32) (harg6 : arg6.IsWhole)
    (arg7 : Memref sig .tc .vmem S128x256 .f32) (harg7 : arg7.IsWhole)
    (arg8 : Memref sig .tc .vmem S1x256 .f32) (harg8 : arg8.IsWhole)
    (arg9 : Memref sig .tc .vmem S256x768 .f32) (harg9 : arg9.IsWhole)
    (arg10 : Memref sig .tc .vmem S1x768 .f32) (harg10 : arg10.IsWhole)
    (arg11 : Memref sig .tc .vmem S256x768 .f32) (harg11 : arg11.IsWhole)
    (arg12 : Memref sig .tc .vmem S1x768 .f32) (harg12 : arg12.IsWhole)
    (arg13 : Memref sig .tc .vmem S1024x256 .f32) (harg13 : arg13.IsWhole)
    (arg14 : Memref sig .tc .vmem S256x1024 .f32) (harg14 : arg14.IsWhole)
    (arg15 : Memref sig .tc .vmem S256x768 .f32) (harg15 : arg15.IsWhole)
    (arg16 : Memref sig .tc .vmem S1x768 .f32) (harg16 : arg16.IsWhole)
    (arg17 : Memref sig .tc .vmem S256x768 .f32) (harg17 : arg17.IsWhole)
    (arg18 : Memref sig .tc .vmem S1x768 .f32) (harg18 : arg18.IsWhole)
    (arg19 : Memref sig .tc .vmem S256x512 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S32x1024 .f32) (harg22 : arg22.IsWhole)
    (arg23 : Memref sig .tc .vmem S32x256 .f32) (harg23 : arg23.IsWhole)
    (arg24 : Memref sig .tc .vmem S32x256 .f32) (harg24 : arg24.IsWhole)
    (arg25 : Memref sig .tc .vmem S8x32 .i32) (harg25 : arg25.IsWhole)
    (arg26 : Memref sig .tc .vmem S64x32x768 .f32) (harg26 : arg26.IsWhole)
    (arg27 : Memref sig .tc .vmem S64x32x768 .f32) (harg27 : arg27.IsWhole)
    (arg28 : Memref sig .tc .vmem S64x32x256 .f32) (harg28 : arg28.IsWhole)
    (arg29 : Memref sig .tc .vmem S64x32x256 .f32) (harg29 : arg29.IsWhole)
    (arg30 : Memref sig .tc .vmem S64x32x256 .f32) (harg30 : arg30.IsWhole)
    (arg31 : Memref sig .tc .vmem S64x32 .i32) (harg31 : arg31.IsWhole)
    (arg32 : Memref sig .tc .vmem S32x256 .f32) (harg32 : arg32.IsWhole)
    (arg33 : Memref sig .tc .vmem S32x256 .f32) (harg33 : arg33.IsWhole)
    (arg34 : Memref sig .tc .vmem S32x256 .f32) (harg34 : arg34.IsWhole)
    (arg35 : Memref sig .tc .vmem S32x256 .f32) (harg35 : arg35.IsWhole)
    (arg36 : Memref sig .tc .vmem S8x32 .f32) (harg36 : arg36.IsWhole)
    (arg37 : Memref sig .tc .vmem S8x32 .f32) (harg37 : arg37.IsWhole)
    (arg38 : Memref sig .tc .vmem S32x256 .f32) (harg38 : arg38.IsWhole)
    (arg39 : Memref sig .tc .vmem S8x1024 .f32) (harg39 : arg39.IsWhole)
    (X : Ins F) (S : Scr F) (h1 : ¬atFirst i) (h2 : atSecond i) (h3 : ¬fromThird i) (h4 : ¬atLast i)
    (K : PUnit → sProp 𝕄) :
    iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, owns (c : Thread nD τ) arg22 fullShare d) ∗ owns (c : Thread nD τ) arg23 fullShare S.h1 ∗ owns (c : Thread nD τ) arg24 fullShare S.h2 ∗
        owns (c : Thread nD τ) arg25 fullShare S.pidx ∗ (∃ d, owns (c : Thread nD τ) arg26 fullShare d) ∗ (∃ d, owns (c : Thread nD τ) arg27 fullShare d) ∗
        owns (c : Thread nD τ) arg28 fullShare S.y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare S.n0 ∗ owns (c : Thread nD τ) arg33 fullShare S.n1 ∗
        owns (c : Thread nD τ) arg34 fullShare S.n2 ∗ owns (c : Thread nD τ) arg35 fullShare S.n3 ∗ owns (c : Thread nD τ) arg36 fullShare S.den ∗
        owns (c : Thread nD τ) arg37 fullShare S.scst ∗ owns (c : Thread nD τ) arg38 fullShare S.hsst ∗ owns (c : Thread nD τ) arg39 fullShare S.cn
      ∗ (iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, ⌜atLast i → IsOut X (stepScr i X S) d⌝ ∗ owns (c : Thread nD τ) arg22 fullShare d) ∗ owns (c : Thread nD τ) arg23 fullShare (stepScr i X S).h1 ∗ owns (c : Thread nD τ) arg24 fullShare (stepScr i X S).h2 ∗
        owns (c : Thread nD τ) arg25 fullShare (stepScr i X S).pidx ∗ (∃ d, owns (c : Thread nD τ) arg26 fullShare d) ∗ (∃ d, owns (c : Thread nD τ) arg27 fullShare d) ∗
        owns (c : Thread nD τ) arg28 fullShare (stepScr i X S).y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare (stepScr i X S).n0 ∗ owns (c : Thread nD τ) arg33 fullShare (stepScr i X S).n1 ∗
        owns (c : Thread nD τ) arg34 fullShare (stepScr i X S).n2 ∗ owns (c : Thread nD τ) arg35 fullShare (stepScr i X S).n3 ∗ owns (c : Thread nD τ) arg36 fullShare (stepScr i X S).den ∗
        owns (c : Thread nD τ) arg37 fullShare (stepScr i X S).scst ∗ owns (c : Thread nD τ) arg38 fullShare (stepScr i X S).hsst ∗ owns (c : Thread nD τ) arg39 fullShare (stepScr i X S).cn) -∗ K ⟨⟩))
      ⊢ wp frame (wpE (defs₀ (F := F)) Variants.none c none) Set.univ (cc0__fused i
        arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  have hstep : stepScr i X S = mainPart i X (enterSecond S) := by
    rw [stepScr, enter, if_neg h1, if_pos h2]
  have hL := fun a b a' b' X26 X27 X30 init f28 f29 => (loop_pair (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 a b a' b' X26 X27 X30 init f28 f29)
  have hC := fun a b a' b' X26 X27 X30 init => (hL a b a' b' X26 X27 X30 init arg28.view.junk arg29.view.junk).1
  have hY := fun a b a' b' X26 X27 X30 init f28 => (hL a b a' b' X26 X27 X30 init f28 arg29.view.junk).2.1
  have hZ := fun a b a' b' X26 X27 X30 init f29 => (hL a b a' b' X26 X27 X30 init arg28.view.junk f29).2.2
  simp only [cc0__fused_eq_skeleton]; unfold cc0__fused_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%f23, %hf23, H23⟩, ⟨%f24, %hf24, H24⟩, ⟨%f25, %hf25, H25⟩, ⟨%d26, %f26, -, H26⟩, ⟨%d27, %f27, -, H27⟩, ⟨%f28, %hf28, H28⟩, ⟨%d29, %f29, -, H29⟩, ⟨%d30, %f30, -, H30⟩, ⟨%d31, %f31, -, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, Hk⟩
  · sl_exec
    sl_step
    iapply Hk
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact hf10
      iexact H10
    isplitl [H11]
    · iexists _; isplitr
      · ipureintro; exact hf11
      iexact H11
    isplitl [H12]
    · iexists _; isplitr
      · ipureintro; exact hf12
      iexact H12
    isplitl [H13]
    · iexists _; isplitr
      · ipureintro; exact hf13
      iexact H13
    isplitl [H14]
    · iexists _; isplitr
      · ipureintro; exact hf14
      iexact H14
    isplitl [H15]
    · iexists _; isplitr
      · ipureintro; exact hf15
      iexact H15
    isplitl [H16]
    · iexists _; isplitr
      · ipureintro; exact hf16
      iexact H16
    isplitl [H17]
    · iexists _; isplitr
      · ipureintro; exact hf17
      iexact H17
    isplitl [H18]
    · iexists _; isplitr
      · ipureintro; exact hf18
      iexact H18
    isplitl [H19]
    · iexists _; isplitr
      · ipureintro; exact hf19
      iexact H19
    isplitl [H20]
    · iexists _; isplitr
      · ipureintro; exact hf20
      iexact H20
    isplitl [H21]
    · iexists _; isplitr
      · ipureintro; exact hf21
      iexact H21
    isplitl [H22]
    · iexists _; isplitr; swap
      · iexists _; isplitr; swap; · iexact H22
        ipureintro; rfl
      ipureintro
      exact fun h => absurd h h4
    isplitl [H23]
    · iexists _; isplitr; swap; · iexact H23
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H24]
    · iexists _; isplitr; swap; · iexact H24
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H25]
    · iexists _; isplitr; swap; · iexact H25
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H26]
    · iexists _, _; isplitr; swap; · iexact H26
      ipureintro; rfl
    isplitl [H27]
    · iexists _, _; isplitr; swap; · iexact H27
      ipureintro; rfl
    isplitl [H28]
    · iexists _; isplitr; swap; · iexact H28
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _; isplitr; swap; · iexact H32
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H33]
    · iexists _; isplitr; swap; · iexact H33
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H34]
    · iexists _; isplitr; swap; · iexact H34
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H35]
    · iexists _; isplitr; swap; · iexact H35
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H36]
    · iexists _; isplitr; swap; · iexact H36
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H37]
    · iexists _; isplitr; swap; · iexact H37
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H38]
    · iexists _; isplitr; swap; · iexact H38
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    · iexists _; isplitr; swap; · iexact H39
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]

set_option maxHeartbeats 40000000 in
/-- The body's run at the middle points. -/
theorem vals_middle (c : Dev nD) (i : grid0.Coords)
(arg1 : Memref sig .tc .vmem S32x1 .i32) (harg1 : arg1.IsWhole)
    (arg2 : Memref sig .tc .vmem S64x32x128 .f32) (harg2 : arg2.IsWhole)
    (arg3 : Memref sig .tc .vmem S64x32x128 .f32) (harg3 : arg3.IsWhole)
    (arg4 : Memref sig .tc .vmem S64x32x128 .f32) (harg4 : arg4.IsWhole)
    (arg5 : Memref sig .tc .vmem S128x256 .f32) (harg5 : arg5.IsWhole)
    (arg6 : Memref sig .tc .vmem S128x256 .f32) (harg6 : arg6.IsWhole)
    (arg7 : Memref sig .tc .vmem S128x256 .f32) (harg7 : arg7.IsWhole)
    (arg8 : Memref sig .tc .vmem S1x256 .f32) (harg8 : arg8.IsWhole)
    (arg9 : Memref sig .tc .vmem S256x768 .f32) (harg9 : arg9.IsWhole)
    (arg10 : Memref sig .tc .vmem S1x768 .f32) (harg10 : arg10.IsWhole)
    (arg11 : Memref sig .tc .vmem S256x768 .f32) (harg11 : arg11.IsWhole)
    (arg12 : Memref sig .tc .vmem S1x768 .f32) (harg12 : arg12.IsWhole)
    (arg13 : Memref sig .tc .vmem S1024x256 .f32) (harg13 : arg13.IsWhole)
    (arg14 : Memref sig .tc .vmem S256x1024 .f32) (harg14 : arg14.IsWhole)
    (arg15 : Memref sig .tc .vmem S256x768 .f32) (harg15 : arg15.IsWhole)
    (arg16 : Memref sig .tc .vmem S1x768 .f32) (harg16 : arg16.IsWhole)
    (arg17 : Memref sig .tc .vmem S256x768 .f32) (harg17 : arg17.IsWhole)
    (arg18 : Memref sig .tc .vmem S1x768 .f32) (harg18 : arg18.IsWhole)
    (arg19 : Memref sig .tc .vmem S256x512 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S32x1024 .f32) (harg22 : arg22.IsWhole)
    (arg23 : Memref sig .tc .vmem S32x256 .f32) (harg23 : arg23.IsWhole)
    (arg24 : Memref sig .tc .vmem S32x256 .f32) (harg24 : arg24.IsWhole)
    (arg25 : Memref sig .tc .vmem S8x32 .i32) (harg25 : arg25.IsWhole)
    (arg26 : Memref sig .tc .vmem S64x32x768 .f32) (harg26 : arg26.IsWhole)
    (arg27 : Memref sig .tc .vmem S64x32x768 .f32) (harg27 : arg27.IsWhole)
    (arg28 : Memref sig .tc .vmem S64x32x256 .f32) (harg28 : arg28.IsWhole)
    (arg29 : Memref sig .tc .vmem S64x32x256 .f32) (harg29 : arg29.IsWhole)
    (arg30 : Memref sig .tc .vmem S64x32x256 .f32) (harg30 : arg30.IsWhole)
    (arg31 : Memref sig .tc .vmem S64x32 .i32) (harg31 : arg31.IsWhole)
    (arg32 : Memref sig .tc .vmem S32x256 .f32) (harg32 : arg32.IsWhole)
    (arg33 : Memref sig .tc .vmem S32x256 .f32) (harg33 : arg33.IsWhole)
    (arg34 : Memref sig .tc .vmem S32x256 .f32) (harg34 : arg34.IsWhole)
    (arg35 : Memref sig .tc .vmem S32x256 .f32) (harg35 : arg35.IsWhole)
    (arg36 : Memref sig .tc .vmem S8x32 .f32) (harg36 : arg36.IsWhole)
    (arg37 : Memref sig .tc .vmem S8x32 .f32) (harg37 : arg37.IsWhole)
    (arg38 : Memref sig .tc .vmem S32x256 .f32) (harg38 : arg38.IsWhole)
    (arg39 : Memref sig .tc .vmem S8x1024 .f32) (harg39 : arg39.IsWhole)
    (X : Ins F) (S : Scr F) (h1 : ¬atFirst i) (h2 : ¬atSecond i) (h3 : fromThird i) (h4 : ¬atLast i)
    (K : PUnit → sProp 𝕄) :
    iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, owns (c : Thread nD τ) arg22 fullShare d) ∗ owns (c : Thread nD τ) arg23 fullShare S.h1 ∗ owns (c : Thread nD τ) arg24 fullShare S.h2 ∗
        owns (c : Thread nD τ) arg25 fullShare S.pidx ∗ (∃ d, owns (c : Thread nD τ) arg26 fullShare d) ∗ (∃ d, owns (c : Thread nD τ) arg27 fullShare d) ∗
        owns (c : Thread nD τ) arg28 fullShare S.y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare S.n0 ∗ owns (c : Thread nD τ) arg33 fullShare S.n1 ∗
        owns (c : Thread nD τ) arg34 fullShare S.n2 ∗ owns (c : Thread nD τ) arg35 fullShare S.n3 ∗ owns (c : Thread nD τ) arg36 fullShare S.den ∗
        owns (c : Thread nD τ) arg37 fullShare S.scst ∗ owns (c : Thread nD τ) arg38 fullShare S.hsst ∗ owns (c : Thread nD τ) arg39 fullShare S.cn
      ∗ (iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, ⌜atLast i → IsOut X (stepScr i X S) d⌝ ∗ owns (c : Thread nD τ) arg22 fullShare d) ∗ owns (c : Thread nD τ) arg23 fullShare (stepScr i X S).h1 ∗ owns (c : Thread nD τ) arg24 fullShare (stepScr i X S).h2 ∗
        owns (c : Thread nD τ) arg25 fullShare (stepScr i X S).pidx ∗ (∃ d, owns (c : Thread nD τ) arg26 fullShare d) ∗ (∃ d, owns (c : Thread nD τ) arg27 fullShare d) ∗
        owns (c : Thread nD τ) arg28 fullShare (stepScr i X S).y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare (stepScr i X S).n0 ∗ owns (c : Thread nD τ) arg33 fullShare (stepScr i X S).n1 ∗
        owns (c : Thread nD τ) arg34 fullShare (stepScr i X S).n2 ∗ owns (c : Thread nD τ) arg35 fullShare (stepScr i X S).n3 ∗ owns (c : Thread nD τ) arg36 fullShare (stepScr i X S).den ∗
        owns (c : Thread nD τ) arg37 fullShare (stepScr i X S).scst ∗ owns (c : Thread nD τ) arg38 fullShare (stepScr i X S).hsst ∗ owns (c : Thread nD τ) arg39 fullShare (stepScr i X S).cn) -∗ K ⟨⟩))
      ⊢ wp frame (wpE (defs₀ (F := F)) Variants.none c none) Set.univ (cc0__fused i
        arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  have hstep : stepScr i X S = mainPart i X (flushLast X S) := by
    rw [stepScr, enter, if_neg h1, if_neg h2]
  have hL := fun a b a' b' X26 X27 X30 init f28 f29 => (loop_pair (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 a b a' b' X26 X27 X30 init f28 f29)
  have hC := fun a b a' b' X26 X27 X30 init => (hL a b a' b' X26 X27 X30 init arg28.view.junk arg29.view.junk).1
  have hY := fun a b a' b' X26 X27 X30 init f28 => (hL a b a' b' X26 X27 X30 init f28 arg29.view.junk).2.1
  have hZ := fun a b a' b' X26 X27 X30 init f29 => (hL a b a' b' X26 X27 X30 init arg28.view.junk f29).2.2
  simp only [cc0__fused_eq_skeleton]; unfold cc0__fused_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%f23, %hf23, H23⟩, ⟨%f24, %hf24, H24⟩, ⟨%f25, %hf25, H25⟩, ⟨%d26, %f26, -, H26⟩, ⟨%d27, %f27, -, H27⟩, ⟨%f28, %hf28, H28⟩, ⟨%d29, %f29, -, H29⟩, ⟨%d30, %f30, -, H30⟩, ⟨%d31, %f31, -, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, Hk⟩
  · sl_exec
    sl_step
    iapply Hk
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact hf10
      iexact H10
    isplitl [H11]
    · iexists _; isplitr
      · ipureintro; exact hf11
      iexact H11
    isplitl [H12]
    · iexists _; isplitr
      · ipureintro; exact hf12
      iexact H12
    isplitl [H13]
    · iexists _; isplitr
      · ipureintro; exact hf13
      iexact H13
    isplitl [H14]
    · iexists _; isplitr
      · ipureintro; exact hf14
      iexact H14
    isplitl [H15]
    · iexists _; isplitr
      · ipureintro; exact hf15
      iexact H15
    isplitl [H16]
    · iexists _; isplitr
      · ipureintro; exact hf16
      iexact H16
    isplitl [H17]
    · iexists _; isplitr
      · ipureintro; exact hf17
      iexact H17
    isplitl [H18]
    · iexists _; isplitr
      · ipureintro; exact hf18
      iexact H18
    isplitl [H19]
    · iexists _; isplitr
      · ipureintro; exact hf19
      iexact H19
    isplitl [H20]
    · iexists _; isplitr
      · ipureintro; exact hf20
      iexact H20
    isplitl [H21]
    · iexists _; isplitr
      · ipureintro; exact hf21
      iexact H21
    isplitl [H22]
    · iexists _; isplitr; swap
      · iexists _; isplitr; swap; · iexact H22
        ipureintro; rfl
      ipureintro
      exact fun h => absurd h h4
    isplitl [H23]
    · iexists _; isplitr; swap; · iexact H23
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H24]
    · iexists _; isplitr; swap; · iexact H24
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H25]
    · iexists _; isplitr; swap; · iexact H25
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H26]
    · iexists _, _; isplitr; swap; · iexact H26
      ipureintro; rfl
    isplitl [H27]
    · iexists _, _; isplitr; swap; · iexact H27
      ipureintro; rfl
    isplitl [H28]
    · iexists _; isplitr; swap; · iexact H28
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _; isplitr; swap; · iexact H32
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H33]
    · iexists _; isplitr; swap; · iexact H33
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H34]
    · iexists _; isplitr; swap; · iexact H34
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H35]
    · iexists _; isplitr; swap; · iexact H35
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H36]
    · iexists _; isplitr; swap; · iexact H36
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H37]
    · iexists _; isplitr; swap; · iexact H37
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H38]
    · iexists _; isplitr; swap; · iexact H38
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    · iexists _; isplitr; swap; · iexact H39
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]

set_option maxHeartbeats 40000000 in
/-- The body's run at the last point. -/
theorem vals_last (c : Dev nD) (i : grid0.Coords)
(arg1 : Memref sig .tc .vmem S32x1 .i32) (harg1 : arg1.IsWhole)
    (arg2 : Memref sig .tc .vmem S64x32x128 .f32) (harg2 : arg2.IsWhole)
    (arg3 : Memref sig .tc .vmem S64x32x128 .f32) (harg3 : arg3.IsWhole)
    (arg4 : Memref sig .tc .vmem S64x32x128 .f32) (harg4 : arg4.IsWhole)
    (arg5 : Memref sig .tc .vmem S128x256 .f32) (harg5 : arg5.IsWhole)
    (arg6 : Memref sig .tc .vmem S128x256 .f32) (harg6 : arg6.IsWhole)
    (arg7 : Memref sig .tc .vmem S128x256 .f32) (harg7 : arg7.IsWhole)
    (arg8 : Memref sig .tc .vmem S1x256 .f32) (harg8 : arg8.IsWhole)
    (arg9 : Memref sig .tc .vmem S256x768 .f32) (harg9 : arg9.IsWhole)
    (arg10 : Memref sig .tc .vmem S1x768 .f32) (harg10 : arg10.IsWhole)
    (arg11 : Memref sig .tc .vmem S256x768 .f32) (harg11 : arg11.IsWhole)
    (arg12 : Memref sig .tc .vmem S1x768 .f32) (harg12 : arg12.IsWhole)
    (arg13 : Memref sig .tc .vmem S1024x256 .f32) (harg13 : arg13.IsWhole)
    (arg14 : Memref sig .tc .vmem S256x1024 .f32) (harg14 : arg14.IsWhole)
    (arg15 : Memref sig .tc .vmem S256x768 .f32) (harg15 : arg15.IsWhole)
    (arg16 : Memref sig .tc .vmem S1x768 .f32) (harg16 : arg16.IsWhole)
    (arg17 : Memref sig .tc .vmem S256x768 .f32) (harg17 : arg17.IsWhole)
    (arg18 : Memref sig .tc .vmem S1x768 .f32) (harg18 : arg18.IsWhole)
    (arg19 : Memref sig .tc .vmem S256x512 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S32x1024 .f32) (harg22 : arg22.IsWhole)
    (arg23 : Memref sig .tc .vmem S32x256 .f32) (harg23 : arg23.IsWhole)
    (arg24 : Memref sig .tc .vmem S32x256 .f32) (harg24 : arg24.IsWhole)
    (arg25 : Memref sig .tc .vmem S8x32 .i32) (harg25 : arg25.IsWhole)
    (arg26 : Memref sig .tc .vmem S64x32x768 .f32) (harg26 : arg26.IsWhole)
    (arg27 : Memref sig .tc .vmem S64x32x768 .f32) (harg27 : arg27.IsWhole)
    (arg28 : Memref sig .tc .vmem S64x32x256 .f32) (harg28 : arg28.IsWhole)
    (arg29 : Memref sig .tc .vmem S64x32x256 .f32) (harg29 : arg29.IsWhole)
    (arg30 : Memref sig .tc .vmem S64x32x256 .f32) (harg30 : arg30.IsWhole)
    (arg31 : Memref sig .tc .vmem S64x32 .i32) (harg31 : arg31.IsWhole)
    (arg32 : Memref sig .tc .vmem S32x256 .f32) (harg32 : arg32.IsWhole)
    (arg33 : Memref sig .tc .vmem S32x256 .f32) (harg33 : arg33.IsWhole)
    (arg34 : Memref sig .tc .vmem S32x256 .f32) (harg34 : arg34.IsWhole)
    (arg35 : Memref sig .tc .vmem S32x256 .f32) (harg35 : arg35.IsWhole)
    (arg36 : Memref sig .tc .vmem S8x32 .f32) (harg36 : arg36.IsWhole)
    (arg37 : Memref sig .tc .vmem S8x32 .f32) (harg37 : arg37.IsWhole)
    (arg38 : Memref sig .tc .vmem S32x256 .f32) (harg38 : arg38.IsWhole)
    (arg39 : Memref sig .tc .vmem S8x1024 .f32) (harg39 : arg39.IsWhole)
    (X : Ins F) (S : Scr F) (h1 : ¬atFirst i) (h2 : ¬atSecond i) (h3 : fromThird i) (h4 : atLast i)
    (K : PUnit → sProp 𝕄) :
    iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, owns (c : Thread nD τ) arg22 fullShare d) ∗ owns (c : Thread nD τ) arg23 fullShare S.h1 ∗ owns (c : Thread nD τ) arg24 fullShare S.h2 ∗
        owns (c : Thread nD τ) arg25 fullShare S.pidx ∗ (∃ d, owns (c : Thread nD τ) arg26 fullShare d) ∗ (∃ d, owns (c : Thread nD τ) arg27 fullShare d) ∗
        owns (c : Thread nD τ) arg28 fullShare S.y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare S.n0 ∗ owns (c : Thread nD τ) arg33 fullShare S.n1 ∗
        owns (c : Thread nD τ) arg34 fullShare S.n2 ∗ owns (c : Thread nD τ) arg35 fullShare S.n3 ∗ owns (c : Thread nD τ) arg36 fullShare S.den ∗
        owns (c : Thread nD τ) arg37 fullShare S.scst ∗ owns (c : Thread nD τ) arg38 fullShare S.hsst ∗ owns (c : Thread nD τ) arg39 fullShare S.cn
      ∗ (iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, ⌜atLast i → IsOut X (stepScr i X S) d⌝ ∗ owns (c : Thread nD τ) arg22 fullShare d) ∗ owns (c : Thread nD τ) arg23 fullShare (stepScr i X S).h1 ∗ owns (c : Thread nD τ) arg24 fullShare (stepScr i X S).h2 ∗
        owns (c : Thread nD τ) arg25 fullShare (stepScr i X S).pidx ∗ (∃ d, owns (c : Thread nD τ) arg26 fullShare d) ∗ (∃ d, owns (c : Thread nD τ) arg27 fullShare d) ∗
        owns (c : Thread nD τ) arg28 fullShare (stepScr i X S).y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare (stepScr i X S).n0 ∗ owns (c : Thread nD τ) arg33 fullShare (stepScr i X S).n1 ∗
        owns (c : Thread nD τ) arg34 fullShare (stepScr i X S).n2 ∗ owns (c : Thread nD τ) arg35 fullShare (stepScr i X S).n3 ∗ owns (c : Thread nD τ) arg36 fullShare (stepScr i X S).den ∗
        owns (c : Thread nD τ) arg37 fullShare (stepScr i X S).scst ∗ owns (c : Thread nD τ) arg38 fullShare (stepScr i X S).hsst ∗ owns (c : Thread nD τ) arg39 fullShare (stepScr i X S).cn) -∗ K ⟨⟩))
      ⊢ wp frame (wpE (defs₀ (F := F)) Variants.none c none) Set.univ (cc0__fused i
        arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  have hstep : stepScr i X S = mainPart i X (flushLast X S) := by
    rw [stepScr, enter, if_neg h1, if_neg h2]
  have hL := fun a b a' b' X26 X27 X30 init f28 f29 => (loop_pair (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 a b a' b' X26 X27 X30 init f28 f29)
  have hC := fun a b a' b' X26 X27 X30 init => (hL a b a' b' X26 X27 X30 init arg28.view.junk arg29.view.junk).1
  have hY := fun a b a' b' X26 X27 X30 init f28 => (hL a b a' b' X26 X27 X30 init f28 arg29.view.junk).2.1
  have hZ := fun a b a' b' X26 X27 X30 init f29 => (hL a b a' b' X26 X27 X30 init arg28.view.junk f29).2.2
  simp only [cc0__fused_eq_skeleton]; unfold cc0__fused_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%f23, %hf23, H23⟩, ⟨%f24, %hf24, H24⟩, ⟨%f25, %hf25, H25⟩, ⟨%d26, %f26, -, H26⟩, ⟨%d27, %f27, -, H27⟩, ⟨%f28, %hf28, H28⟩, ⟨%d29, %f29, -, H29⟩, ⟨%d30, %f30, -, H30⟩, ⟨%d31, %f31, -, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, Hk⟩
  · sl_exec
    sl_step
    iapply Hk
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact hf10
      iexact H10
    isplitl [H11]
    · iexists _; isplitr
      · ipureintro; exact hf11
      iexact H11
    isplitl [H12]
    · iexists _; isplitr
      · ipureintro; exact hf12
      iexact H12
    isplitl [H13]
    · iexists _; isplitr
      · ipureintro; exact hf13
      iexact H13
    isplitl [H14]
    · iexists _; isplitr
      · ipureintro; exact hf14
      iexact H14
    isplitl [H15]
    · iexists _; isplitr
      · ipureintro; exact hf15
      iexact H15
    isplitl [H16]
    · iexists _; isplitr
      · ipureintro; exact hf16
      iexact H16
    isplitl [H17]
    · iexists _; isplitr
      · ipureintro; exact hf17
      iexact H17
    isplitl [H18]
    · iexists _; isplitr
      · ipureintro; exact hf18
      iexact H18
    isplitl [H19]
    · iexists _; isplitr
      · ipureintro; exact hf19
      iexact H19
    isplitl [H20]
    · iexists _; isplitr
      · ipureintro; exact hf20
      iexact H20
    isplitl [H21]
    · iexists _; isplitr
      · ipureintro; exact hf21
      iexact H21
    isplitl [H22]
    · iexists _; isplitr; swap
      · iexists _; isplitr; swap; · iexact H22
        ipureintro; rfl
      ipureintro
      intro _
      rw [hstep]
      sl_open_run
      simp (disch := decide) only [IsOut, enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
      exact out_blocks arg22.view f22 _ _ _ _ _ _ _ _
    isplitl [H23]
    · iexists _; isplitr; swap; · iexact H23
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H24]
    · iexists _; isplitr; swap; · iexact H24
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H25]
    · iexists _; isplitr; swap; · iexact H25
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H26]
    · iexists _, _; isplitr; swap; · iexact H26
      ipureintro; rfl
    isplitl [H27]
    · iexists _, _; isplitr; swap; · iexact H27
      ipureintro; rfl
    isplitl [H28]
    · iexists _; isplitr; swap; · iexact H28
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _; isplitr; swap; · iexact H32
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H33]
    · iexists _; isplitr; swap; · iexact H33
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H34]
    · iexists _; isplitr; swap; · iexact H34
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H35]
    · iexists _; isplitr; swap; · iexact H35
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H36]
    · iexists _; isplitr; swap; · iexact H36
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H37]
    · iexists _; isplitr; swap; · iexact H37
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    isplitl [H38]
    · iexists _; isplitr; swap; · iexact H38
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]
    · iexists _; isplitr; swap; · iexact H39
      ipureintro
      rw [hstep]
      sl_open_run
      simp (disch := decide) only [enterFirst, enterSecond, flushLast, mainPart, yOf_eq, hsOf_eq, lpOf, idxOf, prevOf, readCov_eq, whole_read, whole_write, writes_none,
        set0, get0, set1, get1, set2, get2, set3, get3, set4, get4, set0w, get0w, getRow_setRow_same, getRow_setRow_ne, hC, hY, hZ, hf1, hf2, hf3, hf4, hf5, hf6, hf7, hf8, hf9, hf10, hf11, hf12, hf13, hf14, hf15, hf16, hf17, hf18, hf19, hf20, hf21, hf23, hf24, hf25, hf28, hf32, hf33, hf34, hf35, hf36, hf37, hf38, hf39]

end Cert.KernelIdeal.Hand

end
-- ==== Proof.KernelIdealRun.lean ====
/- The kernel's launch, with values: the invariant between points is the scratch that the points so far leave, from whatever it
   held at first; the output window holds, after the last point, what that scratch makes of it. -/
module

public import proofs.«01_k».proof.Proof.KernelIdealFrame
public import proofs.«01_k».proof.Proof.KernelIdealVals
public import Idealize.ShloMosaic.Lib.Pipeline.DatRel
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at any point. -/
theorem vals_run (c : Dev nD) (i : grid0.Coords)
(arg1 : Memref sig .tc .vmem S32x1 .i32) (harg1 : arg1.IsWhole)
    (arg2 : Memref sig .tc .vmem S64x32x128 .f32) (harg2 : arg2.IsWhole)
    (arg3 : Memref sig .tc .vmem S64x32x128 .f32) (harg3 : arg3.IsWhole)
    (arg4 : Memref sig .tc .vmem S64x32x128 .f32) (harg4 : arg4.IsWhole)
    (arg5 : Memref sig .tc .vmem S128x256 .f32) (harg5 : arg5.IsWhole)
    (arg6 : Memref sig .tc .vmem S128x256 .f32) (harg6 : arg6.IsWhole)
    (arg7 : Memref sig .tc .vmem S128x256 .f32) (harg7 : arg7.IsWhole)
    (arg8 : Memref sig .tc .vmem S1x256 .f32) (harg8 : arg8.IsWhole)
    (arg9 : Memref sig .tc .vmem S256x768 .f32) (harg9 : arg9.IsWhole)
    (arg10 : Memref sig .tc .vmem S1x768 .f32) (harg10 : arg10.IsWhole)
    (arg11 : Memref sig .tc .vmem S256x768 .f32) (harg11 : arg11.IsWhole)
    (arg12 : Memref sig .tc .vmem S1x768 .f32) (harg12 : arg12.IsWhole)
    (arg13 : Memref sig .tc .vmem S1024x256 .f32) (harg13 : arg13.IsWhole)
    (arg14 : Memref sig .tc .vmem S256x1024 .f32) (harg14 : arg14.IsWhole)
    (arg15 : Memref sig .tc .vmem S256x768 .f32) (harg15 : arg15.IsWhole)
    (arg16 : Memref sig .tc .vmem S1x768 .f32) (harg16 : arg16.IsWhole)
    (arg17 : Memref sig .tc .vmem S256x768 .f32) (harg17 : arg17.IsWhole)
    (arg18 : Memref sig .tc .vmem S1x768 .f32) (harg18 : arg18.IsWhole)
    (arg19 : Memref sig .tc .vmem S256x512 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S32x1024 .f32) (harg22 : arg22.IsWhole)
    (arg23 : Memref sig .tc .vmem S32x256 .f32) (harg23 : arg23.IsWhole)
    (arg24 : Memref sig .tc .vmem S32x256 .f32) (harg24 : arg24.IsWhole)
    (arg25 : Memref sig .tc .vmem S8x32 .i32) (harg25 : arg25.IsWhole)
    (arg26 : Memref sig .tc .vmem S64x32x768 .f32) (harg26 : arg26.IsWhole)
    (arg27 : Memref sig .tc .vmem S64x32x768 .f32) (harg27 : arg27.IsWhole)
    (arg28 : Memref sig .tc .vmem S64x32x256 .f32) (harg28 : arg28.IsWhole)
    (arg29 : Memref sig .tc .vmem S64x32x256 .f32) (harg29 : arg29.IsWhole)
    (arg30 : Memref sig .tc .vmem S64x32x256 .f32) (harg30 : arg30.IsWhole)
    (arg31 : Memref sig .tc .vmem S64x32 .i32) (harg31 : arg31.IsWhole)
    (arg32 : Memref sig .tc .vmem S32x256 .f32) (harg32 : arg32.IsWhole)
    (arg33 : Memref sig .tc .vmem S32x256 .f32) (harg33 : arg33.IsWhole)
    (arg34 : Memref sig .tc .vmem S32x256 .f32) (harg34 : arg34.IsWhole)
    (arg35 : Memref sig .tc .vmem S32x256 .f32) (harg35 : arg35.IsWhole)
    (arg36 : Memref sig .tc .vmem S8x32 .f32) (harg36 : arg36.IsWhole)
    (arg37 : Memref sig .tc .vmem S8x32 .f32) (harg37 : arg37.IsWhole)
    (arg38 : Memref sig .tc .vmem S32x256 .f32) (harg38 : arg38.IsWhole)
    (arg39 : Memref sig .tc .vmem S8x1024 .f32) (harg39 : arg39.IsWhole)
    (X : Ins F) (S : Scr F) (K : PUnit → sProp 𝕄) :
    iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, owns (c : Thread nD τ) arg22 fullShare d) ∗ owns (c : Thread nD τ) arg23 fullShare S.h1 ∗ owns (c : Thread nD τ) arg24 fullShare S.h2 ∗
        owns (c : Thread nD τ) arg25 fullShare S.pidx ∗ (∃ d, owns (c : Thread nD τ) arg26 fullShare d) ∗ (∃ d, owns (c : Thread nD τ) arg27 fullShare d) ∗
        owns (c : Thread nD τ) arg28 fullShare S.y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare S.n0 ∗ owns (c : Thread nD τ) arg33 fullShare S.n1 ∗
        owns (c : Thread nD τ) arg34 fullShare S.n2 ∗ owns (c : Thread nD τ) arg35 fullShare S.n3 ∗ owns (c : Thread nD τ) arg36 fullShare S.den ∗
        owns (c : Thread nD τ) arg37 fullShare S.scst ∗ owns (c : Thread nD τ) arg38 fullShare S.hsst ∗ owns (c : Thread nD τ) arg39 fullShare S.cn
      ∗ (iprop(owns (c : Thread nD τ) arg1 fullShare X.x1 ∗ owns (c : Thread nD τ) arg2 fullShare X.x2 ∗ owns (c : Thread nD τ) arg3 fullShare X.x3 ∗
        owns (c : Thread nD τ) arg4 fullShare X.x4 ∗ owns (c : Thread nD τ) arg5 fullShare X.x5 ∗ owns (c : Thread nD τ) arg6 fullShare X.x6 ∗
        owns (c : Thread nD τ) arg7 fullShare X.x7 ∗ owns (c : Thread nD τ) arg8 fullShare X.x8 ∗ owns (c : Thread nD τ) arg9 fullShare X.x9 ∗
        owns (c : Thread nD τ) arg10 fullShare X.x10 ∗ owns (c : Thread nD τ) arg11 fullShare X.x11 ∗ owns (c : Thread nD τ) arg12 fullShare X.x12 ∗
        owns (c : Thread nD τ) arg13 fullShare X.x13 ∗ owns (c : Thread nD τ) arg14 fullShare X.x14 ∗ owns (c : Thread nD τ) arg15 fullShare X.x15 ∗
        owns (c : Thread nD τ) arg16 fullShare X.x16 ∗ owns (c : Thread nD τ) arg17 fullShare X.x17 ∗ owns (c : Thread nD τ) arg18 fullShare X.x18 ∗
        owns (c : Thread nD τ) arg19 fullShare X.x19 ∗ owns (c : Thread nD τ) arg20 fullShare X.x20 ∗ owns (c : Thread nD τ) arg21 fullShare X.x21 ∗
        (∃ d, ⌜atLast i → IsOut X (stepScr i X S) d⌝ ∗ owns (c : Thread nD τ) arg22 fullShare d) ∗ owns (c : Thread nD τ) arg23 fullShare (stepScr i X S).h1 ∗ owns (c : Thread nD τ) arg24 fullShare (stepScr i X S).h2 ∗
        owns (c : Thread nD τ) arg25 fullShare (stepScr i X S).pidx ∗ (∃ d, owns (c : Thread nD τ) arg26 fullShare d) ∗ (∃ d, owns (c : Thread nD τ) arg27 fullShare d) ∗
        owns (c : Thread nD τ) arg28 fullShare (stepScr i X S).y ∗ (∃ d, owns (c : Thread nD τ) arg29 fullShare d) ∗ (∃ d, owns (c : Thread nD τ) arg30 fullShare d) ∗
        (∃ d, owns (c : Thread nD τ) arg31 fullShare d) ∗ owns (c : Thread nD τ) arg32 fullShare (stepScr i X S).n0 ∗ owns (c : Thread nD τ) arg33 fullShare (stepScr i X S).n1 ∗
        owns (c : Thread nD τ) arg34 fullShare (stepScr i X S).n2 ∗ owns (c : Thread nD τ) arg35 fullShare (stepScr i X S).n3 ∗ owns (c : Thread nD τ) arg36 fullShare (stepScr i X S).den ∗
        owns (c : Thread nD τ) arg37 fullShare (stepScr i X S).scst ∗ owns (c : Thread nD τ) arg38 fullShare (stepScr i X S).hsst ∗ owns (c : Thread nD τ) arg39 fullShare (stepScr i X S).cn) -∗ K ⟨⟩))
      ⊢ wp frame (wpE (defs₀ (F := F)) Variants.none c none) Set.univ (cc0__fused i
        arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  obtain ⟨h1, h2, h3, h4⟩ | ⟨h1, h2, h3, h4⟩ | ⟨h1, h2, h3, h4⟩ | ⟨h1, h2, h3, h4⟩ := point_cases i
  · exact vals_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 X S h1 h2 h3 h4 K
  · exact vals_second c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 X S h1 h2 h3 h4 K
  · exact vals_middle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 X S h1 h2 h3 h4 K
  · exact vals_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 X S h1 h2 h3 h4 K

/-- The input blocks of point `t`. -/
def insAt (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩

/-- The scratch before point `n`, from what it held at first. -/
def scrSeq (c : Dev nD) (S0 : Scr F) : ℕ → Scr F
  | 0 => S0
  | n + 1 => if h : n < cfg0.N then stepScr (grid0.coords ⟨n, h⟩) (insAt m c ⟨n, h⟩) (scrSeq c S0 n) else scrSeq c S0 n

theorem scrSeq_succ (c : Dev nD) (S0 : Scr F) (t : Fin cfg0.N) :
    scrSeq m c S0 (t.val + 1) = stepScr (grid0.coords t) (insAt m c t) (scrSeq m c S0 t.val) := by
  rw [scrSeq, dif_pos t.isLt]

/-- What the last point leaves in the output. -/
def OutRel (c : Dev nD) (t : Fin cfg0.N) (D : Vec F S32x1024 .f32) : Prop :=
  atLast (grid0.coords t) → ∃ S0 : Scr F, IsOut (insAt m c t) (scrSeq m c S0 (t.val + 1)) D

def tracked (c : Dev nD) (n : ℕ) : sProp 𝕄 :=
  iprop((∃ S0 : Scr F, owns (c : Thread nD τ) sc0 fullShare (scrSeq m c S0 n).h1 ∗ owns (c : Thread nD τ) sc1 fullShare (scrSeq m c S0 n).h2 ∗ owns (c : Thread nD τ) sc2 fullShare (scrSeq m c S0 n).pidx ∗
        (∃ d, owns (c : Thread nD τ) sc3 fullShare d) ∗ (∃ d, owns (c : Thread nD τ) sc4 fullShare d) ∗ owns (c : Thread nD τ) sc5 fullShare (scrSeq m c S0 n).y ∗
        (∃ d, owns (c : Thread nD τ) sc6 fullShare d) ∗ (∃ d, owns (c : Thread nD τ) sc7 fullShare d) ∗ (∃ d, owns (c : Thread nD τ) sc8 fullShare d) ∗
        owns (c : Thread nD τ) sc9 fullShare (scrSeq m c S0 n).n0 ∗ owns (c : Thread nD τ) sc10 fullShare (scrSeq m c S0 n).n1 ∗ owns (c : Thread nD τ) sc11 fullShare (scrSeq m c S0 n).n2 ∗
        owns (c : Thread nD τ) sc12 fullShare (scrSeq m c S0 n).n3 ∗ owns (c : Thread nD τ) sc13 fullShare (scrSeq m c S0 n).den ∗ owns (c : Thread nD τ) sc14 fullShare (scrSeq m c S0 n).scst ∗
        owns (c : Thread nD τ) sc15 fullShare (scrSeq m c S0 n).hsst ∗ owns (c : Thread nD τ) sc16 fullShare (scrSeq m c S0 n).cn) ∗ (∃ r, prngReg c r))

def valDats (_ : Fin 1) (c : Dev nD) : Dat τ (Elt F) Unit ℕ (UR sig nD τ) ℕ cfg0 c where
  A w := V m c (Pipeline.arrRef spec0 w)
  after w t := (frameDats m 0 c).after w t
  Φ t := tracked m c t.val
  q _ := fullShare
  owed _ := 0

def outHeld (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun _ _ => True
  | ⟨7, _⟩ => fun _ _ => True
  | ⟨8, _⟩ => fun _ _ => True
  | ⟨9, _⟩ => fun _ _ => True
  | ⟨10, _⟩ => fun _ _ => True
  | ⟨11, _⟩ => fun _ _ => True
  | ⟨12, _⟩ => fun _ _ => True
  | ⟨13, _⟩ => fun _ _ => True
  | ⟨14, _⟩ => fun _ _ => True
  | ⟨15, _⟩ => fun _ _ => True
  | ⟨16, _⟩ => fun _ _ => True
  | ⟨17, _⟩ => fun _ _ => True
  | ⟨18, _⟩ => fun _ _ => True
  | ⟨19, _⟩ => fun _ _ => True
  | ⟨20, _⟩ => fun _ _ => True
  | ⟨21, _⟩ => fun t X => OutRel m c t X
  | ⟨n + 22, h⟩ => absurd h (Nat.not_lt.mpr (Nat.le_add_left 22 n))

theorem val_A_eq (c : Dev nD) (w : Fin cfg0.W) : (valDats m 0 c).A w = V m c (Pipeline.arrRef spec0 w) := by dsimp only [valDats]

theorem val_after0 (c : Dev nD) (t : Fin cfg0.N) : (valDats m 0 c).after 0 t = iblk m c 0 t := rfl
theorem val_before0 (c : Dev nD) (t : Fin cfg0.N) (d) : (valDats m 0 c).before 0 t d = iblk m c 0 t :=
  before0_0_of m (valDats m 0 c) (val_A_eq m c 0) (val_after0 m c) t d
theorem val_after1 (c : Dev nD) (t : Fin cfg0.N) : (valDats m 0 c).after 1 t = iblk m c 1 t := rfl
theorem val_before1 (c : Dev nD) (t : Fin cfg0.N) (d) : (valDats m 0 c).before 1 t d = iblk m c 1 t :=
  before0_1_of m (valDats m 0 c) (val_A_eq m c 1) (val_after1 m c) t d
theorem val_after2 (c : Dev nD) (t : Fin cfg0.N) : (valDats m 0 c).after 2 t = iblk m c 2 t := rfl
theorem val_before2 (c : Dev nD) (t : Fin cfg0.N) (d) : (valDats m 0 c).before 2 t d = iblk m c 2 t :=
  before0_2_of m (valDats m 0 c) (val_A_eq m c 2) (val_after2 m c) t d
theorem val_after3 (c : Dev nD) (t : Fin cfg0.N) : (valDats m 0 c).after 3 t = iblk m c 3 t := rfl
theorem val_before3 (c : Dev nD) (t : Fin cfg0.N) (d) : (valDats m 0 c).before 3 t d = iblk m c 3 t :=
  before0_3_of m (valDats m 0 c) (val_A_eq m c 3) (val_after3 m c) t d
theorem val_after4 (c : Dev nD) (t : Fin cfg0.N) : (valDats m 0 c).after 4 t = iblk m c 4 t := rfl
theorem val_before4 (c : Dev nD) (t : Fin cfg0.N) (d) : (valDats m 0 c).before 4 t d = iblk m c 4 t :=
  before0_4_of m (valDats m 0 c) (val_A_eq m c 4) (val_after4 m c) t d
theorem val_after5 (c : Dev nD) (t : Fin cfg0.N) : (valDats m 0 c).after 5 t = iblk m c 5 t := rfl
theorem val_before5 (c : Dev nD) (t : Fin cfg0.N) (d) : (valDats m 0 c).before 5 t d = iblk m c 5 t :=
  before0_5_of m (valDats m 0 c) (val_A_eq m c 5) (val_after5 m c) t d
theorem val_after6 (c : Dev nD) (t : Fin cfg0.N) : (valDats m 0 c).after 6 t = iblk m c 6 t := rfl
theorem val_before6 (c : Dev nD) (t : Fin cfg0.N) (d) : (valDats m 0 c).before 6 t d = iblk m c 6 t :=
  before0_6_of m (valDats m 0 c) (val_A_eq m c 6) (val_after6 m c) t d
theorem val_after7 (c : Dev nD) (t : Fin cfg0.N) : (valDats m 0 c).after 7 t = iblk m c 7 t := rfl
theorem val_before7 (c : Dev nD) (t : Fin cfg0.N) (d) : (valDats m 0 c).before 7 t d = iblk m c 7 t :=
  before0_7_of m (valDats m 0 c) (val_A_eq m c 7) (val_after7 m c) t d
theorem val_after8 (c : Dev nD) (t : Fin cfg0.N) : (valDats m 0 c).after 8 t = iblk m c 8 t := rfl
theorem val_before8 (c : Dev nD) (t : Fin cfg0.N) (d) : (valDats m 0 c).before 8 t d = iblk m c 8 t :=
  before0_8_of m (valDats m 0 c) (val_A_eq m c 8) (val_after8 m c) t d
theorem val_after9 (c : Dev nD) (t : Fin cfg0.N) : (valDats m 0 c).after 9 t = iblk m c 9 t := rfl
theorem val_before9 (c : Dev nD) (t : Fin cfg0.N) (d) : (valDats m 0 c).before 9 t d = iblk m c 9 t :=
  before0_9_of m (valDats m 0 c) (val_A_eq m c 9) (val_after9 m c) t d
theorem val_after10 (c : Dev nD) (t : Fin cfg0.N) : (valDats m 0 c).after 10 t = iblk m c 10 t := rfl
theorem val_before10 (c : Dev nD) (t : Fin cfg0.N) (d) : (valDats m 0 c).before 10 t d = iblk m c 10 t :=
  before0_10_of m (valDats m 0 c) (val_A_eq m c 10) (val_after10 m c) t d
theorem val_after11 (c : Dev nD) (t : Fin cfg0.N) : (valDats m 0 c).after 11 t = iblk m c 11 t := rfl
theorem val_before11 (c : Dev nD) (t : Fin cfg0.N) (d) : (valDats m 0 c).before 11 t d = iblk m c 11 t :=
  before0_11_of m (valDats m 0 c) (val_A_eq m c 11) (val_after11 m c) t d
theorem val_after12 (c : Dev nD) (t : Fin cfg0.N) : (valDats m 0 c).after 12 t = iblk m c 12 t := rfl
theorem val_before12 (c : Dev nD) (t : Fin cfg0.N) (d) : (valDats m 0 c).before 12 t d = iblk m c 12 t :=
  before0_12_of m (valDats m 0 c) (val_A_eq m c 12) (val_after12 m c) t d
theorem val_after13 (c : Dev nD) (t : Fin cfg0.N) : (valDats m 0 c).after 13 t = iblk m c 13 t := rfl
theorem val_before13 (c : Dev nD) (t : Fin cfg0.N) (d) : (valDats m 0 c).before 13 t d = iblk m c 13 t :=
  before0_13_of m (valDats m 0 c) (val_A_eq m c 13) (val_after13 m c) t d
theorem val_after14 (c : Dev nD) (t : Fin cfg0.N) : (valDats m 0 c).after 14 t = iblk m c 14 t := rfl
theorem val_before14 (c : Dev nD) (t : Fin cfg0.N) (d) : (valDats m 0 c).before 14 t d = iblk m c 14 t :=
  before0_14_of m (valDats m 0 c) (val_A_eq m c 14) (val_after14 m c) t d
theorem val_after15 (c : Dev nD) (t : Fin cfg0.N) : (valDats m 0 c).after 15 t = iblk m c 15 t := rfl
theorem val_before15 (c : Dev nD) (t : Fin cfg0.N) (d) : (valDats m 0 c).before 15 t d = iblk m c 15 t :=
  before0_15_of m (valDats m 0 c) (val_A_eq m c 15) (val_after15 m c) t d
theorem val_after16 (c : Dev nD) (t : Fin cfg0.N) : (valDats m 0 c).after 16 t = iblk m c 16 t := rfl
theorem val_before16 (c : Dev nD) (t : Fin cfg0.N) (d) : (valDats m 0 c).before 16 t d = iblk m c 16 t :=
  before0_16_of m (valDats m 0 c) (val_A_eq m c 16) (val_after16 m c) t d
theorem val_after17 (c : Dev nD) (t : Fin cfg0.N) : (valDats m 0 c).after 17 t = iblk m c 17 t := rfl
theorem val_before17 (c : Dev nD) (t : Fin cfg0.N) (d) : (valDats m 0 c).before 17 t d = iblk m c 17 t :=
  before0_17_of m (valDats m 0 c) (val_A_eq m c 17) (val_after17 m c) t d
theorem val_after18 (c : Dev nD) (t : Fin cfg0.N) : (valDats m 0 c).after 18 t = iblk m c 18 t := rfl
theorem val_before18 (c : Dev nD) (t : Fin cfg0.N) (d) : (valDats m 0 c).before 18 t d = iblk m c 18 t :=
  before0_18_of m (valDats m 0 c) (val_A_eq m c 18) (val_after18 m c) t d
theorem val_after19 (c : Dev nD) (t : Fin cfg0.N) : (valDats m 0 c).after 19 t = iblk m c 19 t := rfl
theorem val_before19 (c : Dev nD) (t : Fin cfg0.N) (d) : (valDats m 0 c).before 19 t d = iblk m c 19 t :=
  before0_19_of m (valDats m 0 c) (val_A_eq m c 19) (val_after19 m c) t d
theorem val_after20 (c : Dev nD) (t : Fin cfg0.N) : (valDats m 0 c).after 20 t = iblk m c 20 t := rfl
theorem val_before20 (c : Dev nD) (t : Fin cfg0.N) (d) : (valDats m 0 c).before 20 t d = iblk m c 20 t :=
  before0_20_of m (valDats m 0 c) (val_A_eq m c 20) (val_after20 m c) t d

/-- What the body is called with at a point, and what it returns. -/
def valPre (c : Dev nD) (t : Fin cfg0.N) : sProp 𝕄 :=
  iprop((valDats m 0 c).Φ t.castSucc ∗ (valDats m 0 c).owesAt () t.castSucc
    ∗ (∃ d, owns (c : Thread nD τ) (ms0 t) fullShare ((valDats m 0 c).before 0 t d))
    ∗ (∃ d, owns (c : Thread nD τ) (ms1 t) fullShare ((valDats m 0 c).before 1 t d))
    ∗ (∃ d, owns (c : Thread nD τ) (ms2 t) fullShare ((valDats m 0 c).before 2 t d))
    ∗ (∃ d, owns (c : Thread nD τ) (ms3 t) fullShare ((valDats m 0 c).before 3 t d))
    ∗ (∃ d, owns (c : Thread nD τ) (ms4 t) fullShare ((valDats m 0 c).before 4 t d))
    ∗ (∃ d, owns (c : Thread nD τ) (ms5 t) fullShare ((valDats m 0 c).before 5 t d))
    ∗ (∃ d, owns (c : Thread nD τ) (ms6 t) fullShare ((valDats m 0 c).before 6 t d))
    ∗ (∃ d, owns (c : Thread nD τ) (ms7 t) fullShare ((valDats m 0 c).before 7 t d))
    ∗ (∃ d, owns (c : Thread nD τ) (ms8 t) fullShare ((valDats m 0 c).before 8 t d))
    ∗ (∃ d, owns (c : Thread nD τ) (ms9 t) fullShare ((valDats m 0 c).before 9 t d))
    ∗ (∃ d, owns (c : Thread nD τ) (ms10 t) fullShare ((valDats m 0 c).before 10 t d))
    ∗ (∃ d, owns (c : Thread nD τ) (ms11 t) fullShare ((valDats m 0 c).before 11 t d))
    ∗ (∃ d, owns (c : Thread nD τ) (ms12 t) fullShare ((valDats m 0 c).before 12 t d))
    ∗ (∃ d, owns (c : Thread nD τ) (ms13 t) fullShare ((valDats m 0 c).before 13 t d))
    ∗ (∃ d, owns (c : Thread nD τ) (ms14 t) fullShare ((valDats m 0 c).before 14 t d))
    ∗ (∃ d, owns (c : Thread nD τ) (ms15 t) fullShare ((valDats m 0 c).before 15 t d))
    ∗ (∃ d, owns (c : Thread nD τ) (ms16 t) fullShare ((valDats m 0 c).before 16 t d))
    ∗ (∃ d, owns (c : Thread nD τ) (ms17 t) fullShare ((valDats m 0 c).before 17 t d))
    ∗ (∃ d, owns (c : Thread nD τ) (ms18 t) fullShare ((valDats m 0 c).before 18 t d))
    ∗ (∃ d, owns (c : Thread nD τ) (ms19 t) fullShare ((valDats m 0 c).before 19 t d))
    ∗ (∃ d, owns (c : Thread nD τ) (ms20 t) fullShare ((valDats m 0 c).before 20 t d))
    ∗ (∃ Y, ⌜((valDats m 0 c).toRRel forgotten (outHeld m c)).Finds 21 t Y⌝ ∗ owns (c : Thread nD τ) (ms21 t) fullShare Y))
def valPost (c : Dev nD) (t : Fin cfg0.N) : sProp 𝕄 :=
  iprop((valDats m 0 c).Φ t.succ ∗ (valDats m 0 c).owesAt () t.succ
    ∗ (valDats m 0 c).leavesExact 0 t
    ∗ (valDats m 0 c).leavesExact 1 t
    ∗ (valDats m 0 c).leavesExact 2 t
    ∗ (valDats m 0 c).leavesExact 3 t
    ∗ (valDats m 0 c).leavesExact 4 t
    ∗ (valDats m 0 c).leavesExact 5 t
    ∗ (valDats m 0 c).leavesExact 6 t
    ∗ (valDats m 0 c).leavesExact 7 t
    ∗ (valDats m 0 c).leavesExact 8 t
    ∗ (valDats m 0 c).leavesExact 9 t
    ∗ (valDats m 0 c).leavesExact 10 t
    ∗ (valDats m 0 c).leavesExact 11 t
    ∗ (valDats m 0 c).leavesExact 12 t
    ∗ (valDats m 0 c).leavesExact 13 t
    ∗ (valDats m 0 c).leavesExact 14 t
    ∗ (valDats m 0 c).leavesExact 15 t
    ∗ (valDats m 0 c).leavesExact 16 t
    ∗ (valDats m 0 c).leavesExact 17 t
    ∗ (valDats m 0 c).leavesExact 18 t
    ∗ (valDats m 0 c).leavesExact 19 t
    ∗ (valDats m 0 c).leavesExact 20 t
    ∗ (∃ X, ⌜outHeld m c 21 t X⌝ ∗ owns (c : Thread nD τ) (ms21 t) fullShare X))

set_option maxHeartbeats 4000000 in
theorem val_body (c : Dev nD) (t : Fin cfg0.N) :
    valPre m c t ⊢ wp frame (wpE (defs₀ (F := F)) Variants.none c none) Set.univ (bodyAt0 t) (fun _ => valPost m c t) := by
  unfold valPre valPost bodyAt0
  rw [show (valDats m 0 c).Φ t.succ = tracked m c (t.val + 1) from rfl,
    show (valDats m 0 c).owesAt () t.succ = (valDats m 0 c).owesAt () t.castSucc from rfl,
    show (valDats m 0 c).Φ t.castSucc = tracked m c t.val from rfl]
  unfold tracked
  unfold Dat.leavesExact
  simp only [live_at 0 (by decide) t, live_at 1 (by decide) t, live_at 2 (by decide) t, live_at 3 (by decide) t, live_at 4 (by decide) t, live_at 5 (by decide) t, live_at 6 (by decide) t, live_at 7 (by decide) t, live_at 8 (by decide) t, live_at 9 (by decide) t, live_at 10 (by decide) t, live_at 11 (by decide) t, live_at 12 (by decide) t, live_at 13 (by decide) t, live_at 14 (by decide) t, live_at 15 (by decide) t, live_at 16 (by decide) t, live_at 17 (by decide) t, live_at 18 (by decide) t, live_at 19 (by decide) t, live_at 20 (by decide) t]
  simp only [val_before0, val_after0, val_before1, val_after1, val_before2, val_after2, val_before3, val_after3, val_before4, val_after4, val_before5, val_after5, val_before6, val_after6, val_before7, val_after7, val_before8, val_after8, val_before9, val_after9, val_before10, val_after10, val_before11, val_after11, val_before12, val_after12, val_before13, val_after13, val_before14, val_after14, val_before15, val_after15, val_before16, val_after16, val_before17, val_after17, val_before18, val_after18, val_before19, val_after19, val_before20, val_after20]
  iintro ⟨⟨⟨%Z, S0, S1, S2, S3, S4, S5, S6, S7, S8, S9, S10, S11, S12, S13, S14, S15, S16⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, -, H21⟩⟩
  iapply (vals_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t)
    sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) sc16 (Memref.isWhole_whole _)
    (insAt m c t) (scrSeq m c Z t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists d21; iexact H21
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  iintro ⟨H0, H1, H2, H3, H4, H5, H6, H7, H8, H9, H10, H11, H12, H13, H14, H15, H16, H17, H18, H19, H20, ⟨%e21, %he, H21⟩, S0, S1, S2, S3, S4, S5, S6, S7, S8, S9, S10, S11, S12, S13, S14, S15, S16⟩
  rw [← scrSeq_succ] at he
  isplitl [S0 S1 S2 S3 S4 S5 S6 S7 S8 S9 S10 S11 S12 S13 S14 S15 S16 Hg]
  · isplitl [S0 S1 S2 S3 S4 S5 S6 S7 S8 S9 S10 S11 S12 S13 S14 S15 S16]
    · iexists Z
      rw [scrSeq_succ]
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S16
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexists e21; isplitr; swap; · iexact H21
  ipureintro; exact fun h => ⟨Z, he h⟩

theorem val_obligation (c : Dev nD) :
    Pipeline.BodyObligationRel (valDats (F := F) m 0 c) (defs₀ (F := F)) Variants.none () Set.univ forgotten (outHeld m c) := fun t => by
  rw [bigSep_W0, bigSep_W0, body_row]
  exact triple_restated (val_body m c t) rfl .rfl fun _ => .rfl

theorem tracked_in (c : Dev nD) : (Pipeline.ΦA spec0 c : sProp 𝕄) ⊢ tracked m c 0 := by
  rw [plain_inv_eq]; unfold tracked
  iintro ⟨⟨⟨%d23, S0⟩, ⟨%d24, S1⟩, ⟨%d25, S2⟩, S3, S4, ⟨%d28, S5⟩, S6, S7, S8, ⟨%d32, S9⟩, ⟨%d33, S10⟩, ⟨%d34, S11⟩, ⟨%d35, S12⟩, ⟨%d36, S13⟩, ⟨%d37, S14⟩, ⟨%d38, S15⟩, ⟨%d39, S16⟩⟩, Hg⟩
  isplitl [S0 S1 S2 S3 S4 S5 S6 S7 S8 S9 S10 S11 S12 S13 S14 S15 S16]
  · iexists (⟨d23, d24, d25, d28, d32, d33, d34, d35, d36, d37, d38, d39⟩ : Scr F)
    rw [scrSeq]
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact S16
  iexact Hg

theorem tracked_out (c : Dev nD) (n : ℕ) : tracked m c n ⊢ (Pipeline.ΦA spec0 c : sProp 𝕄) := by
  rw [plain_inv_eq]; unfold tracked
  iintro ⟨⟨%Z, S0, S1, S2, S3, S4, S5, S6, S7, S8, S9, S10, S11, S12, S13, S14, S15, S16⟩, Hg⟩
  isplitl [S0 S1 S2 S3 S4 S5 S6 S7 S8 S9 S10 S11 S12 S13 S14 S15 S16]
  · isplitl [S0]; · iexists _; iexact S0
    isplitl [S1]; · iexists _; iexact S1
    isplitl [S2]; · iexists _; iexact S2
    isplitl [S3]; · iexact S3
    isplitl [S4]; · iexact S4
    isplitl [S5]; · iexists _; iexact S5
    isplitl [S6]; · iexact S6
    isplitl [S7]; · iexact S7
    isplitl [S8]; · iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    iexists _; iexact S16
  iexact Hg

/-! ## The launch -/

set_option backward.isDefEq.respectTransparency.types false in
set_option maxHeartbeats 800000 in
/-- Every execution ends with the arrays as the data say and every semaphore counter at zero. -/
theorem val_run :
    θ_run defs (onTc (τ := τ) (main (F := F))) (s₀ m ρ)
      (fun r => Pipeline.RDat.FramePost (cfgs 0) (fun c => (valDats m 0 c).toRRel forgotten (outHeld m c)) (V m) r ∧ r.2.sem = fun _ => 0) :=
  Pipeline.RDat.θ_run_frame_track cfgs (0 : Fin 1) launch0 defs₀ Variants.none (fun c => (valDats m 0 c).toRRel forgotten (outHeld m c)) m ρ main
    (hbody := fun c => (val_obligation m c).toRRel) (hshare := fun c => (valDats m 0 c).share_full fun _ => rfl)
    (howed := fun _ _ => rfl) (V := V m) (hmain := hmain m Variants.none) (hA := val_A_eq m)
    (hin := fun c => tracked_in m c) (hout := fun c => tracked_out m c _) (Q' := _) (hQ' := fun _ h => h)

variable {m ρ}

theorem whole_out : (cfg0.win 21).WholeAt (⟨16, by decide⟩ : Fin cfg0.N) := by decide +kernel

/-- The output array after such a run. -/
theorem out_after {r : PUnit × MemSt nD τ sig (Elt F)}
    (h : Pipeline.RDat.FramePost (cfgs 0) (fun c => (valDats (F := F) m 0 c).toRRel forgotten (outHeld m c)) (V m) r) (c : Dev nD) :
    ∃ S0 : Scr F, IsOut (insAt m c ⟨16, by decide⟩) (scrSeq m c S0 17) (r.2.mem ((c.tc : Thread nD τ).loc main_v36)) := by
  obtain ⟨X, hX, he⟩ := ((h c).1 21).emb_eq_of_wholeAt whole_out
  have hR : OutRel m c ⟨16, by decide⟩ X := Dat.toRRel_leaves (dat := valDats (F := F) m 0 c) (w := 21) rfl hX
  obtain ⟨S0, hS⟩ := hR (by decide +kernel)
  have e : r.2.mem ((c.tc : Thread nD τ).loc main_v36) = X := funext fun j => he j
  exact ⟨S0, e ▸ hS⟩

end Cert.KernelIdeal.Hand

end
-- ==== Proof.Spec.lean ====
/- What the kernel and the reference both compute, on the extended reals, one batch entry at a time: the first recurrence over the
   frames, the nearest code of each masked state, the second recurrence over the codes, and the pooled sums over the ends of runs of
   equal codes. -/
module

public import Idealize.ShloMosaic.PureOps.Ideal
public import Idealize.ShloMosaic.Lib.Tactic
public import Idealize.ShloMosaic.Lib.WordCmp
public import Idealize.ShloMosaic.Lib.Pointwise

@[expose] public section

noncomputable section

namespace Cert.Spec

open Idealize.ShloMosaic

/-- The weights, as functions of their coordinates. -/
structure Wts where
  wih : Fin 256 → Fin 768 → EReal
  bih : Fin 768 → EReal
  whh : Fin 256 → Fin 768 → EReal
  bhh : Fin 768 → EReal
  cb : Fin 1024 → Fin 256 → EReal
  vih : Fin 256 → Fin 768 → EReal
  cih : Fin 768 → EReal
  vhh : Fin 256 → Fin 768 → EReal
  chh : Fin 768 → EReal
  aw : Fin 4 → Fin 256 → Fin 128 → EReal
  ab : Fin 4 → Fin 128 → EReal
  au : Fin 4 → Fin 128 → EReal

/-- A matrix product with a bias. -/
def lin (A : Fin 256 → Fin 768 → EReal) (β : Fin 768 → EReal) (x : Fin 256 → EReal) (j : Fin 768) : EReal := ∑ k, x k * A k j + β j

def col0 (d : Fin 256) : Fin 768 := ⟨d.val, by omega⟩
def col1 (d : Fin 256) : Fin 768 := ⟨256 + d.val, by omega⟩
def col2 (d : Fin 256) : Fin 768 := ⟨512 + d.val, by omega⟩

/-- The gated recurrent unit, of the two affine images and the state. -/
def gate (g u : Fin 768 → EReal) (h : Fin 256 → EReal) (d : Fin 256) : EReal :=
  (1 - Ideal.logistic (g (col1 d) + u (col1 d))) * Ideal.tanh (g (col2 d) + Ideal.logistic (g (col0 d) + u (col0 d)) * u (col2 d))
    + Ideal.logistic (g (col1 d) + u (col1 d)) * h d

/-- The word of the first place at which `v` is least. -/
def firstWord (v : Fin 1024 → EReal) : BitVec 32 :=
  Finset.fold IntOp.minsi (2147483647#32) (fun x => if v x = Finset.fold min (⊤ : EReal) v Finset.univ then BitVec.ofNat 32 x.val else 1024#32) Finset.univ

def code (v : Fin 1024 → EReal) : Fin 1024 := ⟨(firstWord v).toNat % 1024, Nat.mod_lt _ (by decide)⟩

section minsi

theorem minsi_le_left (a b : BitVec 32) : (IntOp.minsi a b).toInt ≤ a.toInt := by
  unfold IntOp.minsi; split <;> rename_i h <;> simp [BitVec.slt_iff_toInt_lt, BitVec.sle_iff_toInt_le] at h <;> omega
theorem minsi_le_right (a b : BitVec 32) : (IntOp.minsi a b).toInt ≤ b.toInt := by
  unfold IntOp.minsi; split <;> rename_i h <;> simp [BitVec.slt_iff_toInt_lt, BitVec.sle_iff_toInt_le] at h <;> omega
theorem minsi_mem (a b : BitVec 32) : IntOp.minsi a b = a ∨ IntOp.minsi a b = b := by
  unfold IntOp.minsi; split <;> simp

theorem fold_minsi {α : Type} [DecidableEq α] (i : BitVec 32) (f : α → BitVec 32) (s : Finset α) :
    (∀ a ∈ s, (Finset.fold IntOp.minsi i f s).toInt ≤ (f a).toInt)
      ∧ (Finset.fold IntOp.minsi i f s = i ∨ ∃ a ∈ s, Finset.fold IntOp.minsi i f s = f a) := by
  induction s using Finset.induction_on with
  | empty => simp
  | insert a s ha ih =>
    rw [Finset.fold_insert ha]
    refine ⟨fun b hb => ?_, ?_⟩
    · rcases Finset.mem_insert.mp hb with rfl | hb
      · exact minsi_le_left _ _
      · exact (minsi_le_right _ _).trans (ih.1 b hb)
    · rcases minsi_mem (f a) (Finset.fold IntOp.minsi i f s) with h | h
      · exact .inr ⟨a, Finset.mem_insert_self a s, h⟩
      · rw [h]
        rcases ih.2 with h2 | ⟨b, hb, h2⟩
        · exact .inl h2
        · exact .inr ⟨b, Finset.mem_insert_of_mem hb, h2⟩

theorem fold_min_mem {α : Type} [DecidableEq α] (f : α → EReal) (s : Finset α) :
    (∀ a ∈ s, Finset.fold min ⊤ f s ≤ f a) ∧ (s.Nonempty → ∃ a ∈ s, f a = Finset.fold min ⊤ f s) := by
  refine ⟨fun a ha => ?_, fun hs => ?_⟩
  · exact (Finset.le_fold_min (Finset.fold min ⊤ f s)).mp le_rfl |>.2 a ha
  · induction hs using Finset.Nonempty.cons_induction with
    | singleton a => exact ⟨a, by simp, by simp⟩
    | cons a s ha hs ih =>
      rw [Finset.cons_eq_insert, Finset.fold_insert ha]
      obtain ⟨b, hb, e⟩ := ih
      rcases le_total (f a) (Finset.fold min ⊤ f s) with h | h
      · exact ⟨a, Finset.mem_insert_self a s, by rw [min_eq_left h]⟩
      · exact ⟨b, Finset.mem_insert_of_mem hb, by rw [min_eq_right h, e]⟩

end minsi

theorem toInt_small (n : ℕ) (h : n < 2147483648) : (BitVec.ofNat 32 n).toInt = n := by
  rw [BitVec.toInt_eq_toNat_of_lt (by rw [BitVec.toNat_ofNat]; omega), BitVec.toNat_ofNat]; omega

/-- The first place of the least is a place, and is the only one whose word it is. -/
theorem firstWord_spec (v : Fin 1024 → EReal) :
    firstWord v = BitVec.ofNat 32 (code v).val
      ∧ ∀ c, ((if v c = Finset.fold min (⊤ : EReal) v Finset.univ then BitVec.ofNat 32 c.val else 1024#32) = firstWord v ↔ c = code v) := by
  have H := fold_minsi (2147483647#32) (fun x : Fin 1024 => if v x = Finset.fold min (⊤ : EReal) v Finset.univ then BitVec.ofNat 32 x.val else 1024#32) Finset.univ
  rw [← firstWord] at H
  obtain ⟨c0, -, h0⟩ := (fold_min_mem v Finset.univ).2 ⟨0, Finset.mem_univ _⟩
  have hle := H.1 c0 (Finset.mem_univ _)
  rw [if_pos h0, toInt_small _ (by omega)] at hle
  have hc : ∃ c : Fin 1024, firstWord v = BitVec.ofNat 32 c.val
      ∧ (if v c = Finset.fold min (⊤ : EReal) v Finset.univ then BitVec.ofNat 32 c.val else 1024#32) = firstWord v := by
    rcases H.2 with h | ⟨c, -, h⟩
    · rw [h, show (2147483647#32 : BitVec 32).toInt = 2147483647 from by decide] at hle; omega
    · by_cases hv : v c = Finset.fold min (⊤ : EReal) v Finset.univ
      · rw [if_pos hv] at h; exact ⟨c, h, by rw [if_pos hv, h]⟩
      · rw [if_neg hv] at h; rw [h, show (1024#32 : BitVec 32).toInt = 1024 from by decide] at hle; omega
  obtain ⟨c, h1, h2⟩ := hc
  have e : code v = c := by
    apply Fin.ext; show (firstWord v).toNat % 1024 = c.val
    rw [h1, BitVec.toNat_ofNat]; omega
  refine ⟨by rw [e]; exact h1, fun c' => ⟨fun h => ?_, fun h => by rw [h, e]; exact h2⟩⟩
  rw [e]; apply Fin.ext
  rw [h1] at h
  by_cases hv : v c' = Finset.fold min (⊤ : EReal) v Finset.univ
  · rw [if_pos hv] at h
    have := congrArg BitVec.toNat h; rw [BitVec.toNat_ofNat, BitVec.toNat_ofNat] at this; omega
  · rw [if_neg hv] at h
    have := congrArg BitVec.toNat h; rw [BitVec.toNat_ofNat, BitVec.toNat_ofNat] at this; omega

/-- The distance to a code, but for what all codes share. -/
def dist (W : Wts) (y : Fin 256 → EReal) (c : Fin 1024) : EReal := ∑ d, W.cb c d * W.cb c d - 2 * ∑ d, y d * W.cb c d

variable (W : Wts) (x : ℕ → Fin 256 → EReal) (mk : ℕ → EReal)

/-- The first recurrence's state before position `t`. -/
def hseq : ℕ → Fin 256 → EReal
  | 0 => fun _ => 0
  | t + 1 => gate (lin W.wih W.bih (x t)) (lin W.whh W.bhh (hseq t)) (hseq t)

def yseq (t : ℕ) (d : Fin 256) : EReal := hseq W x (t + 1) d * mk t
def word (t : ℕ) : BitVec 32 := firstWord (dist W (yseq W x mk t))
def cseq (t : ℕ) : Fin 1024 := code (dist W (yseq W x mk t))

/-- The word before position `t`. -/
def pword : ℕ → BitVec 32
  | 0 => 4294967295#32
  | t + 1 => word W x mk t

/-- One where the code is the one before. -/
def keep (t : ℕ) : EReal := if word W x mk t = pword W x mk t then 1 else 0

/-- The second recurrence's state before position `t`. -/
def gseq : ℕ → Fin 256 → EReal
  | 0 => fun _ => 0
  | t + 1 => gate (lin W.vih W.cih (W.cb (cseq W x mk t))) (lin W.vhh W.chh fun d => gseq t d * keep W x mk t) fun d => gseq t d * keep W x mk t

/-- One where a run of equal codes ends, among the first 1022 positions. -/
def lastE (t : ℕ) : EReal := if (word W x mk (t + 1) ≠ word W x mk t ∨ t = 1021) ∧ t < 1022 then 1 else 0

/-- A head's score of a state. -/
def score (k : Fin 4) (v : Fin 256 → EReal) : EReal := ∑ e, Ideal.tanh (∑ d, v d * W.aw k d e + W.ab k e) * W.au k e

def wt (k : Fin 4) (t : ℕ) : EReal := Ideal.exp (score W k (gseq W x mk (t + 1))) * lastE W x mk t

/-- The heads' weighted sums and weights over the first `n` positions, and the runs ended. -/
def num (k : Fin 4) (n : ℕ) (d : Fin 256) : EReal := ∑ t ∈ Finset.range n, wt W x mk k t * gseq W x mk (t + 1) d
def den (k : Fin 4) (n : ℕ) : EReal := ∑ t ∈ Finset.range n, wt W x mk k t
def seg (n : ℕ) : EReal := ∑ t ∈ Finset.range n, lastE W x mk t

/-- The score of the all-zero state. -/
def score0 (k : Fin 4) : EReal := ∑ e, Ideal.tanh (W.ab k e) * W.au k e

def total (k : Fin 4) : EReal := den W x mk k 1022 + (1022 - seg W x mk 1022) * Ideal.exp (score0 W k)
def pooled (k : Fin 4) (d : Fin 256) : EReal := Ideal.div (num W x mk k 1022 d) (total W x mk k)

end Cert.Spec

end
-- ==== Proof.Words.lean ====
/- The constants and the flags of the two programs at the extended reals. -/
module

public import proofs.«01_k».proof.Proof.Spec

@[expose] public section

namespace Cert.Spec

open Idealize.ShloMosaic

theorem two_word : Ideal.ofBits FTy.f32 1073741824#32 = 2 := by
  have : (8388608 * (2 ^ 22)⁻¹ : ℝ) = 2 := by norm_num
  simp only [Ideal.ofBits, Ideal.ieee]; simp [-EReal.coe_mul, this]; rfl
theorem inf_word : Ideal.ofBits FTy.f32 2139095040#32 = ⊤ := by simp [Ideal.ofBits, Ideal.ieee]
theorem cnt_word : Ideal.ofBits FTy.f32 1149206528#32 = 1022 := by
  have : (16744448 * (2 ^ 14)⁻¹ : ℝ) = 1022 := by norm_num
  simp only [Ideal.ofBits, Ideal.ieee]; simp [-EReal.coe_mul, this]; rfl
/-- The least length that the result is divided by. -/
noncomputable def tiny : EReal := Ideal.ofBits FTy.f32 0x2B8CBCCC#32
theorem tiny_pos : ∃ r : ℝ, 0 < r ∧ tiny = r := by
  unfold tiny
  simp only [Ideal.ofBits, Ideal.ieee]; simp [-EReal.coe_mul]
theorem flag_one {p : Prop} [Decidable p] : (FloatOps.sitofp (F := Ideal) FTy.f32 (BitVec.setWidth 32 (if p then 1#1 else 0#1)) : Ideal .f32) = if p then (1 : EReal) else 0 := by
  split
  · show (((BitVec.setWidth 32 1#1).toInt : ℝ) : EReal) = 1
    simp
  · show (((BitVec.setWidth 32 0#1).toInt : ℝ) : EReal) = 0
    simp
theorem flag_two {p : Prop} [Decidable p] : (FloatOps.uitofp (F := Ideal) FTy.f32 (if p then 1#1 else 0#1) : Ideal .f32) = if p then (1 : EReal) else 0 := by
  split
  · show (((1#1 : BitVec 1).toNat : ℝ) : EReal) = 1
    simp
  · show (((0#1 : BitVec 1).toNat : ℝ) : EReal) = 0
    simp
theorem cmpi_eq_ite {w : ℕ} (a b : BitVec w) : IntOp.cmpi CmpIPredicate.eq a b = if a = b then 1#1 else 0#1 := by
  have : IntOp.cmpi CmpIPredicate.eq a b = BitVec.ofBool (a == b) := rfl
  by_cases h : a = b
  · subst h; simp [this]
  · rw [this, if_neg h, beq_eq_false_iff_ne.mpr h]; rfl
theorem cmpi_ne_ite {w : ℕ} (a b : BitVec w) : IntOp.cmpi CmpIPredicate.ne a b = if a ≠ b then 1#1 else 0#1 := by
  have : IntOp.cmpi CmpIPredicate.ne a b = BitVec.ofBool (a != b) := rfl
  by_cases h : a = b
  · subst h; simp [this]
  · rw [this, if_pos h, bne_iff_ne.mpr h]; rfl
theorem cmpi_slt_ite {w : ℕ} (a b : BitVec w) : IntOp.cmpi CmpIPredicate.slt a b = if a.toInt < b.toInt then 1#1 else 0#1 := by
  have : IntOp.cmpi CmpIPredicate.slt a b = BitVec.ofBool (a.slt b) := rfl
  rw [this, BitVec.slt_eq_decide]
  by_cases h : a.toInt < b.toInt <;> simp [h]
theorem andi_ite {p q : Prop} [Decidable p] [Decidable q] : IntOp.andi (if p then 1#1 else 0#1) (if q then 1#1 else 0#1) = if p ∧ q then 1#1 else 0#1 := by
  by_cases hp : p <;> by_cases hq : q <;> simp [hp, hq, IntOp.andi]
theorem ori_ite {p q : Prop} [Decidable p] [Decidable q] : IntOp.ori (if p then 1#1 else 0#1) (if q then 1#1 else 0#1) = if p ∨ q then 1#1 else 0#1 := by
  by_cases hp : p <;> by_cases hq : q <;> simp [hp, hq, IntOp.ori]

end Cert.Spec
-- ==== Proof.KernelIdealAt.lean ====
/- The kernel's values at the extended reals, entry by entry. -/
module

public import proofs.«01_k».proof.Proof.KernelIdealSteps
public import proofs.«01_k».proof.Proof.Words
public import Idealize.ShloMosaic.Lib.Tactic.Stretches

@[expose] public section

set_option maxRecDepth 16384

noncomputable section

namespace Cert.KernelIdeal.Hand

open Cert.KernelIdeal.Gen Cert.Spec
open Idealize.ShloMosaic Idealize.ShloMosaic.TcCoe

/-- Column `128 k + e` of the four heads side by side. -/
def acol (k : Fin 4) (e : Fin 128) : Fin 512 := ⟨128 * k.val + e.val, by omega⟩

/-- What a point is handed: the weights, the chunk's frames (as the convolution makes them) and the chunk's mask. -/
structure Feeds (W : Wts) (x : Fin 32 → ℕ → Fin 256 → EReal) (mk : Fin 32 → ℕ → EReal) (s : ℕ) (X : Ins Ideal) : Prop where
  hx : ∀ (b : Fin 32) (i : Fin 64) (d : Fin 256), ∑ k, X.x2 (ix3 i b k) * X.x5 (ix2 k d) + ∑ k, X.x3 (ix3 i b k) * X.x6 (ix2 k d)
    + ∑ k, X.x4 (ix3 i b k) * X.x7 (ix2 k d) + X.x8 (ix2 0 d) = x b (64 * s + i.val) d
  hm : ∀ (v : Vec Ideal S64x32x256 .f32) (b : Fin 32) (i : Fin 64) (d : Fin 256),
    k0_pay75 (BitVec.ofNat 32 s) (k0_pay72 X.x1) 2#32 (k0_pay73 X.x1) (k0_pay74 X.x1) 1#32 0#32 v (ix3 i b d) = v (ix3 i b d) * mk b (64 * s + i.val)
  wih : ∀ k j, X.x9 (ix2 k j) = W.wih k j
  bih : ∀ j, X.x10 (ix2 0 j) = W.bih j
  whh : ∀ k j, X.x11 (ix2 k j) = W.whh k j
  bhh : ∀ j, X.x12 (ix2 0 j) = W.bhh j
  cb : ∀ c d, X.x13 (ix2 c d) = W.cb c d
  cbT : ∀ d c, X.x14 (ix2 d c) = W.cb c d
  vih : ∀ k j, X.x15 (ix2 k j) = W.vih k j
  cih : ∀ j, X.x16 (ix2 0 j) = W.cih j
  vhh : ∀ k j, X.x17 (ix2 k j) = W.vhh k j
  chh : ∀ j, X.x18 (ix2 0 j) = W.chh j
  aw : ∀ k d e, X.x19 (ix2 d (acol k e)) = W.aw k d e
  ab : ∀ k e, X.x20 (ix2 0 (acol k e)) = W.ab k e
  au : ∀ k e, X.x21 (ix2 0 (acol k e)) = W.au k e

variable {W : Wts} {x : Fin 32 → ℕ → Fin 256 → EReal} {mk : Fin 32 → ℕ → EReal} {s : ℕ} {X : Ins Ideal} {S : Scr Ideal}

theorem gi1_at (hf : Feeds W x mk s X) (i : Fin 64) (b : Fin 32) (j : Fin 768) :
    k0_pay61 (k0_pay59 X.x2) (k0_pay60 X.x3) X.x4 X.x5 X.x6 X.x7 X.x8 X.x9 X.x10 (ix3 i b j) = lin W.wih W.bih (x b (64 * s + i.val)) j := by
  pointwise [k0_pay61, k0_pay59, k0_pay60]
  simp only [hf.hx, hf.wih, hf.bih, lin]

theorem first_at (w : Vec Ideal S256x768 .f32) (β : Vec Ideal S1x768 .f32) (h : Vec Ideal S32x256 .f32) (g : Vec Ideal S1x32x768 .f32)
    (b : Fin 32) (d : Fin 256) :
    k0_pay22 (k0_pay64 w) (k0_pay65 β) h g (ix2 b d)
      = gate (fun j => g (ix3 0 b j)) (lin (fun k j => w (ix2 k j)) (fun j => β (ix2 0 j)) fun k => h (ix2 b k)) (fun k => h (ix2 b k)) d := by
  pointwise [k0_pay22, k0_pay64, k0_pay65]
  rfl

theorem second_at (w : Vec Ideal S256x768 .f32) (β : Vec Ideal S1x768 .f32) (h : Vec Ideal S32x256 .f32) (g : Vec Ideal S1x32x768 .f32)
    (m : Vec Ideal S1x32x256 .f32) (b : Fin 32) (d : Fin 256) :
    k0_pay68 (k0_pay24 g) (k0_pay25 h m) (k0_pay26 (k0_pay66 w) (k0_pay67 β) h m) (k0_pay27 (k0_pay66 w) (k0_pay67 β) h g m)
        (k0_pay28 (k0_pay66 w) (k0_pay67 β) h g m) (ix2 b d)
      = gate (fun j => g (ix3 0 b j)) (lin (fun k j => w (ix2 k j)) (fun j => β (ix2 0 j)) fun k => h (ix2 b k) * m (ix3 0 b k))
          (fun k => h (ix2 b k) * m (ix3 0 b k)) d := by
  pointwise [k0_pay68, k0_pay24, k0_pay25, k0_pay26, k0_pay27, k0_pay28, k0_pay66, k0_pay67]
  rfl

theorem slab_at {n : ℕ} {α : Type} (k : ℕ) (hk : k < 64) (Y : (⟨3, ![64, 32, n]⟩ : Shape).Idx → α) (b : Fin 32) (j : Fin n) :
    slab k Y (ix3 0 b j) = Y (ix3 ⟨k, hk⟩ b j) := by
  unfold slab; congr 1; funext a; fin_cases a <;> simp [Nat.mod_eq_of_lt hk] <;> rfl

/-- The first recurrence over the chunk. -/
theorem loop_first (hf : Feeds W x mk s X) (h1 : ∀ b d, S.h1 (ix2 b d) = hseq W (x b) (64 * s) d) (k : ℕ) (hk : k ≤ 64) (b : Fin 32) (d : Fin 256) :
    (lpOf X S k).1 (ix2 b d) = hseq W (x b) (64 * s + k) d := by
  induction k generalizing b d with
  | zero => exact h1 b d
  | succ k ih =>
    have e : (lpOf X S (k + 1)).1 (ix2 b d) = _ := first_at X.x11 X.x12 (lpOf X S k).1 (slab k (k0_pay61 (k0_pay59 X.x2) (k0_pay60 X.x3) X.x4 X.x5 X.x6 X.x7 X.x8 X.x9 X.x10)) b d
    rw [e]
    simp only [slab_at k (by omega), gi1_at hf, hf.whh, hf.bhh, ih (by omega)]
    rfl

/-- The codes of the chunk found. -/
theorem nearest_at (hf : Feeds W x mk s X) {n : ℕ} (hy : ∀ (i : Fin 64) b d, S.y (ix3 i b d) = yseq W (x b) (mk b) (64 * n + i.val) d)
    (hc : ∀ c, getRow 0 S.cn (ix2 0 c) = ∑ d, W.cb c d * W.cb c d) (i : Fin 64) (b : Fin 32) (c : Fin 1024) :
    k0_pay50 S.y (getRow 0 S.cn) X.x14 (ix3 i b c)
      = if dist W (yseq W (x b) (mk b) (64 * n + i.val)) c = Finset.fold min (⊤ : EReal) (dist W (yseq W (x b) (mk b) (64 * n + i.val))) Finset.univ
          then BitVec.ofNat 32 c.val else 1024#32 := by
  pointwise [k0_pay50]
  simp only [inf_word, two_word, hc, hy, hf.cbT]
  rfl

theorem word_at (hf : Feeds W x mk s X) {n : ℕ} (hy : ∀ (i : Fin 64) b d, S.y (ix3 i b d) = yseq W (x b) (mk b) (64 * n + i.val) d)
    (hc : ∀ c, getRow 0 S.cn (ix2 0 c) = ∑ d, W.cb c d * W.cb c d) (i : Fin 64) (b : Fin 32) :
    idxOf X S (ix2 i b) = word W (x b) (mk b) (64 * n + i.val) ∧ k0_pay51 S.y (getRow 0 S.cn) X.x14 (ix3 i b 0) = word W (x b) (mk b) (64 * n + i.val) := by
  constructor
  · rw [idxOf]; pointwise [k0_pay52, k0_pay51]; simp only [nearest_at hf hy hc]; rfl
  · pointwise [k0_pay51]; simp only [nearest_at hf hy hc]; rfl

theorem gi2_at (hf : Feeds W x mk s X) {n : ℕ} (hy : ∀ (i : Fin 64) b d, S.y (ix3 i b d) = yseq W (x b) (mk b) (64 * n + i.val) d)
    (hc : ∀ c, getRow 0 S.cn (ix2 0 c) = ∑ d, W.cb c d * W.cb c d) (i : Fin 64) (b : Fin 32) (j : Fin 768) :
    k0_pay55 (k0_pay54 S.y (getRow 0 S.cn) X.x14) X.x13 X.x15 X.x16 (ix3 i b j)
      = lin W.vih W.cih (W.cb (cseq W (x b) (mk b) (64 * n + i.val))) j := by
  pointwise [k0_pay55, k0_pay54]
  simp only [cmpi_eq_ite, flag_one, nearest_at hf hy hc, (word_at hf hy hc i b).2, hf.cb, hf.vih, hf.cih, lin]
  have h := (firstWord_spec (dist W (yseq W (x b) (mk b) (64 * n + i.val)))).2
  simp only [word, h, ite_mul, one_mul, zero_mul, Finset.sum_ite_eq', Finset.mem_univ, if_true]
  rfl

theorem keep_at (hf : Feeds W x mk s X) {n : ℕ} (hy : ∀ (i : Fin 64) b d, S.y (ix3 i b d) = yseq W (x b) (mk b) (64 * n + i.val) d)
    (hc : ∀ c, getRow 0 S.cn (ix2 0 c) = ∑ d, W.cb c d * W.cb c d)
    (hp : ∀ b, getRow 0 S.pidx (ix2 0 b) = pword W (x b) (mk b) (64 * n)) (i : Fin 64) (b : Fin 32) (d : Fin 256) :
    prevOf X S (ix2 i b) = pword W (x b) (mk b) (64 * n + i.val)
    ∧ k0_pay57 (F := Ideal) (idxOf X S) (getRow 0 S.pidx) (ix3 i b d) = keep W (x b) (mk b) (64 * n + i.val) := by
  have e : prevOf X S (ix2 i b) = pword W (x b) (mk b) (64 * n + i.val) := by
    rw [prevOf]; pointwise [k0_pay56]
    split
    · rename_i h
      have h0 : i.val = 0 := by omega
      simp only [h0]
      exact hp b
    · rename_i h
      rw [(word_at hf hy hc _ b).1]
      obtain ⟨m, hm⟩ : ∃ m, i.val = m + 1 := ⟨i.val - 1, by omega⟩
      simp only [hm]; rfl
  refine ⟨e, ?_⟩
  rw [prevOf] at e
  pointwise [k0_pay57]
  rw [e, (word_at hf hy hc i b).1, cmpi_eq_ite, flag_one]
  rfl

/-- The second recurrence over the chunk found. -/
theorem loop_second (hf : Feeds W x mk s X) {n : ℕ} (hy : ∀ (i : Fin 64) b d, S.y (ix3 i b d) = yseq W (x b) (mk b) (64 * n + i.val) d)
    (hc : ∀ c, getRow 0 S.cn (ix2 0 c) = ∑ d, W.cb c d * W.cb c d)
    (hp : ∀ b, getRow 0 S.pidx (ix2 0 b) = pword W (x b) (mk b) (64 * n))
    (h2 : ∀ b d, S.h2 (ix2 b d) = gseq W (x b) (mk b) (64 * n) d) (k : ℕ) (hk : k ≤ 64) (b : Fin 32) (d : Fin 256) :
    (lpOf X S k).2 (ix2 b d) = gseq W (x b) (mk b) (64 * n + k) d := by
  induction k generalizing b d with
  | zero => exact h2 b d
  | succ k ih =>
    have e : (lpOf X S (k + 1)).2 (ix2 b d) = _ := second_at X.x17 X.x18 (lpOf X S k).2 (slab k (k0_pay55 (k0_pay54 S.y (getRow 0 S.cn) X.x14) X.x13 X.x15 X.x16)) (slab k (k0_pay57 (idxOf X S) (getRow 0 S.pidx))) b d
    rw [e]
    simp only [slab_at k (by omega), gi2_at hf hy hc, (keep_at hf hy hc hp _ _ _).2, hf.vhh, hf.chh, ih (by omega)]
    rfl

/-! ## The heads -/

theorem acol_zero (e : Fin 128) (h : e.val < 512) : (⟨e.val, h⟩ : Fin 512) = acol 0 e := Fin.ext (by simp [acol])
theorem acol_one (e : Fin 128) (h : 128 + e.val < 512) : (⟨128 + e.val, h⟩ : Fin 512) = acol 1 e := Fin.ext (by simp [acol])
theorem acol_two (e : Fin 128) (h : 256 + e.val < 512) : (⟨256 + e.val, h⟩ : Fin 512) = acol 2 e := Fin.ext (by simp [acol])
theorem acol_three (e : Fin 128) (h : 384 + e.val < 512) : (⟨384 + e.val, h⟩ : Fin 512) = acol 3 e := Fin.ext (by simp [acol])

/-- The heads' weighted sums, and the rows that hold their weights and scores. -/
def heads (S : Scr Ideal) : Fin 4 → Vec Ideal S32x256 .f32 := ![S.n0, S.n1, S.n2, S.n3]
def rowOf : Fin 4 → Fin 8 := ![0, 1, 2, 3]

/-- The states of the chunk, one batch entry's. -/
def hsAt (X : Ins Ideal) (S : Scr Ideal) (b : Fin 32) (t : Fin 64) (d : Fin 256) : EReal := hsOf X S (ix3 t b d)

theorem heads_main (hf : Feeds W x mk s X) (i : grid0.Coords) (k : Fin 4) (b : Fin 32) (d : Fin 256) :
    heads (mainPart i X S) k (ix2 b d) = heads S k (ix2 b d)
      + ∑ t, Ideal.exp (score W k (hsAt X S b t)) * k0_pay79 (F := Ideal) (BitVec.ofNat 32 (i 0).val) (idxOf X S) (ix2 t b) * hsAt X S b t d := by
  fin_cases k <;>
  · simp only [heads, mainPart, Fin.isValue, Fin.zero_eta, Fin.mk_one, Fin.reduceFinMk, Matrix.cons_val, Matrix.cons_val_zero, Matrix.cons_val_one]
    pointwise [k0_pay82, k0_pay81, k0_pay80, k0_pay78, k0_pay77, k0_pay76, k0_pay87, k0_pay86, k0_pay85, k0_pay93, k0_pay92, k0_pay91, k0_pay90, k0_pay98, k0_pay97, k0_pay96]
    simp only [acol_zero, acol_one, acol_two, acol_three, hf.aw, hf.ab, hf.au]
    rfl

theorem den_main (hf : Feeds W x mk s X) (i : grid0.Coords) (k : Fin 4) (b : Fin 32) :
    getRow (rowOf k) (mainPart i X S).den (ix2 0 b) = getRow (rowOf k) S.den (ix2 0 b)
      + ∑ t, Ideal.exp (score W k (hsAt X S b t)) * k0_pay79 (F := Ideal) (BitVec.ofNat 32 (i 0).val) (idxOf X S) (ix2 t b) := by
  fin_cases k <;>
  · simp only [rowOf, mainPart, Fin.isValue, Fin.zero_eta, Fin.mk_one, Fin.reduceFinMk, Matrix.cons_val, Matrix.cons_val_zero, Matrix.cons_val_one]
    simp (disch := decide) only [getRow_setRow_same, getRow_setRow_ne]
    pointwise [k0_pay83, k0_pay81, k0_pay80, k0_pay78, k0_pay77, k0_pay76, k0_pay88, k0_pay86, k0_pay85, k0_pay94, k0_pay91, k0_pay90, k0_pay99, k0_pay97, k0_pay96]
    simp only [acol_zero, acol_one, acol_two, acol_three, hf.aw, hf.ab, hf.au]
    rfl

theorem seg_main (i : grid0.Coords) (b : Fin 32) :
    getRow 4 (mainPart i X S).den (ix2 0 b) = getRow 4 S.den (ix2 0 b)
      + ∑ t, k0_pay79 (F := Ideal) (BitVec.ofNat 32 (i 0).val) (idxOf X S) (ix2 t b) := by
  simp only [mainPart]
  simp (disch := decide) only [getRow_setRow_same, getRow_setRow_ne]
  pointwise [k0_pay2]

theorem scst_main (hf : Feeds W x mk s X) (i : grid0.Coords) (k : Fin 4) (b : Fin 32) :
    getRow (rowOf k) (mainPart i X S).scst (ix2 0 b) = score W k (hsAt X S b 63) := by
  fin_cases k <;>
  · simp only [rowOf, mainPart, Fin.isValue, Fin.zero_eta, Fin.mk_one, Fin.reduceFinMk, Matrix.cons_val, Matrix.cons_val_zero, Matrix.cons_val_one]
    simp (disch := decide) only [getRow_setRow_same, getRow_setRow_ne]
    pointwise [k0_pay84, k0_pay80, k0_pay78, k0_pay77, k0_pay76, k0_pay89, k0_pay85, k0_pay95, k0_pay90, k0_pay1, k0_pay96]
    have e63 : ∀ h, (⟨(2016 + b.val) / 32, h⟩ : Fin 64) = 63 := fun h => Fin.ext (by show (2016 + b.val) / 32 = 63; omega)
    simp only [acol_zero, acol_one, acol_two, acol_three, hf.aw, hf.ab, hf.au, e63]
    rfl

theorem rest_main (i : grid0.Coords) (b : Fin 32) (d : Fin 256) :
    (mainPart i X S).h1 (ix2 b d) = (lpOf X S 64).1 (ix2 b d) ∧ (mainPart i X S).h2 (ix2 b d) = (lpOf X S 64).2 (ix2 b d)
      ∧ getRow 0 (mainPart i X S).pidx (ix2 0 b) = idxOf X S (ix2 63 b) ∧ (mainPart i X S).hsst (ix2 b d) = hsAt X S b 63 d := by
  simp only [mainPart, getRow_setRow_same]
  refine ⟨?_, ?_, ?_, ?_⟩
  · pointwise [k0_pay70]
  · pointwise [k0_pay71]
  · pointwise [k0_pay58]
  · pointwise [k0_pay3]; rfl

/-- The flag of the last position of the chunk before: its code changes. -/
def turned (X : Ins Ideal) (S : Scr Ideal) (b : Fin 32) : EReal := if idxOf X S (ix2 0 b) ≠ prevOf X S (ix2 0 b) then 1 else 0

theorem heads_flush (k : Fin 4) (b : Fin 32) (d : Fin 256) :
    heads (flushLast X S) k (ix2 b d) = heads S k (ix2 b d)
      + Ideal.exp (getRow (rowOf k) S.scst (ix2 0 b)) * turned X S b * S.hsst (ix2 b d) := by
  fin_cases k <;>
  · simp only [heads, rowOf, flushLast, Fin.isValue, Fin.zero_eta, Fin.mk_one, Fin.reduceFinMk, Matrix.cons_val, Matrix.cons_val_zero, Matrix.cons_val_one]
    pointwise [k0_pay12, k0_pay11, k0_pay10, k0_pay15, k0_pay14, k0_pay18, k0_pay17, k0_pay21, k0_pay20]
    rw [cmpi_ne_ite, flag_one]
    rfl

theorem den_flush (k : Fin 4) (b : Fin 32) :
    getRow (rowOf k) (flushLast X S).den (ix2 0 b) = getRow (rowOf k) S.den (ix2 0 b)
      + Ideal.exp (getRow (rowOf k) S.scst (ix2 0 b)) * turned X S b := by
  fin_cases k <;>
  · simp only [rowOf, flushLast, Fin.isValue, Fin.zero_eta, Fin.mk_one, Fin.reduceFinMk, Matrix.cons_val, Matrix.cons_val_zero, Matrix.cons_val_one]
    simp (disch := decide) only [getRow_setRow_same, getRow_setRow_ne]
    pointwise [k0_pay13, k0_pay11, k0_pay10, k0_pay16, k0_pay14, k0_pay19, k0_pay17, k0_pay62, k0_pay20]
    rw [cmpi_ne_ite, flag_one]
    rfl

theorem seg_flush (b : Fin 32) : getRow 4 (flushLast X S).den (ix2 0 b) = getRow 4 S.den (ix2 0 b) + turned X S b := by
  simp only [flushLast]
  simp (disch := decide) only [getRow_setRow_same, getRow_setRow_ne]
  pointwise [k0_pay63, k0_pay10]
  rw [cmpi_ne_ite, flag_one]
  rfl

end Cert.KernelIdeal.Hand

end
-- ==== Proof.KernelIdealInv.lean ====
/- What the scratch holds between the points, at the extended reals: the two recurrences' states and the partial sums. -/
module

public import proofs.«01_k».proof.Proof.KernelIdealAt

@[expose] public section

set_option maxRecDepth 16384

noncomputable section

namespace Cert.KernelIdeal.Hand

open Cert.KernelIdeal.Gen Cert.Spec
open Idealize.ShloMosaic Idealize.ShloMosaic.TcCoe

theorem first_iff : ∀ i : grid0.Coords, atFirst i ↔ (i 0).val = 0 := by decide
theorem second_iff : ∀ i : grid0.Coords, atSecond i ↔ (i 0).val = 1 := by decide

variable {W : Wts} {x : Fin 32 → ℕ → Fin 256 → EReal} {mk : Fin 32 → ℕ → EReal} {X : Ins Ideal} {S : Scr Ideal}

/-- After point `n`: the first recurrence has passed chunk `n`, whose masked states are left. -/
structure Inv1 (W : Wts) (x : Fin 32 → ℕ → Fin 256 → EReal) (mk : Fin 32 → ℕ → EReal) (n : ℕ) (S : Scr Ideal) : Prop where
  h1 : ∀ b d, S.h1 (ix2 b d) = hseq W (x b) (64 * (n + 1)) d
  y : ∀ (i : Fin 64) b d, S.y (ix3 i b d) = yseq W (x b) (mk b) (64 * n + i.val) d
  cn : ∀ c, getRow 0 S.cn (ix2 0 c) = ∑ d, W.cb c d * W.cb c d

/-- The second recurrence has passed `n` chunks, and `p` positions are summed. -/
structure Inv2 (W : Wts) (x : Fin 32 → ℕ → Fin 256 → EReal) (mk : Fin 32 → ℕ → EReal) (n p : ℕ) (S : Scr Ideal) : Prop where
  h2 : ∀ b d, S.h2 (ix2 b d) = gseq W (x b) (mk b) (64 * n) d
  pidx : ∀ b, getRow 0 S.pidx (ix2 0 b) = pword W (x b) (mk b) (64 * n)
  num : ∀ k b d, heads S k (ix2 b d) = num W (x b) (mk b) k p d
  den : ∀ k b, getRow (rowOf k) S.den (ix2 0 b) = den W (x b) (mk b) k p
  seg : ∀ b, getRow 4 S.den (ix2 0 b) = seg W (x b) (mk b) p

/-- What is kept of the last position of the chunk before. -/
structure Held (W : Wts) (x : Fin 32 → ℕ → Fin 256 → EReal) (mk : Fin 32 → ℕ → EReal) (n : ℕ) (S : Scr Ideal) : Prop where
  hsst : ∀ b d, S.hsst (ix2 b d) = gseq W (x b) (mk b) (64 * n) d
  scst : ∀ k b, getRow (rowOf k) S.scst (ix2 0 b) = score W k (gseq W (x b) (mk b) (64 * n))

theorem main_first {s : ℕ} (hf : Feeds W x mk s X) {i : grid0.Coords} (hi : (i 0).val = s)
    (h1 : ∀ b d, S.h1 (ix2 b d) = hseq W (x b) (64 * s) d) (hc : ∀ c, getRow 0 S.cn (ix2 0 c) = ∑ d, W.cb c d * W.cb c d) :
    Inv1 W x mk s (mainPart i X S) where
  h1 b d := by
    rw [(rest_main i b d).1, loop_first hf h1 64 (le_refl _)]
    rfl
  y j b d := by
    have e2 : yOf X S (ix3 j b d) = hseq W (x b) (64 * s + (j.val + 1)) d := loop_first hf h1 (j.val + 1) (by omega) b d
    subst hi
    refine (hf.hm (yOf X S) b j d).trans ?_
    rw [e2]; rfl
  cn := hc

theorem pos_word (n : ℕ) (t : Fin 64) (hn : n ≤ 15) :
    IntOp.addi (BitVec.ofNat 32 t.val) (Scalar.muli (Scalar.subi (BitVec.ofNat 32 (n + 1)) 1#32) 64#32) = BitVec.ofNat 32 (64 * n + t.val) := by
  apply BitVec.eq_of_toNat_eq
  simp only [IntOp.addi, Scalar.muli, Scalar.subi, IntOp.muli, IntOp.subi, BitVec.toNat_add, BitVec.toNat_mul, BitVec.toNat_sub, BitVec.toNat_ofNat]
  omega

theorem late_word : ∀ n : Fin 16, Scalar.cmpi .sge (BitVec.ofNat 32 (n.val + 1)) 1#32 = 1#1 := by decide

/-- The weight's flag at a position of the chunk: the run ends there; not known yet at the last. -/
theorem mask_at {n : ℕ} (hn : n ≤ 15) (hw : ∀ (i : Fin 64) b, idxOf X S (ix2 i b) = word W (x b) (mk b) (64 * n + i.val)) (t : Fin 64) (b : Fin 32) :
    k0_pay79 (F := Ideal) (BitVec.ofNat 32 (n + 1)) (idxOf X S) (ix2 t b)
      = if t.val < 63 then lastE W (x b) (mk b) (64 * n + t.val) else 0 := by
  pointwise [k0_pay79]
  rw [pos_word n t hn, late_word ⟨n, by omega⟩, cmpi_ne_ite, cmpi_eq_ite, cmpi_slt_ite, ori_ite, andi_ite]
  rw [show ∀ p : BitVec 1, IntOp.andi p 1#1 = p by decide, flag_one]
  rw [toInt_small _ (by omega), show (1022#32 : BitVec 32).toInt = 1022 from by decide]
  have e1 : (BitVec.ofNat 32 (64 * n + t.val) = 1021#32) ↔ 64 * n + t.val = 1021 := by
    rw [← BitVec.toNat_inj, BitVec.toNat_ofNat, BitVec.toNat_ofNat]; omega
  by_cases ht : t.val < 63
  · rw [if_pos ht]
    unfold lastE
    refine if_congr (and_congr (or_congr ?_ e1) (by push_cast; omega)) rfl rfl
    split
    · rw [hw, hw]
      have e2 : 64 * n + (1 + t.val) = 64 * n + t.val + 1 := by omega
      simp only [e2]
    · rename_i h; exact absurd ht h
  · rw [if_neg ht, if_neg]
    rintro ⟨h1 | h1, h2⟩
    · refine h1 ?_
      split
      · rename_i h; exact absurd h ht
      · congr 2; exact Fin.ext (by have := t.isLt; show 63 + (t.val - 63) = t.val; omega)
    · rw [e1] at h1; have := t.isLt; omega

theorem sum_chunk (f : ℕ → EReal) (g : Fin 64 → EReal) (h : ∀ t, g t = if t.val < 63 then f t.val else 0) :
    ∑ t, g t = ∑ t ∈ Finset.range 63, f t := by
  rw [Fin.sum_univ_castSucc, h, if_neg (by simp), add_zero, Finset.sum_range]
  exact Finset.sum_congr rfl fun t _ => by rw [h, if_pos (by simp)]; rfl

set_option maxHeartbeats 1000000 in
theorem main_second {n : ℕ} (hn : n ≤ 15) (hf : Feeds W x mk (n + 1) X) {i : grid0.Coords} (hi : (i 0).val = n + 1)
    (h : Inv1 W x mk n S) (h' : Inv2 W x mk n (64 * n) S) :
    Inv2 W x mk (n + 1) (64 * n + 63) (mainPart i X S) ∧ Held W x mk (n + 1) (mainPart i X S) := by
  have hw : ∀ (i : Fin 64) b, idxOf X S (ix2 i b) = word W (x b) (mk b) (64 * n + i.val) := fun i b => (word_at hf h.y h.cn i b).1
  have hg : ∀ (b : Fin 32) (t : Fin 64), hsAt X S b t = gseq W (x b) (mk b) (64 * n + t.val + 1) := fun b t => by
    funext d; exact loop_second hf h.y h.cn h'.pidx h'.h2 (t.val + 1) (by omega) b d
  have e63 : 64 * n + ((63 : Fin 64) : ℕ) + 1 = 64 * (n + 1) := by simp; omega
  refine ⟨⟨fun b d => ?_, fun b => ?_, fun k b d => ?_, fun k b => ?_, fun b => ?_⟩, ⟨fun b d => ?_, fun k b => ?_⟩⟩
  · rw [(rest_main i b d).2.1, loop_second hf h.y h.cn h'.pidx h'.h2 64 (le_refl _), Nat.mul_succ]
  · rw [(rest_main i b 0).2.2.1, hw, show 64 * n + ((63 : Fin 64) : ℕ) = 64 * n + 63 from rfl, show 64 * (n + 1) = 64 * n + 63 + 1 from rfl, pword]
  · rw [heads_main hf, h'.num, num, num, Finset.sum_range_add, hi,
      sum_chunk (fun t => wt W (x b) (mk b) k (64 * n + t) * gseq W (x b) (mk b) (64 * n + t + 1) d) _ fun t => ?_]
    rw [mask_at hn hw, hg]
    by_cases ht : t.val < 63
    · rw [if_pos ht, if_pos ht, wt]
    · rw [if_neg ht, if_neg ht, mul_zero, zero_mul]
  · rw [den_main hf, h'.den, den, den, Finset.sum_range_add, hi, sum_chunk (fun t => wt W (x b) (mk b) k (64 * n + t)) _ fun t => ?_]
    rw [mask_at hn hw, hg]
    by_cases ht : t.val < 63
    · rw [if_pos ht, if_pos ht, wt]
    · rw [if_neg ht, if_neg ht, mul_zero]
  · rw [seg_main, h'.seg, seg, seg, Finset.sum_range_add, hi,
      sum_chunk (fun t => lastE W (x b) (mk b) (64 * n + t)) _ fun t => mask_at hn hw t b]
  · rw [(rest_main i b d).2.2.2, hg, e63]
  · rw [scst_main hf, hg, e63]

/-- Entering a later point: the last position of the chunk before is added. -/
theorem flush_second {n : ℕ} (hn : n ≤ 14) {s : ℕ} (hf : Feeds W x mk s X) (h : Inv1 W x mk (n + 1) S) (h' : Inv2 W x mk (n + 1) (64 * n + 63) S)
    (hh : Held W x mk (n + 1) S) : Inv1 W x mk (n + 1) (flushLast X S) ∧ Inv2 W x mk (n + 1) (64 * (n + 1)) (flushLast X S) := by
  have ht : ∀ b, turned X S b = lastE W (x b) (mk b) (64 * n + 63) := fun b => by
    unfold turned lastE
    rw [(word_at hf h.y h.cn 0 b).1, (keep_at hf h.y h.cn h'.pidx 0 b 0).1]
    have e : 64 * (n + 1) + ((0 : Fin 64) : ℕ) = 64 * n + 63 + 1 := by simp; omega
    rw [e]
    show (if _ ≠ word W (x b) (mk b) (64 * n + 63) then (1 : EReal) else 0) = _
    congr 1
    simp only [eq_iff_iff]
    constructor
    · exact fun h => ⟨.inl h, by omega⟩
    · rintro ⟨h | h, -⟩
      · exact h
      · omega
  have e : 64 * (n + 1) = 64 * n + 63 + 1 := by omega
  refine ⟨⟨h.h1, h.y, h.cn⟩, ⟨h'.h2, h'.pidx, fun k b d => ?_, fun k b => ?_, fun b => ?_⟩⟩
  · rw [heads_flush, h'.num, ht, hh.scst, hh.hsst, e, num, num, Finset.sum_range_succ _ (64 * n + 63), wt]
  · rw [den_flush, h'.den, ht, hh.scst, e, den, den, Finset.sum_range_succ _ (64 * n + 63), wt]
  · rw [seg_flush, h'.seg, ht, e, seg, seg, Finset.sum_range_succ _ (64 * n + 63)]

variable {Xs : ℕ → Ins Ideal} {Sq : ℕ → Scr Ideal} {co : ℕ → grid0.Coords}

/-- The scratch after point `n + 1`. -/
theorem scratch_after (hf : ∀ s < 17, Feeds W x mk s (Xs s)) (hco : ∀ s < 17, ((co s) 0).val = s)
    (hS : ∀ s < 17, Sq (s + 1) = stepScr (co s) (Xs s) (Sq s)) (n : ℕ) (hn : n ≤ 15) :
    Inv1 W x mk (n + 1) (Sq (n + 2)) ∧ Inv2 W x mk (n + 1) (64 * n + 63) (Sq (n + 2)) ∧ Held W x mk (n + 1) (Sq (n + 2)) := by
  have h0 : Inv1 W x mk 0 (Sq 1) := by
    rw [hS 0 (by omega), stepScr, enter, if_pos ((first_iff _).mpr (hco 0 (by omega)))]
    refine main_first (hf 0 (by omega)) (hco 0 (by omega)) (fun b d => ?_) fun c => ?_
    · show k0_pay41 (F := Ideal) (ix2 b d) = 0
      pointwise [k0_pay41]
    · rw [enterFirst, getRow_setRow_same]
      pointwise [k0_pay42]
      simp only [(hf 0 (by omega)).cbT]
  induction n with
  | zero =>
    rw [hS 1 (by omega), stepScr, enter, if_neg (by rw [first_iff, hco 1 (by omega)]; omega), if_pos ((second_iff _).mpr (hco 1 (by omega)))]
    have h1 : Inv1 W x mk 0 (enterSecond (Sq 1)) := ⟨h0.h1, h0.y, h0.cn⟩
    refine ⟨main_first (hf 1 (by omega)) (hco 1 (by omega)) h1.h1 h1.cn,
      main_second (by omega) (hf 1 (by omega)) (hco 1 (by omega)) h1 ⟨fun b d => ?_, fun b => ?_, fun k b d => ?_, fun k b => ?_, fun b => ?_⟩⟩
    · show k0_pay43 (F := Ideal) (ix2 b d) = 0
      pointwise [k0_pay43]
    · show getRow 0 k0_pay44 (ix2 0 b) = 4294967295#32
      rfl
    · show _ = ∑ t ∈ Finset.range 0, _
      rw [Finset.sum_range_zero]
      fin_cases k <;>
      · simp only [heads, enterSecond, Fin.isValue, Fin.zero_eta, Fin.mk_one, Fin.reduceFinMk, Matrix.cons_val, Matrix.cons_val_zero, Matrix.cons_val_one]
        pointwise [k0_pay45, k0_pay46, k0_pay47, k0_pay48]
    · show k0_pay49 (F := Ideal) (ix2 (rowOf k) b) = ∑ t ∈ Finset.range 0, _
      rw [Finset.sum_range_zero]; pointwise [k0_pay49]
    · show k0_pay49 (F := Ideal) (ix2 4 b) = ∑ t ∈ Finset.range 0, _
      rw [Finset.sum_range_zero]; pointwise [k0_pay49]
  | succ n ih =>
    obtain ⟨i1, i2, i3⟩ := ih (by omega)
    rw [hS (n + 2) (by omega), stepScr, enter, if_neg (by rw [first_iff, hco (n + 2) (by omega)]; omega),
      if_neg (by rw [second_iff, hco (n + 2) (by omega)]; omega)]
    obtain ⟨j1, j2⟩ := flush_second (by omega) (hf (n + 2) (by omega)) i1 i2 i3
    exact ⟨main_first (hf (n + 2) (by omega)) (hco (n + 2) (by omega)) j1.h1 j1.cn,
      main_second (by omega) (hf (n + 2) (by omega)) (hco (n + 2) (by omega)) j1 j2⟩

end Cert.KernelIdeal.Hand

end
-- ==== Proof.KernelIdealOut.lean ====
/- The kernel's output from the last point's scratch, at the extended reals. -/
module

public import proofs.«01_k».proof.Proof.KernelIdealInv

@[expose] public section

set_option maxRecDepth 16384

noncomputable section

namespace Cert.Spec

open Idealize.ShloMosaic

/-- A vector divided by its length. -/
def unit (p : Fin 4 → Fin 256 → EReal) (k : Fin 4) (d : Fin 256) : EReal :=
  Ideal.div (p k d) (max (Ideal.sqrt (∑ k, ∑ d, p k d * p k d)) tiny)

theorem sum_past {M : Type} [AddCommMonoid M] (f : ℕ → M) (h : f 1022 = 0) : ∑ t ∈ Finset.range 1023, f t = ∑ t ∈ Finset.range 1022, f t := by
  rw [Finset.sum_range_succ _ 1022, h, add_zero]

variable (W : Wts) (x : ℕ → Fin 256 → EReal) (mk : ℕ → EReal)

theorem last_past : lastE W x mk 1022 = 0 := if_neg fun h => absurd h.2 (by omega)

theorem num_past (k : Fin 4) (d : Fin 256) : num W x mk k 1023 d = num W x mk k 1022 d := by
  rw [num, sum_past _ (by rw [wt, last_past, mul_zero, zero_mul]), num]
theorem den_past (k : Fin 4) : den W x mk k 1023 = den W x mk k 1022 := by
  rw [den, sum_past _ (by rw [wt, last_past, mul_zero]), den]
theorem seg_past : seg W x mk 1023 = seg W x mk 1022 := by
  rw [seg, sum_past _ (last_past W x mk), seg]

end Cert.Spec

namespace Cert.KernelIdeal.Hand

open Cert.KernelIdeal.Gen Cert.Spec
open Idealize.ShloMosaic Idealize.ShloMosaic.TcCoe

variable {W : Wts} {x : Fin 32 → ℕ → Fin 256 → EReal} {mk : Fin 32 → ℕ → EReal} {X : Ins Ideal} {S : Scr Ideal} {s : ℕ}

theorem pooled_rows (hf : Feeds W x mk s X) (h : Inv2 W x mk 16 1023 S) (b : Fin 32) (e : Fin 256) :
    k0_pay31 X.x20 X.x21 (getRow 4 S.den) (getRow 0 S.den) S.n0 (ix2 b e) = pooled W (x b) (mk b) 0 e
    ∧ k0_pay36 (k0_pay33 (getRow 1 S.den)) (k0_pay34 (getRow 4 S.den)) (k0_pay35 X.x20 X.x21) S.n1 (ix2 b e) = pooled W (x b) (mk b) 1 e
    ∧ k0_pay37 (k0_pay29 X.x20 X.x21) (k0_pay30 (getRow 4 S.den)) (getRow 2 S.den) S.n2 (ix2 b e) = pooled W (x b) (mk b) 2 e
    ∧ k0_pay4 (k0_pay39 (getRow 3 S.den)) (k0_pay40 (k0_pay29 X.x20 X.x21) (k0_pay30 (getRow 4 S.den))) S.n3 (ix2 b e) = pooled W (x b) (mk b) 3 e := by
  have n0 : S.n0 (ix2 b e) = _ := h.num 0 b e
  have n1 : S.n1 (ix2 b e) = _ := h.num 1 b e
  have n2 : S.n2 (ix2 b e) = _ := h.num 2 b e
  have n3 : S.n3 (ix2 b e) = _ := h.num 3 b e
  have d0 : getRow 0 S.den (ix2 0 b) = _ := h.den 0 b
  have d1 : getRow 1 S.den (ix2 0 b) = _ := h.den 1 b
  have d2 : getRow 2 S.den (ix2 0 b) = _ := h.den 2 b
  have d3 : getRow 3 S.den (ix2 0 b) = _ := h.den 3 b
  refine ⟨?_, ?_, ?_, ?_⟩
  · pointwise [k0_pay31, k0_pay30, k0_pay29]
    simp only [acol_zero, hf.ab, hf.au, n0, d0, h.seg, num_past, den_past, seg_past, cnt_word]
    rfl
  · pointwise [k0_pay36, k0_pay35, k0_pay34, k0_pay33, k0_pay30, k0_pay29]
    simp only [acol_one, hf.ab, hf.au, n1, d1, h.seg, num_past, den_past, seg_past, cnt_word]
    rfl
  · pointwise [k0_pay37, k0_pay30, k0_pay29]
    simp only [acol_two, hf.ab, hf.au, n2, d2, h.seg, num_past, den_past, seg_past, cnt_word]
    rfl
  · pointwise [k0_pay4, k0_pay39, k0_pay40, k0_pay30, k0_pay29]
    simp only [acol_three, hf.ab, hf.au, n3, d3, h.seg, num_past, den_past, seg_past, cnt_word]
    rfl

theorem length_row (hf : Feeds W x mk s X) (h : Inv2 W x mk 16 1023 S) (b : Fin 32) :
    k0_pay5 (k0_pay38 (k0_pay29 X.x20 X.x21) (k0_pay30 (getRow 4 S.den)) (k0_pay32 X.x20 X.x21 (getRow 4 S.den) (getRow 0 S.den) S.n0) (k0_pay33 (getRow 1 S.den))
        (k0_pay34 (getRow 4 S.den)) (k0_pay35 X.x20 X.x21) S.n1 (getRow 2 S.den) S.n2) (k0_pay39 (getRow 3 S.den))
        (k0_pay40 (k0_pay29 X.x20 X.x21) (k0_pay30 (getRow 4 S.den))) S.n3 (ix2 b 0)
      = max (Ideal.sqrt (∑ k, ∑ d, pooled W (x b) (mk b) k d * pooled W (x b) (mk b) k d)) tiny := by
  have hp := fun e => pooled_rows hf h b e
  pointwise [k0_pay5, k0_pay38, k0_pay32]
  simp only [(hp _).1, (hp _).2.1, (hp _).2.2.1, (hp _).2.2.2]
  rw [Fin.sum_univ_four]
  rfl

/-- The kernel's output. -/
theorem out_spec (hf : Feeds W x mk s X) (h : Inv2 W x mk 16 1023 S) {D : Vec Ideal S32x1024 .f32} (hD : IsOut X S D) (b : Fin 32) (k : Fin 4) (e : Fin 256) :
    D (ix2 b ⟨256 * k.val + e.val, by omega⟩) = unit (pooled W (x b) (mk b)) k e := by
  obtain ⟨h0, h1, h2, h3⟩ := hD b e
  have hp := pooled_rows hf h b e
  have hl := length_row hf h b
  fin_cases k
  · have e0 : (⟨256 * ((0 : Fin 4) : ℕ) + e.val, by simp; omega⟩ : Fin 1024) = ⟨e.val, by omega⟩ := Fin.ext (by simp)
    show D (ix2 b ⟨256 * ((0 : Fin 4) : ℕ) + e.val, _⟩) = _
    rw [e0, h0]; pointwise [k0_pay6]; rw [hl, hp.1]; rfl
  · show D (ix2 b ⟨256 + e.val, _⟩) = _
    rw [h1]; pointwise [k0_pay7]; rw [hl, hp.2.1]; rfl
  · show D (ix2 b ⟨512 + e.val, _⟩) = _
    rw [h2]; pointwise [k0_pay8]; rw [hl, hp.2.2.1]; rfl
  · show D (ix2 b ⟨768 + e.val, _⟩) = _
    rw [h3]; pointwise [k0_pay9]; rw [hl, hp.2.2.2]; rfl

end Cert.KernelIdeal.Hand

end
-- ==== Proof.Args.lean ====
/- The sixteen arguments as one record, and what both programs compute from them before the recurrences. -/
module

public import proofs.«01_k».proof.Proof.Words
public import Idealize.ShloMosaic.Lib.Affine

@[expose] public section

noncomputable section

namespace Cert.Spec

open Idealize.ShloMosaic

/-- The arguments of both programs. -/
structure Args where
  inp : Vec Ideal ⟨3, ![32, 39, 2048]⟩ .f32
  len : Vec Ideal ⟨1, ![32]⟩ .i32
  cw : Vec Ideal ⟨3, ![256, 39, 6]⟩ .f32
  cbias : Vec Ideal ⟨1, ![256]⟩ .f32
  wih : Vec Ideal ⟨2, ![768, 256]⟩ .f32
  whh : Vec Ideal ⟨2, ![768, 256]⟩ .f32
  bih : Vec Ideal ⟨1, ![768]⟩ .f32
  bhh : Vec Ideal ⟨1, ![768]⟩ .f32
  vih : Vec Ideal ⟨2, ![768, 256]⟩ .f32
  vhh : Vec Ideal ⟨2, ![768, 256]⟩ .f32
  cih : Vec Ideal ⟨1, ![768]⟩ .f32
  chh : Vec Ideal ⟨1, ![768]⟩ .f32
  cb : Vec Ideal ⟨2, ![1024, 256]⟩ .f32
  aw : Vec Ideal ⟨3, ![4, 256, 128]⟩ .f32
  ab : Vec Ideal ⟨2, ![4, 128]⟩ .f32
  au : Vec Ideal ⟨2, ![4, 128]⟩ .f32

/-- The weights, by their indices. -/
def Args.W (a : Args) : Wts where
  wih k j := a.wih (ix2 j k)
  bih j := a.bih (ix1 j)
  whh k j := a.whh (ix2 j k)
  bhh j := a.bhh (ix1 j)
  cb c d := a.cb (ix2 c d)
  vih k j := a.vih (ix2 j k)
  cih j := a.cih (ix1 j)
  vhh k j := a.vhh (ix2 j k)
  chh j := a.chh (ix1 j)
  aw k d e := a.aw (ix3 k d e)
  ab k e := a.ab (ix2 k e)
  au k e := a.au (ix2 k e)

/-- The input at a pair of samples, its channels and the pair laid out in one row, zeros behind. -/
def Args.pin (a : Args) (b : Fin 32) (t k : ℕ) : EReal :=
  if h : t < 1024 ∧ k < 78 then a.inp (ix3 b ⟨k / 2, by omega⟩ ⟨t * 2 + k % 2, by omega⟩) else 0

/-- A pair of taps of the convolution, laid out the same way. -/
def Args.tap (a : Args) (j : Fin 3) (k : ℕ) (d : Fin 256) : EReal :=
  if h : k < 78 then a.cw (ix3 d ⟨k / 2, by omega⟩ ⟨2 * j.val + k % 2, by omega⟩) else 0

/-- The convolution, pair by pair. -/
def Args.conv (a : Args) (b : Fin 32) (t : ℕ) (d : Fin 256) : EReal :=
  ∑ k : Fin 128, a.pin b t k.val * a.tap 0 k.val d + ∑ k : Fin 128, a.pin b (t + 1) k.val * a.tap 1 k.val d
    + ∑ k : Fin 128, a.pin b (t + 2) k.val * a.tap 2 k.val d + a.cbias (ix1 d)

/-- The sign of a word. -/
def sgn (a : BitVec 32) : BitVec 32 := if a = 0 then 0 else if a.msb = true then -1 else 1

theorem sgn_eq (a : BitVec 32) : IntOp.subi (BitVec.setWidth 32 (IntOp.cmpi .sgt a 0#32)) (BitVec.setWidth 32 (IntOp.cmpi .slt a 0#32)) = sgn a := by
  have e1 : IntOp.cmpi .sgt a 0#32 = BitVec.ofBool ((0#32).slt a) := rfl
  have e2 : IntOp.cmpi .slt a 0#32 = BitVec.ofBool (a.slt 0#32) := rfl
  rw [e1, e2, BitVec.slt_eq_decide, BitVec.slt_eq_decide, sgn, BitVec.msb_eq_toInt]
  have z : (0#32 : BitVec 32).toInt = 0 := rfl
  rw [z]
  by_cases h0 : a = 0
  · subst h0; rfl
  · have h1 : a.toInt ≠ 0 := fun h => h0 (BitVec.toInt_inj.mp (h.trans z.symm))
    rw [if_neg h0]
    by_cases h2 : a.toInt < 0
    · have h3 : ¬ 0 < a.toInt := by omega
      simp only [h2, h3, decide_true, decide_false]; rfl
    · have h3 : 0 < a.toInt := by omega
      simp only [h2, h3, decide_true, decide_false]; rfl

/-- How many positions a length leaves: half of what lies past the first four samples, rounded down. -/
def half (l : BitVec 32) : BitVec 32 :=
  Scalar.select (IntOp.andi (IntOp.cmpi .ne (sgn (IntOp.subi l 4#32)) 1#32) (IntOp.cmpi .ne ((IntOp.subi l 4#32).srem 2#32) 0#32))
    (IntOp.subi ((IntOp.subi l 4#32).sdiv 2#32) 1#32) ((IntOp.subi l 4#32).sdiv 2#32)

theorem div_two (u : ArithUnit) (x : BitVec 32) : IntOp.divsi u x 2#32 = x.sdiv 2#32 := if_neg (IntOp.not_corner_of_pos (by decide))
theorem rem_two (u : ArithUnit) (x : BitVec 32) : IntOp.remsi u x 2#32 = x.srem 2#32 := IntOp.remsi_of_pos u (by decide)

/-- Whether a position lies within the length. -/
def Args.mask (a : Args) (b : Fin 32) (t : ℕ) : EReal :=
  if (BitVec.ofNat 32 t).toInt < (half (a.len (ix1 b))).toInt then 1 else 0

end Cert.Spec

end
-- ==== Proof.KernelIdealFeeds.lean ====
/- The kernel's windows from the arguments. -/
module

public import proofs.«01_k».proof.Proof.KernelIdealRun
public import proofs.«01_k».proof.Proof.KernelIdealOut
public import proofs.«01_k».proof.Proof.Args
public import Idealize.ShloMosaic.Lib.Pipeline.ValueKit.Point
public import Idealize.ShloMosaic.Lib.StableHlo.RunRead

@[expose] public section

set_option maxRecDepth 65536
set_option maxHeartbeats 800000

noncomputable section

namespace Cert.KernelIdeal.Hand

open Cert.KernelIdeal.Gen Cert.Spec
open Idealize.ShloMosaic Idealize.ShloMosaic.TcCoe

variable (m : (l : Loc nD τ sig) → Buf (Elt Ideal) l) (c : Dev nD)

/-- The kernel's arguments. -/
def args : Args where
  inp := m ((c.tc : Thread nD τ).loc main_arg0)
  len := m ((c.tc : Thread nD τ).loc main_arg1)
  cw := m ((c.tc : Thread nD τ).loc main_arg2)
  cbias := m ((c.tc : Thread nD τ).loc main_arg3)
  wih := m ((c.tc : Thread nD τ).loc main_arg4)
  whh := m ((c.tc : Thread nD τ).loc main_arg5)
  bih := m ((c.tc : Thread nD τ).loc main_arg6)
  bhh := m ((c.tc : Thread nD τ).loc main_arg7)
  vih := m ((c.tc : Thread nD τ).loc main_arg8)
  vhh := m ((c.tc : Thread nD τ).loc main_arg9)
  cih := m ((c.tc : Thread nD τ).loc main_arg10)
  chh := m ((c.tc : Thread nD τ).loc main_arg11)
  cb := m ((c.tc : Thread nD τ).loc main_arg12)
  aw := m ((c.tc : Thread nD τ).loc main_arg13)
  ab := m ((c.tc : Thread nD τ).loc main_arg14)
  au := m ((c.tc : Thread nD τ).loc main_arg15)

/-- Where each window's block lies. -/
theorem idx : ∀ t : Fin grid0.N,
    (win0_0.index t 0 = 0 ∧ win0_0.index t 1 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) ∧ (win0_12.index t 0 = 0 ∧ win0_12.index t 1 = 0)
    ∧ (win0_13.index t 0 = 0 ∧ win0_13.index t 1 = 0) ∧ (win0_14.index t 0 = 0 ∧ win0_14.index t 1 = 0) ∧ (win0_15.index t 0 = 0 ∧ win0_15.index t 1 = 0)
    ∧ (win0_16.index t 0 = 0 ∧ win0_16.index t 1 = 0) ∧ (win0_17.index t 0 = 0 ∧ win0_17.index t 1 = 0) ∧ (win0_18.index t 0 = 0 ∧ win0_18.index t 1 = 0)
    ∧ (win0_19.index t 0 = 0 ∧ win0_19.index t 1 = 0) ∧ (win0_20.index t 0 = 0 ∧ win0_20.index t 1 = 0) := by decide +kernel

/-- The kernel's input, a row per pair of samples. -/
def rows : Vec Ideal S1024x32x128 .f32 :=
  pad S1024x32x128 ![0, 0, 0] ![0, 0, 50] ![0, 0, 0]
    (shapeCast S1024x32x78 (transpose S1024x32x39x2 [2, 0, 1, 3] (shapeCast S32x39x1024x2 (args m c).inp shapeCasts_S32x39x2048_S32x39x1024x2)
      transposes_S32x39x1024x2_S1024x32x39x2_2_0_1_3) shapeCasts_S1024x32x39x2_S1024x32x78)
    (sitofp (F := Ideal) .f32 (constantI S_ 32 0#32)) pads_S1024x32x78_S1024x32x128_000_000_0500 h_S_

theorem no_word : (FloatOps.sitofp (F := Ideal) FTy.f32 (0#32 : BitVec 32) : Ideal .f32) = (0 : EReal) := by
  show (((0#32 : BitVec 32).toInt : ℝ) : EReal) = 0
  simp

theorem rows_at (t : Fin 1024) (b : Fin 32) (k : Fin 128) : rows m c (ix3 t b k) = (args m c).pin b t.val k.val := by
  pointwise [rows]
  rw [no_word, Args.pin]
  by_cases h : k.val < 78
  · rw [dif_pos h, dif_pos ⟨t.isLt, h⟩]
  · rw [dif_neg h, dif_neg fun h' => h h'.2]

/-- The three copies of the input: each shifted by one more pair, zeros behind. -/
theorem v4 : V m c main_v4 = pad S1088x32x128 ![0, 0, 0] ![64, 0, 0] ![0, 0, 0] (rows m c) (sitofp (F := Ideal) .f32 (constantI S_ 32 0#32)) pads_S1024x32x128_S1088x32x128_0640_000_000 h_S_ := by
  simp only [V, List.flatten_cons, List.flatten_nil, StableHlo.after_append]
  after_reads_simp
  rfl
theorem v6 : V m c main_v6 = pad S1088x32x128 ![0, 0, 0] ![65, 0, 0] ![0, 0, 0] (extractStridedSlice S1023x32x128 ![1, 0, 0] (rows m c) slices_S1024x32x128_S1023x32x128_1_0_0) (sitofp (F := Ideal) .f32 (constantI S_ 32 0#32)) pads_S1023x32x128_S1088x32x128_0650_000_000 h_S_ := by
  simp only [V, List.flatten_cons, List.flatten_nil, StableHlo.after_append]
  after_reads_simp
  rfl
theorem v8 : V m c main_v8 = pad S1088x32x128 ![0, 0, 0] ![66, 0, 0] ![0, 0, 0] (extractStridedSlice S1022x32x128 ![2, 0, 0] (rows m c) slices_S1024x32x128_S1022x32x128_2_0_0) (sitofp (F := Ideal) .f32 (constantI S_ 32 0#32)) pads_S1022x32x128_S1088x32x128_0660_000_000 h_S_ := by
  simp only [V, List.flatten_cons, List.flatten_nil, StableHlo.after_append]
  after_reads_simp
  rfl

theorem pin_past (a : Args) (b : Fin 32) (t k : ℕ) (h : ¬ t < 1024) : a.pin b t k = 0 := by
  rw [Args.pin, dif_neg fun h' => h h'.1]

theorem x2_at (t : Fin cfg0.N) (i : Fin 64) (b : Fin 32) (k : Fin 128) : (insAt m c t).x2 (ix3 i b k) = (args m c).pin b (64 * t.val + i.val) k.val := by
  have ht : t.val < 17 := t.isLt
  have e : (insAt m c t).x2 (ix3 i b k) = (V m c main_v4 : Vec Ideal S1088x32x128 .f32) (ix3 ⟨64 * t.val + i.val, by omega⟩ b k) := by
    show (iblk m c 1 t : Vec Ideal S64x32x128 .f32) (ix3 i b k) = _
    blk_point [iblk, V, idx t]
    all_goals omega
  rw [e, v4]
  pointwise
  split
  · rw [rows_at]
  · rw [pin_past _ _ _ _ (by omega)]; exact no_word
theorem x3_at (t : Fin cfg0.N) (i : Fin 64) (b : Fin 32) (k : Fin 128) : (insAt m c t).x3 (ix3 i b k) = (args m c).pin b (64 * t.val + i.val + 1) k.val := by
  have ht : t.val < 17 := t.isLt
  have e : (insAt m c t).x3 (ix3 i b k) = (V m c main_v6 : Vec Ideal S1088x32x128 .f32) (ix3 ⟨64 * t.val + i.val, by omega⟩ b k) := by
    show (iblk m c 2 t : Vec Ideal S64x32x128 .f32) (ix3 i b k) = _
    blk_point [iblk, V, idx t]
    all_goals omega
  rw [e, v6]
  pointwise
  split
  · rw [rows_at]; congr 1; simp only []; omega
  · rw [pin_past _ _ _ _ (by omega)]; exact no_word
theorem x4_at (t : Fin cfg0.N) (i : Fin 64) (b : Fin 32) (k : Fin 128) : (insAt m c t).x4 (ix3 i b k) = (args m c).pin b (64 * t.val + i.val + 2) k.val := by
  have ht : t.val < 17 := t.isLt
  have e : (insAt m c t).x4 (ix3 i b k) = (V m c main_v8 : Vec Ideal S1088x32x128 .f32) (ix3 ⟨64 * t.val + i.val, by omega⟩ b k) := by
    show (iblk m c 3 t : Vec Ideal S64x32x128 .f32) (ix3 i b k) = _
    blk_point [iblk, V, idx t]
    all_goals omega
  rw [e, v8]
  pointwise
  split
  · rw [rows_at]; congr 1; simp only []; omega
  · rw [pin_past _ _ _ _ (by omega)]; exact no_word

/-- A pair of taps, as the kernel lays it out. -/
def taps (w : Vec Ideal S256x39x2 .f32) : Vec Ideal S128x256 .f32 :=
  pad S128x256 ![0, 0] ![50, 0] ![0, 0] (transpose S78x256 [1, 0] (shapeCast S256x78 w shapeCasts_S256x39x2_S256x78) transposes_S256x78_S78x256_1_0)
    (sitofp (F := Ideal) .f32 (constantI S_ 32 0#32)) pads_S78x256_S128x256_0500_000 h_S_

theorem v12 : V m c main_v12 = taps (extractStridedSlice S256x39x2 ![0, 0, 0] (args m c).cw slices_S256x39x6_S256x39x2_0_0_0) := by
  simp only [V, List.flatten_cons, List.flatten_nil, StableHlo.after_append]
  after_reads_simp
  rfl
theorem v16 : V m c main_v16 = taps (extractStridedSlice S256x39x2 ![0, 0, 2] (args m c).cw slices_S256x39x6_S256x39x2_0_0_2) := by
  simp only [V, List.flatten_cons, List.flatten_nil, StableHlo.after_append]
  after_reads_simp
  rfl
theorem v20 : V m c main_v20 = taps (extractStridedSlice S256x39x2 ![0, 0, 4] (args m c).cw slices_S256x39x6_S256x39x2_0_0_4) := by
  simp only [V, List.flatten_cons, List.flatten_nil, StableHlo.after_append]
  after_reads_simp
  rfl

theorem x5_at (t : Fin cfg0.N) (k : Fin 128) (d : Fin 256) : (insAt m c t).x5 (ix2 k d) = (args m c).tap 0 k.val d := by
  have e : (insAt m c t).x5 (ix2 k d) = (V m c main_v12 : Vec Ideal S128x256 .f32) (ix2 k d) := by
    show (iblk m c 4 t : Vec Ideal S128x256 .f32) (ix2 k d) = _
    blk_point [iblk, V, idx t]
  rw [e, v12, Args.tap]
  pointwise [taps]
  rw [no_word]
theorem x6_at (t : Fin cfg0.N) (k : Fin 128) (d : Fin 256) : (insAt m c t).x6 (ix2 k d) = (args m c).tap 1 k.val d := by
  have e : (insAt m c t).x6 (ix2 k d) = (V m c main_v16 : Vec Ideal S128x256 .f32) (ix2 k d) := by
    show (iblk m c 5 t : Vec Ideal S128x256 .f32) (ix2 k d) = _
    blk_point [iblk, V, idx t]
  rw [e, v16, Args.tap]
  pointwise [taps]
  rw [no_word]
theorem x7_at (t : Fin cfg0.N) (k : Fin 128) (d : Fin 256) : (insAt m c t).x7 (ix2 k d) = (args m c).tap 2 k.val d := by
  have e : (insAt m c t).x7 (ix2 k d) = (V m c main_v20 : Vec Ideal S128x256 .f32) (ix2 k d) := by
    show (iblk m c 6 t : Vec Ideal S128x256 .f32) (ix2 k d) = _
    blk_point [iblk, V, idx t]
  rw [e, v20, Args.tap]
  pointwise [taps]
  rw [no_word]

theorem x1_at (t : Fin cfg0.N) (b : Fin 32) : (insAt m c t).x1 (ix2 b 0) = (args m c).len (ix1 b) := by
  have e : (insAt m c t).x1 (ix2 b 0) = (V m c main_v21 : Vec Ideal S32x1 .i32) (ix2 b 0) := by
    show (iblk m c 0 t : Vec Ideal S32x1 .i32) (ix2 b 0) = _
    blk_point [iblk, V, idx t]
  rw [e]
  simp only [V, List.flatten_cons, List.flatten_nil, StableHlo.after_append]
  after_reads_simp
  pointwise
  rfl
theorem x8_at (t : Fin cfg0.N) (d : Fin 256) : (insAt m c t).x8 (ix2 0 d) = (args m c).cbias (ix1 d) := by
  have e : (insAt m c t).x8 (ix2 0 d) = (V m c main_v22 : Vec Ideal S1x256 .f32) (ix2 0 d) := by
    show (iblk m c 7 t : Vec Ideal S1x256 .f32) (ix2 0 d) = _
    blk_point [iblk, V, idx t]
  rw [e]
  simp only [V, List.flatten_cons, List.flatten_nil, StableHlo.after_append]
  after_reads_simp
  pointwise
  rfl
theorem x9_at (t : Fin cfg0.N) (k : Fin 256) (j : Fin 768) : (insAt m c t).x9 (ix2 k j) = (args m c).wih (ix2 j k) := by
  have e : (insAt m c t).x9 (ix2 k j) = (V m c main_v23 : Vec Ideal S256x768 .f32) (ix2 k j) := by
    show (iblk m c 8 t : Vec Ideal S256x768 .f32) (ix2 k j) = _
    blk_point [iblk, V, idx t]
  rw [e]
  simp only [V, List.flatten_cons, List.flatten_nil, StableHlo.after_append]
  after_reads_simp
  pointwise
  rfl
theorem x11_at (t : Fin cfg0.N) (k : Fin 256) (j : Fin 768) : (insAt m c t).x11 (ix2 k j) = (args m c).whh (ix2 j k) := by
  have e : (insAt m c t).x11 (ix2 k j) = (V m c main_v24 : Vec Ideal S256x768 .f32) (ix2 k j) := by
    show (iblk m c 10 t : Vec Ideal S256x768 .f32) (ix2 k j) = _
    blk_point [iblk, V, idx t]
  rw [e]
  simp only [V, List.flatten_cons, List.flatten_nil, StableHlo.after_append]
  after_reads_simp
  pointwise
  rfl
theorem x15_at (t : Fin cfg0.N) (k : Fin 256) (j : Fin 768) : (insAt m c t).x15 (ix2 k j) = (args m c).vih (ix2 j k) := by
  have e : (insAt m c t).x15 (ix2 k j) = (V m c main_v27 : Vec Ideal S256x768 .f32) (ix2 k j) := by
    show (iblk m c 14 t : Vec Ideal S256x768 .f32) (ix2 k j) = _
    blk_point [iblk, V, idx t]
  rw [e]
  simp only [V, List.flatten_cons, List.flatten_nil, StableHlo.after_append]
  after_reads_simp
  pointwise
  rfl
theorem x17_at (t : Fin cfg0.N) (k : Fin 256) (j : Fin 768) : (insAt m c t).x17 (ix2 k j) = (args m c).vhh (ix2 j k) := by
  have e : (insAt m c t).x17 (ix2 k j) = (V m c main_v28 : Vec Ideal S256x768 .f32) (ix2 k j) := by
    show (iblk m c 16 t : Vec Ideal S256x768 .f32) (ix2 k j) = _
    blk_point [iblk, V, idx t]
  rw [e]
  simp only [V, List.flatten_cons, List.flatten_nil, StableHlo.after_append]
  after_reads_simp
  pointwise
  rfl
theorem x10_at (t : Fin cfg0.N) (j : Fin 768) : (insAt m c t).x10 (ix2 0 j) = (args m c).bih (ix1 j) := by
  have e : (insAt m c t).x10 (ix2 0 j) = (V m c main_v25 : Vec Ideal S1x768 .f32) (ix2 0 j) := by
    show (iblk m c 9 t : Vec Ideal S1x768 .f32) (ix2 0 j) = _
    blk_point [iblk, V, idx t]
  rw [e]
  simp only [V, List.flatten_cons, List.flatten_nil, StableHlo.after_append]
  after_reads_simp
  pointwise
  rfl
theorem x12_at (t : Fin cfg0.N) (j : Fin 768) : (insAt m c t).x12 (ix2 0 j) = (args m c).bhh (ix1 j) := by
  have e : (insAt m c t).x12 (ix2 0 j) = (V m c main_v26 : Vec Ideal S1x768 .f32) (ix2 0 j) := by
    show (iblk m c 11 t : Vec Ideal S1x768 .f32) (ix2 0 j) = _
    blk_point [iblk, V, idx t]
  rw [e]
  simp only [V, List.flatten_cons, List.flatten_nil, StableHlo.after_append]
  after_reads_simp
  pointwise
  rfl
theorem x16_at (t : Fin cfg0.N) (j : Fin 768) : (insAt m c t).x16 (ix2 0 j) = (args m c).cih (ix1 j) := by
  have e : (insAt m c t).x16 (ix2 0 j) = (V m c main_v29 : Vec Ideal S1x768 .f32) (ix2 0 j) := by
    show (iblk m c 15 t : Vec Ideal S1x768 .f32) (ix2 0 j) = _
    blk_point [iblk, V, idx t]
  rw [e]
  simp only [V, List.flatten_cons, List.flatten_nil, StableHlo.after_append]
  after_reads_simp
  pointwise
  rfl
theorem x18_at (t : Fin cfg0.N) (j : Fin 768) : (insAt m c t).x18 (ix2 0 j) = (args m c).chh (ix1 j) := by
  have e : (insAt m c t).x18 (ix2 0 j) = (V m c main_v30 : Vec Ideal S1x768 .f32) (ix2 0 j) := by
    show (iblk m c 17 t : Vec Ideal S1x768 .f32) (ix2 0 j) = _
    blk_point [iblk, V, idx t]
  rw [e]
  simp only [V, List.flatten_cons, List.flatten_nil, StableHlo.after_append]
  after_reads_simp
  pointwise
  rfl
theorem x13_at (t : Fin cfg0.N) (k : Fin 1024) (d : Fin 256) : (insAt m c t).x13 (ix2 k d) = (args m c).cb (ix2 k d) := by
  have e : (insAt m c t).x13 (ix2 k d) = (V m c main_arg12 : Vec Ideal S1024x256 .f32) (ix2 k d) := by
    show (iblk m c 12 t : Vec Ideal S1024x256 .f32) (ix2 k d) = _
    blk_point [iblk, V, idx t]
  rw [e]
  simp only [V, List.flatten_cons, List.flatten_nil, StableHlo.after_append]
  after_reads_simp
  rfl
theorem x14_at (t : Fin cfg0.N) (d : Fin 256) (k : Fin 1024) : (insAt m c t).x14 (ix2 d k) = (args m c).cb (ix2 k d) := by
  have e : (insAt m c t).x14 (ix2 d k) = (V m c main_v31 : Vec Ideal S256x1024 .f32) (ix2 d k) := by
    show (iblk m c 13 t : Vec Ideal S256x1024 .f32) (ix2 d k) = _
    blk_point [iblk, V, idx t]
  rw [e]
  simp only [V, List.flatten_cons, List.flatten_nil, StableHlo.after_append]
  after_reads_simp
  pointwise
  rfl
theorem x19_at (t : Fin cfg0.N) (k : Fin 4) (d : Fin 256) (e : Fin 128) : (insAt m c t).x19 (ix2 d (acol k e)) = (args m c).aw (ix3 k d e) := by
  have e0 : (insAt m c t).x19 (ix2 d (acol k e)) = (V m c main_v33 : Vec Ideal S256x512 .f32) (ix2 d (acol k e)) := by
    show (iblk m c 18 t : Vec Ideal S256x512 .f32) (ix2 d (acol k e)) = _
    blk_point [iblk, V, idx t]
  rw [e0]
  simp only [V, List.flatten_cons, List.flatten_nil, StableHlo.after_append]
  after_reads_simp
  pointwise
  have e1 : (⟨(acol k e).val / 128, by have := (acol k e).isLt; omega⟩ : Fin 4) = k := Fin.ext (by show (128 * k.val + e.val) / 128 = _; omega)
  have e2 : (⟨(acol k e).val % 128, by omega⟩ : Fin 128) = e := Fin.ext (by show (128 * k.val + e.val) % 128 = _; omega)
  rw [e1, e2]
  rfl
theorem x20_at (t : Fin cfg0.N) (k : Fin 4) (e : Fin 128) : (insAt m c t).x20 (ix2 0 (acol k e)) = (args m c).ab (ix2 k e) := by
  have e0 : (insAt m c t).x20 (ix2 0 (acol k e)) = (V m c main_v34 : Vec Ideal S1x512 .f32) (ix2 0 (acol k e)) := by
    show (iblk m c 19 t : Vec Ideal S1x512 .f32) (ix2 0 (acol k e)) = _
    blk_point [iblk, V, idx t]
  rw [e0]
  simp only [V, List.flatten_cons, List.flatten_nil, StableHlo.after_append]
  after_reads_simp
  pointwise
  have e1 : (⟨(acol k e).val / 128, by have := (acol k e).isLt; omega⟩ : Fin 4) = k := Fin.ext (by show (128 * k.val + e.val) / 128 = _; omega)
  have e2 : (⟨(acol k e).val % 128, by omega⟩ : Fin 128) = e := Fin.ext (by show (128 * k.val + e.val) % 128 = _; omega)
  rw [e1, e2]
  rfl
theorem x21_at (t : Fin cfg0.N) (k : Fin 4) (e : Fin 128) : (insAt m c t).x21 (ix2 0 (acol k e)) = (args m c).au (ix2 k e) := by
  have e0 : (insAt m c t).x21 (ix2 0 (acol k e)) = (V m c main_v35 : Vec Ideal S1x512 .f32) (ix2 0 (acol k e)) := by
    show (iblk m c 20 t : Vec Ideal S1x512 .f32) (ix2 0 (acol k e)) = _
    blk_point [iblk, V, idx t]
  rw [e0]
  simp only [V, List.flatten_cons, List.flatten_nil, StableHlo.after_append]
  after_reads_simp
  pointwise
  have e1 : (⟨(acol k e).val / 128, by have := (acol k e).isLt; omega⟩ : Fin 4) = k := Fin.ext (by show (128 * k.val + e.val) / 128 = _; omega)
  have e2 : (⟨(acol k e).val % 128, by omega⟩ : Fin 128) = e := Fin.ext (by show (128 * k.val + e.val) % 128 = _; omega)
  rw [e1, e2]
  rfl

/-- Every point's windows feed the recurrences with the arguments' values. -/
theorem feeds (t : Fin cfg0.N) : Feeds (args m c).W (args m c).conv (args m c).mask t.val (insAt m c t) where
  hx b i d := by
    simp only [x2_at, x3_at, x4_at, x5_at, x6_at, x7_at, x8_at]
    rfl
  hm v b i d := by
    pointwise [k0_pay75, k0_pay72, k0_pay73, k0_pay74]
    rw [x1_at, sgn_eq, div_two, rem_two, show Scalar.subi (1#32) (Scalar.extui (Scalar.cmpi CmpIPredicate.slt 2#32 0#32)) = 1#32 from rfl,
      show IntOp.addi (BitVec.ofNat 32 ↑i) (Scalar.muli (BitVec.ofNat 32 t.val) 64#32) = BitVec.ofNat 32 (64 * t.val + i.val) from ?_]
    · rw [cmpi_slt_ite, flag_one]
      rfl
    · have ht : t.val < 17 := t.isLt
      apply BitVec.eq_of_toNat_eq
      show ((BitVec.ofNat 32 i.val) + BitVec.ofNat 32 t.val * 64#32).toNat = _
      simp only [BitVec.toNat_add, BitVec.toNat_mul, BitVec.toNat_ofNat]
      omega
  wih k j := x9_at m c t k j
  bih j := x10_at m c t j
  whh k j := x11_at m c t k j
  bhh j := x12_at m c t j
  cb k d := x13_at m c t k d
  cbT d k := x14_at m c t d k
  vih k j := x15_at m c t k j
  cih j := x16_at m c t j
  vhh k j := x17_at m c t k j
  chh j := x18_at m c t j
  aw k d e := x19_at m c t k d e
  ab k e := x20_at m c t k e
  au k e := x21_at m c t k e

end Cert.KernelIdeal.Hand

end
-- ==== Proof.ReferenceIdealLoop.lean ====
/- The reference's loop: after `k` passes its buffers hold the recurrences' states after `k` positions. -/
module

public import proofs.«01_k».proof.Proof.Gen.ReferenceIdeal.Run
public import proofs.«01_k».proof.Proof.Args
public import Idealize.ShloMosaic.Lib.Pointwise

@[expose] public section

set_option maxRecDepth 16384

noncomputable section

namespace Cert.Spec

open Idealize.ShloMosaic

/-- A finite value. -/
def IsReal (x : EReal) : Prop := ∃ r : ℝ, x = r

theorem IsReal.add {x y : EReal} : IsReal x → IsReal y → IsReal (x + y) := by
  rintro ⟨a, rfl⟩ ⟨b, rfl⟩; exact ⟨a + b, by push_cast; rfl⟩
theorem IsReal.sub {x y : EReal} : IsReal x → IsReal y → IsReal (x - y) := by
  rintro ⟨a, rfl⟩ ⟨b, rfl⟩; exact ⟨a - b, by push_cast; rfl⟩
theorem IsReal.mul {x y : EReal} : IsReal x → IsReal y → IsReal (x * y) := by
  rintro ⟨a, rfl⟩ ⟨b, rfl⟩; exact ⟨a * b, by push_cast; rfl⟩
theorem isReal_one : IsReal 1 := ⟨1, by simp⟩
theorem isReal_zero : IsReal 0 := ⟨0, by simp⟩
theorem IsReal.sum {ι : Type} (s : Finset ι) (f : ι → EReal) (h : ∀ i, IsReal (f i)) : IsReal (∑ i ∈ s, f i) :=
  Finset.sum_induction f IsReal (fun _ _ => IsReal.add) isReal_zero fun i _ => h i
theorem isReal_logistic (x : EReal) : IsReal (Ideal.logistic x) := by
  induction x using EReal.rec with
  | bot => rw [Ideal.logistic_bot]; exact isReal_zero
  | coe r => rw [Ideal.logistic_coe]; exact ⟨_, rfl⟩
  | top => rw [Ideal.logistic_top]; exact isReal_one
theorem isReal_tanh (x : EReal) : IsReal (Ideal.tanh x) := by
  induction x using EReal.rec with
  | bot => exact ⟨-1, by simp⟩
  | coe r => exact ⟨Real.tanh r, by simp⟩
  | top => exact ⟨1, by simp⟩
theorem isReal_gate (g u : Fin 768 → EReal) (h : Fin 256 → EReal) (hh : ∀ d, IsReal (h d)) (d : Fin 256) : IsReal (gate g u h d) :=
  ((isReal_one.sub (isReal_logistic _)).mul (isReal_tanh _)).add ((isReal_logistic _).mul (hh d))
theorem isReal_hseq (W : Wts) (x : ℕ → Fin 256 → EReal) : ∀ t d, IsReal (hseq W x t d)
  | 0, d => isReal_zero
  | t + 1, d => isReal_gate _ _ _ (isReal_hseq W x t) d

/-- A finite value added and taken away. -/
theorem IsReal.add_sub {y : EReal} (hy : IsReal y) (q : EReal) : y + (q - y) = q := by
  obtain ⟨r, rfl⟩ := hy
  induction q using EReal.rec with
  | bot => simp
  | coe a => rw [← EReal.coe_sub, ← EReal.coe_add]; congr 1; ring
  | top => simp
theorem IsReal.add_left_inj {r : EReal} (hr : IsReal r) (a b : EReal) : r + a = r + b ↔ a = b := by
  refine ⟨fun h => ?_, fun h => by rw [h]⟩
  have := congrArg (fun z => -r + z) h
  obtain ⟨r, rfl⟩ := hr
  simpa only [← add_assoc, ← EReal.coe_neg, ← EReal.coe_add, neg_add_cancel, EReal.coe_zero, zero_add] using this
theorem IsReal.add_min {r : EReal} (hr : IsReal r) {ι : Type} [DecidableEq ι] (s : Finset ι) (v : ι → EReal) :
    Finset.fold min (⊤ : EReal) (fun c => r + v c) s = r + Finset.fold min (⊤ : EReal) v s := by
  obtain ⟨r, rfl⟩ := hr
  induction s using Finset.induction_on with
  | empty => simp
  | insert a s ha ih =>
    rw [Finset.fold_insert ha, Finset.fold_insert ha, ih]
    exact (Monotone.map_min (f := fun z : EReal => (r : EReal) + z) (fun _ _ h => add_le_add_right h _)).symm
/-- The place of the least does not move when a finite value is added to all. -/
theorem firstWord_add {r : EReal} (hr : IsReal r) (v : Fin 1024 → EReal) : firstWord (fun c => r + v c) = firstWord v := by
  unfold firstWord
  simp only [hr.add_min, hr.add_left_inj]

end Cert.Spec

namespace Cert.ReferenceIdeal.Hand

open Cert.ReferenceIdeal.Gen Cert.ReferenceIdeal.Value Cert.Spec
open Idealize.ShloMosaic Idealize.ShloMosaic.TcCoe Idealize.ShloMosaic.StableHlo

/-- A row of the codebook gathered at a row's own number. -/
theorem gather_row {w : ℕ} (x : S1024x256.Idx → EReal) (idx : IVec S32x1 w) (b : Fin 32) (d : Fin 256) (q : Fin 1024)
    (h : (idx (ix2 b 0)).toInt.toNat = q.val) :
    Host.gather gather_S1024x256_S32x1_S32x256_1_0_n_n_0_1_1256 x idx (ix2 b d) = x (ix2 q d) := by
  unfold Host.gather
  congr 1
  funext a
  refine Fin.ext ?_
  show gather_S1024x256_S32x1_S32x256_1_0_n_n_0_1_1256.start (ix2 b d) idx a + gather_S1024x256_S32x1_S32x256_1_0_n_n_0_1_1256.batchCoord (ix2 b d) a
    + gather_S1024x256_S32x1_S32x256_1_0_n_n_0_1_1256.offCoord (ix2 b d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gather_S1024x256_S32x1_S32x256_1_0_n_n_0_1_1256.startIndexMap from List.mem_singleton.mpr rfl)]
    have hsi : gather_S1024x256_S32x1_S32x256_1_0_n_n_0_1_1256.siIdx (ix2 b d) ⟨List.idxOf (⟨0, by decide⟩ : Fin 2) gather_S1024x256_S32x1_S32x256_1_0_n_n_0_1_1256.startIndexMap,
        List.idxOf_lt_length_iff.2 (List.mem_singleton.mpr rfl)⟩ = ix2 b 0 := by
      funext b'; refine Fin.ext ?_
      match b' with
      | ⟨0, _⟩ => rfl
      | ⟨1, _⟩ => rfl
    rw [hsi]
    show min (idx (ix2 b 0)).toInt.toNat 1023 + 0 + 0 = q.val
    omega
  | ⟨1, _⟩ =>
    unfold GatherDims.start
    split
    · rename_i hh; exact absurd (congrArg Fin.val (List.mem_singleton.mp hh)) (show ¬ (1 : ℕ) = 0 by decide)
    · show 0 + 0 + d.val = d.val; omega

variable (W : Wts) (x : Fin 32 → ℕ → Fin 256 → EReal) (mk : Fin 32 → ℕ → EReal)

/-- What the loop's buffers hold after `k` passes. -/
structure Loop (k : ℕ) (V : Valuation τ sig (Elt Ideal)) : Prop where
  ctr : V (Proc.devRef .tc main_v54_11) = fun _ => BitVec.ofNat 32 k
  xs : ∀ (t : Fin 1022) b d, V (Proc.devRef .tc main_v54_0) (ix3 t b d) = x b t d
  ms : ∀ (t : Fin 1022) b, V (Proc.devRef .tc main_v54_1) (ix2 t b) = mk b t
  wih : ∀ d j, V (Proc.devRef .tc main_v54_2) (ix2 j d) = W.wih d j
  bih : ∀ j, V (Proc.devRef .tc main_v54_3) (ix1 j) = W.bih j
  whh : ∀ d j, V (Proc.devRef .tc main_v54_4) (ix2 j d) = W.whh d j
  bhh : ∀ j, V (Proc.devRef .tc main_v54_5) (ix1 j) = W.bhh j
  cb : ∀ q d, V (Proc.devRef .tc main_v54_6) (ix2 q d) = W.cb q d
  vih : ∀ d j, V (Proc.devRef .tc main_v54_7) (ix2 j d) = W.vih d j
  cih : ∀ j, V (Proc.devRef .tc main_v54_8) (ix1 j) = W.cih j
  vhh : ∀ d j, V (Proc.devRef .tc main_v54_9) (ix2 j d) = W.vhh d j
  chh : ∀ j, V (Proc.devRef .tc main_v54_10) (ix1 j) = W.chh j
  h : ∀ b d, V (Proc.devRef .tc main_v54_12) (ix2 b d) = hseq W (x b) k d
  g : ∀ b d, V (Proc.devRef .tc main_v54_13) (ix2 b d) = gseq W (x b) (mk b) k d
  prev : ∀ b, V (Proc.devRef .tc main_v54_14) (ix1 b) = pword W (x b) (mk b) k
  words : ∀ (t : Fin 1022) b, t.val < k → V (Proc.devRef .tc main_v54_15) (ix2 t b) = word W (x b) (mk b) t
  states : ∀ (t : Fin 1022) b d, t.val < k → V (Proc.devRef .tc main_v54_16) (ix3 t b d) = gseq W (x b) (mk b) (t + 1) d

variable {W x mk} {k : ℕ} {V : Valuation τ sig (Elt Ideal)}

/-- The position the loop's slices start at. -/
theorem start3 (hk : k < 1022) (h) (a : Fin 3) :
    Host.clampedStart S1022x32x256 S1x32x256 h (fun a => BitVec.toInt ((![fun _ => BitVec.ofNat 32 k, constantI S_ 32 0#32, constantI S_ 32 0#32] : Fin 3 → IVec S_ 32) a (Shape.Idx.first h_S_))) a
      = (![k, 0, 0] : Fin 3 → ℕ) a := by
  apply Host.clampedStart_of_le
  · match a with
    | ⟨0, _⟩ => exact toInt_small k (by omega)
    | ⟨1, _⟩ => rfl
    | ⟨2, _⟩ => rfl
  · match a with
    | ⟨0, _⟩ => show k + 1 ≤ 1022; omega
    | ⟨1, _⟩ => show 0 + 32 ≤ 32; omega
    | ⟨2, _⟩ => show 0 + 256 ≤ 256; omega
theorem start2 (hk : k < 1022) (h) (a : Fin 2) :
    Host.clampedStart S1022x32 S1x32 h (fun a => BitVec.toInt ((![fun _ => BitVec.ofNat 32 k, constantI S_ 32 0#32] : Fin 2 → IVec S_ 32) a (Shape.Idx.first h_S_))) a
      = (![k, 0] : Fin 2 → ℕ) a := by
  apply Host.clampedStart_of_le
  · match a with
    | ⟨0, _⟩ => exact toInt_small k (by omega)
    | ⟨1, _⟩ => rfl
  · match a with
    | ⟨0, _⟩ => show k + 1 ≤ 1022; omega
    | ⟨1, _⟩ => show 0 + 32 ≤ 32; omega

theorem gi_at (L : Loop W x mk k V) (hk : k < 1022) (b : Fin 32) (j : Fin 768) :
    (res_main_while0b_v109 V : Vec Ideal S32x768 .f32) (ix2 b j) = lin W.wih W.bih (x b k) j := by
  unfold res_main_while0b_v109
  rw [L.ctr]
  pointwise
  simp only [L.wih, L.bih]
  unfold lin
  congr 1
  refine Finset.sum_congr rfl fun d _ => ?_
  congr 1
  refine Eq.trans (congrArg (V (Proc.devRef .tc main_v54_0)) ?_) (L.xs ⟨k, hk⟩ b d)
  have e := fun h a => start3 hk h a
  refine congr (congr (congrArg ix3 (Fin.ext ?_)) (Fin.ext ?_)) (Fin.ext ?_)
  · exact e rfl 0
  · exact (congrArg (· + b.val) (e rfl 1)).trans (Nat.zero_add _)
  · exact (congrArg (· + d.val) (e rfl 2)).trans (Nat.zero_add _)

theorem h_at (L : Loop W x mk k V) (hk : k < 1022) (b : Fin 32) (d : Fin 256) :
    (res_main_while0b_v142 V : Vec Ideal S32x256 .f32) (ix2 b d) = hseq W (x b) (k + 1) d := by
  pointwise [res_main_while0b_v142, res_main_while0b_v134, res_main_while0b_v114]
  simp only [gi_at L hk, L.whh, L.bhh, L.h]
  rfl

theorem y_at (L : Loop W x mk k V) (hk : k < 1022) (b : Fin 32) (d : Fin 256) :
    (res_main_while0b_v145 V : Vec Ideal S32x256 .f32) (ix2 b d) = yseq W (x b) (mk b) k d := by
  unfold res_main_while0b_v145
  rw [L.ctr]
  pointwise
  rw [h_at L hk]
  unfold yseq
  congr 1
  refine Eq.trans (congrArg (V (Proc.devRef .tc main_v54_1)) ?_) (L.ms ⟨k, hk⟩ b)
  have e := fun h a => start2 hk h a
  refine congr (congrArg ix2 (Fin.ext ?_)) (Fin.ext ?_)
  · exact e rfl 0
  · exact (congrArg (· + b.val) (e rfl 1)).trans (Nat.zero_add _)

theorem dist_at (L : Loop W x mk k V) (hk : k < 1022) (b : Fin 32) (j : Fin 1024) :
    (res_main_while0b_v159 V : Vec Ideal S32x1024 .f32) (ix2 b j)
      = ∑ d, yseq W (x b) (mk b) k d * yseq W (x b) (mk b) k d + Spec.dist W (yseq W (x b) (mk b) k) j := by
  pointwise [res_main_while0b_v159]
  simp only [y_at L hk, L.cb, two_word]
  unfold Spec.dist
  rw [sub_eq_add_neg, sub_eq_add_neg, add_assoc, add_comm (-_)]

theorem isReal_y (hm : ∀ b t, IsReal (mk b t)) (b : Fin 32) (t : ℕ) (d : Fin 256) : IsReal (yseq W (x b) (mk b) t d) :=
  (isReal_hseq W (x b) (t + 1) d).mul (hm b t)

/-- The first least place of each row. -/
def firstV (v : FVec Ideal S32x1024 .f32) : IVec S32 32 :=
  Host.reduce (IntOp.minsi (w := 32)) (select (cmpf .oeq v (broadcastInDim S32x1024 ![0, 1] bcast_S32x1_S32x1024_0_1 (broadcastInDim S32x1 ![0] bcast_S32_S32x1_0
      (Host.reduce FloatOps.minimumf v (constant S_ .f32 0x7F800000#32) reducesTo_S32x1024_S32_d1 h_S_))))
    (broadcastInDim S32x1024 ![0, 1] bcast_S1x1024_S32x1024_0_1 (broadcastInDim S1x1024 ![1] bcast_S1024_S1x1024_1 (iotaInDim S1024 32 0)))
    (broadcastInDim S32x1024 ![] bcast_S_S32x1024 (constantI S_ 32 1024#32))) (constantI S_ 32 2147483647#32) reducesTo_S32x1024_S32_d1 h_S_

theorem firstV_at (v : FVec Ideal S32x1024 .f32) (b : Fin 32) : firstV v (ix1 b) = firstWord fun c => v (ix2 b c) := by
  unfold firstV
  rw [Host.reduce_eq_fold]
  pointwise
  simp only [inf_word]
  rfl

theorem idx_at (hm : ∀ b t, IsReal (mk b t)) (L : Loop W x mk k V) (hk : k < 1022) (b : Fin 32) :
    (res_main_while0b_v167 V : Vec Ideal S32 .i32) (ix1 b) = word W (x b) (mk b) k := by
  rw [show (res_main_while0b_v167 V : Vec Ideal S32 .i32) = firstV (res_main_while0b_v159 V) from rfl, firstV_at]
  simp only [dist_at L hk]
  exact firstWord_add (IsReal.sum _ _ fun d => (isReal_y hm b k d).mul (isReal_y hm b k d)) (Spec.dist W (yseq W (x b) (mk b) k))

theorem gin_at (hm : ∀ b t, IsReal (mk b t)) (L : Loop W x mk k V) (hk : k < 1022) (b : Fin 32) (d : Fin 256) :
    (res_main_while0b_v181 V : Vec Ideal S32x256 .f32) (ix2 b d) = gseq W (x b) (mk b) k d * keep W (x b) (mk b) k := by
  pointwise [res_main_while0b_v181]
  rw [idx_at hm L hk, L.prev, L.g, cmpi_eq_ite, flag_two]
  rfl

theorem gi2_at (hm : ∀ b t, IsReal (mk b t)) (L : Loop W x mk k V) (hk : k < 1022) (b : Fin 32) (j : Fin 768) :
    (res_main_while0b_v186 V : Vec Ideal S32x768 .f32) (ix2 b j) = lin W.vih W.cih (W.cb (cseq W (x b) (mk b) k)) j := by
  pointwise [res_main_while0b_v186]
  simp only [y_at L hk, L.vih, L.cih]
  unfold lin
  congr 1
  refine Finset.sum_congr rfl fun d _ => ?_
  congr 1
  have hw := (firstWord_spec (Spec.dist W (yseq W (x b) (mk b) k))).1
  have hi : word W (x b) (mk b) k = BitVec.ofNat 32 (cseq W (x b) (mk b) k).val := hw
  rw [gather_row _ _ b d (cseq W (x b) (mk b) k), L.cb, (isReal_y hm b k d).add_sub]
  have hlt := (cseq W (x b) (mk b) k).isLt
  pointwise
  rw [idx_at hm L hk, hi, cmpi_slt_ite, toInt_small _ (by omega)]
  rw [if_neg (by show ¬ ((_ : ℤ) < 0); omega)]
  show (BitVec.toInt (BitVec.ofNat 32 (cseq W (x b) (mk b) k).val)).toNat = _
  rw [toInt_small _ (by omega)]
  rfl

theorem g_at (hm : ∀ b t, IsReal (mk b t)) (L : Loop W x mk k V) (hk : k < 1022) (b : Fin 32) (d : Fin 256) :
    (res_main_while0b_v219 V : Vec Ideal S32x256 .f32) (ix2 b d) = gseq W (x b) (mk b) (k + 1) d := by
  pointwise [res_main_while0b_v219, res_main_while0b_v211, res_main_while0b_v191]
  simp only [gi2_at hm L hk, gin_at hm L hk, L.vhh, L.chh]
  rfl

theorem s15_at (L : Loop W x mk k V) (hk : k < 1022) (t : Fin 1022) (b : Fin 32) :
    (step_main_v54_15 V : Vec Ideal S1022x32 .i32) (ix2 t b)
      = if t.val = k then (res_main_while0b_v167 V : Vec Ideal S32 .i32) (ix1 b) else V (Proc.devRef .tc main_v54_15) (ix2 t b) := by
  unfold step_main_v54_15
  rw [L.ctr]
  simp only [id_eq]
  pointwise
  have e := fun h a => start2 hk h a
  by_cases h : t.val = k
  · rw [if_pos h, dif_pos]
    · refine congrArg (res_main_while0b_v167 V : Vec Ideal S32 .i32) (congrArg ix1 (Fin.ext ?_))
      exact congrArg (b.val - ·) (e rfl 1)
    · intro a
      refine ⟨(e rfl a).le.trans ?_, lt_of_lt_of_eq ?_ (congrArg (· + (![1, 32] : Fin 2 → ℕ) a) (e rfl a)).symm⟩
      · match a with
        | ⟨0, _⟩ => exact h.ge
        | ⟨1, _⟩ => exact Nat.zero_le _
      · match a with
        | ⟨0, _⟩ => show t.val < k + 1; omega
        | ⟨1, _⟩ => show b.val < 0 + 32; omega
  · rw [if_neg h, dif_neg]
    intro H
    have h0 := H 0
    have h1 := (e rfl 0).ge.trans h0.1
    have h2 := lt_of_lt_of_eq h0.2 (congrArg (· + 1) (e rfl 0))
    have h1' : k ≤ t.val := h1
    have h2' : t.val < k + 1 := h2
    omega

theorem s16_at (L : Loop W x mk k V) (hk : k < 1022) (t : Fin 1022) (b : Fin 32) (d : Fin 256) :
    (step_main_v54_16 V : Vec Ideal S1022x32x256 .f32) (ix3 t b d)
      = if t.val = k then (res_main_while0b_v219 V : Vec Ideal S32x256 .f32) (ix2 b d) else V (Proc.devRef .tc main_v54_16) (ix3 t b d) := by
  unfold step_main_v54_16
  rw [L.ctr]
  simp only [id_eq]
  pointwise
  have e := fun h a => start3 hk h a
  by_cases h : t.val = k
  · rw [if_pos h, dif_pos]
    · refine congrArg (res_main_while0b_v219 V : Vec Ideal S32x256 .f32) (congr (congrArg ix2 (Fin.ext ?_)) (Fin.ext ?_))
      · exact congrArg (b.val - ·) (e rfl 1)
      · exact congrArg (d.val - ·) (e rfl 2)
    · intro a
      refine ⟨(e rfl a).le.trans ?_, lt_of_lt_of_eq ?_ (congrArg (· + (![1, 32, 256] : Fin 3 → ℕ) a) (e rfl a)).symm⟩
      · match a with
        | ⟨0, _⟩ => exact h.ge
        | ⟨1, _⟩ => exact Nat.zero_le _
        | ⟨2, _⟩ => exact Nat.zero_le _
      · match a with
        | ⟨0, _⟩ => show t.val < k + 1; omega
        | ⟨1, _⟩ => show b.val < 0 + 32; omega
        | ⟨2, _⟩ => show d.val < 0 + 256; omega
  · rw [if_neg h, dif_neg]
    intro H
    have h0 := H 0
    have h1 := (e rfl 0).ge.trans h0.1
    have h2 := lt_of_lt_of_eq h0.2 (congrArg (· + 1) (e rfl 0))
    have h1' : k ≤ t.val := h1
    have h2' : t.val < k + 1 := h2
    omega

/-- One pass. -/
theorem loop_step (hm : ∀ b t, IsReal (mk b t)) (L : Loop W x mk k V) (hk : k < 1022) : Loop W x mk (k + 1) (STEP V) where
  ctr := by
    rw [STEP_main_v54_11, step_main_v54_11, L.ctr]
    funext i
    show BitVec.ofNat 32 k + 1#32 = _
    rw [BitVec.ofNat_add]
  xs := by rw [STEP_main_v54_0]; exact L.xs
  ms := by rw [STEP_main_v54_1]; exact L.ms
  wih := by rw [STEP_main_v54_2]; exact L.wih
  bih := by rw [STEP_main_v54_3]; exact L.bih
  whh := by rw [STEP_main_v54_4]; exact L.whh
  bhh := by rw [STEP_main_v54_5]; exact L.bhh
  cb := by rw [STEP_main_v54_6]; exact L.cb
  vih := by rw [STEP_main_v54_7]; exact L.vih
  cih := by rw [STEP_main_v54_8]; exact L.cih
  vhh := by rw [STEP_main_v54_9]; exact L.vhh
  chh := by rw [STEP_main_v54_10]; exact L.chh
  h := by rw [STEP_main_v54_12]; exact h_at L hk
  g := by rw [STEP_main_v54_13]; exact g_at hm L hk
  prev := by
    intro b
    rw [STEP_main_v54_14, step_main_v54_14, id_eq]
    exact (idx_at hm L hk b).trans (by rw [pword])
  words := by
    intro t b ht
    rw [STEP_main_v54_15, s15_at L hk]
    by_cases h : t.val = k
    · rw [if_pos h, h]; exact idx_at hm L hk b
    · rw [if_neg h]; exact L.words t b (by omega)
  states := by
    intro t b d ht
    rw [STEP_main_v54_16, s16_at L hk]
    by_cases h : t.val = k
    · rw [if_pos h, h]; exact g_at hm L hk b d
    · rw [if_neg h]; exact L.states t b d (by omega)

/-- All the passes. -/
theorem loop_all (hm : ∀ b t, IsReal (mk b t)) (L : Loop W x mk 0 V) : ∀ k, k ≤ 1022 → Loop W x mk k (STEP^[k] V)
  | 0, _ => L
  | k + 1, hk => by
    rw [Function.iterate_succ_apply']
    exact loop_step hm (loop_all hm L k (by omega)) (by omega)

end Cert.ReferenceIdeal.Hand

end
-- ==== Proof.ReferenceIdealEntry.lean ====
/- What the reference's loop starts from, and what it ends with. -/
module

public import proofs.«01_k».proof.Proof.Gen.ReferenceIdeal.Run
public import proofs.«01_k».proof.Proof.ReferenceIdealLoop
public import Idealize.ShloMosaic.Lib.StableHlo.RunRead
public import Idealize.ShloMosaic.Lib.Pointwise

@[expose] public section

set_option maxRecDepth 65536
set_option maxHeartbeats 800000

noncomputable section

namespace Cert.Spec

open Idealize.ShloMosaic

theorem sum_range_pairs (f : ℕ → EReal) (n : ℕ) : ∑ k ∈ Finset.range (2 * n), f k = ∑ x ∈ Finset.range n, (f (2 * x) + f (2 * x + 1)) := by
  induction n with
  | zero => rfl
  | succ n ih => rw [show 2 * (n + 1) = 2 * n + 1 + 1 from by ring, Finset.sum_range_succ, Finset.sum_range_succ, ih, Finset.sum_range_succ, add_assoc]

/-- The pair of taps, one sum per tap. -/
theorem pair_sum (a : Args) (b : Fin 32) (t : ℕ) (ht : t < 1024) (j : Fin 3) (d : Fin 256) :
    ∑ k : Fin 128, a.pin b t k.val * a.tap j k.val d
      = ∑ x : Fin 39, a.cw (ix3 d x ⟨2 * j.val, by omega⟩) * a.inp (ix3 b x ⟨2 * t, by omega⟩)
        + ∑ x : Fin 39, a.cw (ix3 d x ⟨2 * j.val + 1, by omega⟩) * a.inp (ix3 b x ⟨2 * t + 1, by omega⟩) := by
  rw [Fin.sum_univ_eq_sum_range (fun k => a.pin b t k * a.tap j k d) 128,
    ← Finset.sum_subset (s₁ := Finset.range (2 * 39)) (fun k hk => Finset.mem_range.mpr (by have := Finset.mem_range.mp hk; omega))
      (fun k _ hk => by
        have : ¬ k < 78 := fun h => hk (Finset.mem_range.mpr h)
        rw [Args.tap, dif_neg this, mul_zero]),
    sum_range_pairs, ← Fin.sum_univ_eq_sum_range (fun x => a.pin b t (2 * x) * a.tap j (2 * x) d + a.pin b t (2 * x + 1) * a.tap j (2 * x + 1) d) 39,
    Finset.sum_add_distrib]
  congr 1
  · refine Finset.sum_congr rfl fun x _ => ?_
    have hx := x.isLt
    have h1 : 2 * x.val < 78 := by omega
    rw [Args.pin, Args.tap, dif_pos ⟨ht, h1⟩, dif_pos h1, mul_comm]
    refine congr (congrArg HMul.hMul (congrArg a.cw ?_)) (congrArg a.inp ?_)
    · exact congr (congrArg (ix3 d) (Fin.ext (by show 2 * x.val / 2 = x.val; omega))) (Fin.ext (by show 2 * j.val + 2 * x.val % 2 = 2 * j.val; omega))
    · exact congr (congrArg (ix3 b) (Fin.ext (by show 2 * x.val / 2 = x.val; omega))) (Fin.ext (by show t * 2 + 2 * x.val % 2 = 2 * t; omega))
  · refine Finset.sum_congr rfl fun x _ => ?_
    have hx := x.isLt
    have h1 : 2 * x.val + 1 < 78 := by omega
    rw [Args.pin, Args.tap, dif_pos ⟨ht, h1⟩, dif_pos h1, mul_comm]
    refine congr (congrArg HMul.hMul (congrArg a.cw ?_)) (congrArg a.inp ?_)
    · exact congr (congrArg (ix3 d) (Fin.ext (by show (2 * x.val + 1) / 2 = x.val; omega))) (Fin.ext (by show 2 * j.val + (2 * x.val + 1) % 2 = 2 * j.val + 1; omega))
    · exact congr (congrArg (ix3 b) (Fin.ext (by show (2 * x.val + 1) / 2 = x.val; omega))) (Fin.ext (by show t * 2 + (2 * x.val + 1) % 2 = 2 * t + 1; omega))

/-- The convolution, tap by tap. -/
theorem conv_taps (a : Args) (b : Fin 32) (t : ℕ) (ht : t < 1022) (d : Fin 256) :
    a.conv b t d
      = ∑ x : Fin 39, a.cw (ix3 d x 0) * a.inp (ix3 b x ⟨2 * t, by omega⟩) + ∑ x : Fin 39, a.cw (ix3 d x 1) * a.inp (ix3 b x ⟨1 + 2 * t, by omega⟩)
        + ∑ x : Fin 39, a.cw (ix3 d x 2) * a.inp (ix3 b x ⟨2 + 2 * t, by omega⟩) + ∑ x : Fin 39, a.cw (ix3 d x 3) * a.inp (ix3 b x ⟨3 + 2 * t, by omega⟩)
        + ∑ x : Fin 39, a.cw (ix3 d x 4) * a.inp (ix3 b x ⟨4 + 2 * t, by omega⟩) + ∑ x : Fin 39, a.cw (ix3 d x 5) * a.inp (ix3 b x ⟨5 + 2 * t, by omega⟩)
        + a.cbias (ix1 d) := by
  unfold Args.conv
  rw [pair_sum a b t (by omega), pair_sum a b (t + 1) (by omega), pair_sum a b (t + 2) (by omega)]
  have e1 : (⟨2 * t + 1, by omega⟩ : Fin 2048) = ⟨1 + 2 * t, by omega⟩ := Fin.ext (by show 2 * t + 1 = 1 + 2 * t; omega)
  have e2 : (⟨2 * (t + 1), by omega⟩ : Fin 2048) = ⟨2 + 2 * t, by omega⟩ := Fin.ext (by show 2 * (t + 1) = 2 + 2 * t; omega)
  have e3 : (⟨2 * (t + 1) + 1, by omega⟩ : Fin 2048) = ⟨3 + 2 * t, by omega⟩ := Fin.ext (by show 2 * (t + 1) + 1 = 3 + 2 * t; omega)
  have e4 : (⟨2 * (t + 2), by omega⟩ : Fin 2048) = ⟨4 + 2 * t, by omega⟩ := Fin.ext (by show 2 * (t + 2) = 4 + 2 * t; omega)
  have e5 : (⟨2 * (t + 2) + 1, by omega⟩ : Fin 2048) = ⟨5 + 2 * t, by omega⟩ := Fin.ext (by show 2 * (t + 2) + 1 = 5 + 2 * t; omega)
  rw [e1, e2, e3, e4, e5]
  simp only [← add_assoc]
  rfl

end Cert.Spec

namespace Cert.ReferenceIdeal.Hand

open Cert.ReferenceIdeal.Gen Cert.ReferenceIdeal.Value Cert.Spec
open Idealize.ShloMosaic Idealize.ShloMosaic.TcCoe Idealize.ShloMosaic.StableHlo

variable (m : (l : Loc nD τ sig) → Buf (Elt Ideal) l) (c : Dev nD)

/-- The reference's arguments. -/
def args : Args where
  inp := m ((c.tc : Thread nD τ).loc main_arg0)
  len := m ((c.tc : Thread nD τ).loc main_arg1)
  cw := m ((c.tc : Thread nD τ).loc main_arg2)
  cbias := m ((c.tc : Thread nD τ).loc main_arg3)
  wih := m ((c.tc : Thread nD τ).loc main_arg4)
  whh := m ((c.tc : Thread nD τ).loc main_arg5)
  bih := m ((c.tc : Thread nD τ).loc main_arg6)
  bhh := m ((c.tc : Thread nD τ).loc main_arg7)
  vih := m ((c.tc : Thread nD τ).loc main_arg8)
  vhh := m ((c.tc : Thread nD τ).loc main_arg9)
  cih := m ((c.tc : Thread nD τ).loc main_arg10)
  chh := m ((c.tc : Thread nD τ).loc main_arg11)
  cb := m ((c.tc : Thread nD τ).loc main_arg12)
  aw := m ((c.tc : Thread nD τ).loc main_arg13)
  ab := m ((c.tc : Thread nD τ).loc main_arg14)
  au := m ((c.tc : Thread nD τ).loc main_arg15)

theorem entry_x (t : Fin 1022) (b : Fin 32) (d : Fin 256) :
    (entryContents preI m c (Proc.devRef .tc main_v54_0) : Vec Ideal S1022x32x256 .f32) (ix3 t b d) = (args m c).conv b t d := by
  simp only [entryContents, afterL_cons, afterL_nil]
  after_reads_simp
  simp only [id_eq]
  pointwise
  exact (conv_taps (args m c) b t t.isLt d).symm

/-- Half the length, past the kernel's margin, as the reference computes it. -/
def halfV (l : IVec S32 32) : IVec S32 32 :=
  select (andi (cmpi .ne (signi (subi l (broadcastInDim S32 ![] bcast_S_S32 (constantI S_ 32 4#32)))) (broadcastInDim S32 ![] bcast_S_S32 (signi (constantI S_ 32 2#32))))
      (cmpi .ne (Host.remsi (subi l (broadcastInDim S32 ![] bcast_S_S32 (constantI S_ 32 4#32))) (broadcastInDim S32 ![] bcast_S_S32 (constantI S_ 32 2#32)))
        (broadcastInDim S32 ![] bcast_S_S32 (constantI S_ 32 0#32))))
    (subi (Host.divsi (subi l (broadcastInDim S32 ![] bcast_S_S32 (constantI S_ 32 4#32))) (broadcastInDim S32 ![] bcast_S_S32 (constantI S_ 32 2#32)))
      (broadcastInDim S32 ![] bcast_S_S32 (constantI S_ 32 1#32)))
    (Host.divsi (subi l (broadcastInDim S32 ![] bcast_S_S32 (constantI S_ 32 4#32))) (broadcastInDim S32 ![] bcast_S_S32 (constantI S_ 32 2#32)))

def maskV (l : IVec S32 32) : FVec Ideal S1022x32 .f32 :=
  uitofp .f32 (cmpi .slt (broadcastInDim S1022x32 ![0, 1] bcast_S1022x1_S1022x32_0_1 (broadcastInDim S1022x1 ![0] bcast_S1022_S1022x1_0 (iotaInDim S1022 32 0)))
    (broadcastInDim S1022x32 ![0, 1] bcast_S1x32_S1022x32_0_1 (broadcastInDim S1x32 ![1] bcast_S32_S1x32_1 (halfV l))))

theorem entry_mask : entryContents preI m c (Proc.devRef .tc main_v54_1) = maskV (args m c).len := by
  simp only [entryContents, afterL_cons, afterL_nil]
  after_reads_simp
  rfl

theorem mask_at (t : Fin 1022) (b : Fin 32) : maskV (args m c).len (ix2 t b) = (args m c).mask b t := by
  pointwise [maskV, halfV]
  rw [cmpi_slt_ite, flag_two, div_two, rem_two]
  rfl

theorem entry_wih : entryContents preI m c (Proc.devRef .tc main_v54_2) = (args m c).wih := by
  simp only [entryContents, afterL_cons, afterL_nil]
  after_reads_simp
  rfl
theorem entry_bih : entryContents preI m c (Proc.devRef .tc main_v54_3) = (args m c).bih := by
  simp only [entryContents, afterL_cons, afterL_nil]
  after_reads_simp
  rfl
theorem entry_whh : entryContents preI m c (Proc.devRef .tc main_v54_4) = (args m c).whh := by
  simp only [entryContents, afterL_cons, afterL_nil]
  after_reads_simp
  rfl
theorem entry_bhh : entryContents preI m c (Proc.devRef .tc main_v54_5) = (args m c).bhh := by
  simp only [entryContents, afterL_cons, afterL_nil]
  after_reads_simp
  rfl
theorem entry_cb : entryContents preI m c (Proc.devRef .tc main_v54_6) = (args m c).cb := by
  simp only [entryContents, afterL_cons, afterL_nil]
  after_reads_simp
  rfl
theorem entry_vih : entryContents preI m c (Proc.devRef .tc main_v54_7) = (args m c).vih := by
  simp only [entryContents, afterL_cons, afterL_nil]
  after_reads_simp
  rfl
theorem entry_cih : entryContents preI m c (Proc.devRef .tc main_v54_8) = (args m c).cih := by
  simp only [entryContents, afterL_cons, afterL_nil]
  after_reads_simp
  rfl
theorem entry_vhh : entryContents preI m c (Proc.devRef .tc main_v54_9) = (args m c).vhh := by
  simp only [entryContents, afterL_cons, afterL_nil]
  after_reads_simp
  rfl
theorem entry_chh : entryContents preI m c (Proc.devRef .tc main_v54_10) = (args m c).chh := by
  simp only [entryContents, afterL_cons, afterL_nil]
  after_reads_simp
  rfl
theorem entry_h : entryContents preI m c (Proc.devRef .tc main_v54_12) = broadcastInDim S32x256 ![] bcast_S_S32x256 (constant (F := Ideal) S_ .f32 0x00000000#32) := by
  simp only [entryContents, afterL_cons, afterL_nil]
  after_reads_simp
  rfl
theorem entry_g : entryContents preI m c (Proc.devRef .tc main_v54_13) = broadcastInDim S32x256 ![] bcast_S_S32x256 (constant (F := Ideal) S_ .f32 0x00000000#32) := by
  simp only [entryContents, afterL_cons, afterL_nil]
  after_reads_simp
  rfl
theorem entry_prev : entryContents preI m c (Proc.devRef .tc main_v54_14) = broadcastInDim S32 ![] bcast_S_S32 (constantI S_ 32 4294967295#32) := by
  simp only [entryContents, afterL_cons, afterL_nil]
  after_reads_simp
  rfl

theorem isReal_mask (a : Args) (b : Fin 32) (t : ℕ) : IsReal (a.mask b t) := by
  unfold Args.mask; split
  · exact isReal_one
  · exact isReal_zero

theorem loop_entry : Loop (args m c).W (args m c).conv (args m c).mask 0 (entryContents preI m c) where
  ctr := ctr_entry m c
  xs := entry_x m c
  ms t b := by rw [entry_mask]; exact mask_at m c t b
  wih d j := by rw [entry_wih]; rfl
  bih j := by rw [entry_bih]; rfl
  whh d j := by rw [entry_whh]; rfl
  bhh j := by rw [entry_bhh]; rfl
  cb q d := by rw [entry_cb]; rfl
  vih d j := by rw [entry_vih]; rfl
  cih j := by rw [entry_cih]; rfl
  vhh d j := by rw [entry_vhh]; rfl
  chh j := by rw [entry_chh]; rfl
  h b d := by rw [entry_h]; exact Ideal.ofBits_zero_f32
  g b d := by rw [entry_g]; exact Ideal.ofBits_zero_f32
  prev b := by rw [entry_prev]; rfl
  words t b h := absurd h (Nat.not_lt_zero _)
  states t b d h := absurd h (Nat.not_lt_zero _)

/-- The loop's buffers at its end. -/
theorem loop_end : Loop (args m c).W (args m c).conv (args m c).mask 1022 (STEP^[1022] (entryContents preI m c)) :=
  loop_all (isReal_mask _) (loop_entry m c) 1022 le_rfl

end Cert.ReferenceIdeal.Hand

end
-- ==== Proof.Meet.lean ====
/- The kernel sums over the ends of runs where they lie; the reference packs them to the front, weighs every packed place, and sums
   those. Both come to the same pooled rows once normalised. -/
module

public import proofs.«01_k».proof.Proof.KernelIdealOut
public import proofs.«01_k».proof.Proof.ReferenceIdealLoop

@[expose] public section

noncomputable section

namespace Cert.Spec

open Idealize.ShloMosaic

/-! ### Packing -/

section pack

variable {N : ℕ} (E : Fin N → Prop) [DecidablePred E]

/-- How many marked places lie before one. -/
def rank (t : Fin N) : ℕ := (Finset.univ.filter fun i : Fin N => i < t ∧ E i).card

theorem rank_lt (t : Fin N) : rank E t < N :=
  lt_of_lt_of_eq (Finset.card_lt_univ_of_notMem (x := t) (by simp)) (Fintype.card_fin N)

theorem rank_mono {s t : Fin N} (h : s < t) (hs : E s) : rank E s < rank E t := by
  refine Finset.card_lt_card ⟨fun i hi => ?_, fun hsub => ?_⟩
  · simp only [Finset.mem_filter, Finset.mem_univ, true_and] at hi ⊢
    exact ⟨hi.1.trans h, hi.2⟩
  · have := hsub (show s ∈ Finset.univ.filter fun i : Fin N => i < t ∧ E i by simp [h, hs])
    simp at this

theorem rank_inj {s t : Fin N} (hs : E s) (ht : E t) (h : rank E s = rank E t) : s = t := by
  rcases lt_trichotomy s t with h1 | h1 | h1
  · have := rank_mono E h1 hs; omega
  · exact h1
  · have := rank_mono E h1 ht; omega

variable (v : Fin N → Fin 256 → EReal)

/-- What lands at a packed place. -/
def pack (p : Fin N) (d : Fin 256) : EReal := ∑ t, (if rank E t = p.val ∧ E t then 1 else 0) * v t d

theorem pack_at {t : Fin N} (ht : E t) : pack E v ⟨rank E t, rank_lt E t⟩ = v t := by
  funext d
  unfold pack
  rw [Finset.sum_eq_single t]
  · rw [if_pos ⟨rfl, ht⟩, one_mul]
  · intro s _ hs
    rw [if_neg (fun h => hs (rank_inj E h.2 ht h.1)), zero_mul]
  · intro h; exact absurd (Finset.mem_univ t) h

theorem pack_off {p : Fin N} (hp : ∀ t, E t → rank E t ≠ p.val) : pack E v p = 0 := by
  funext d
  unfold pack
  refine Finset.sum_eq_zero fun t _ => ?_
  rw [if_neg (fun h => hp t h.2 h.1), zero_mul]

/-- A sum over the packed places: the marked places', and the rest empty. -/
theorem pack_sum (F : (Fin 256 → EReal) → EReal) :
    ∑ p, F (pack E v p) = ∑ t ∈ Finset.univ.filter E, F (v t) + (N - (Finset.univ.filter E).card) • F 0 := by
  classical
  have hinj : Set.InjOn (fun t : Fin N => (⟨rank E t, rank_lt E t⟩ : Fin N)) (Finset.univ.filter E : Finset (Fin N)) := by
    intro s hs t ht h
    simp only [Finset.coe_filter, Finset.mem_univ, true_and, Set.mem_setOf_eq] at hs ht
    exact rank_inj E hs ht (congrArg Fin.val h)
  rw [← Finset.sum_add_sum_compl ((Finset.univ.filter E).image fun t => (⟨rank E t, rank_lt E t⟩ : Fin N)), Finset.sum_image hinj]
  congr 1
  · refine Finset.sum_congr rfl fun t ht => ?_
    rw [pack_at E v (Finset.mem_filter.mp ht).2]
  · rw [Finset.sum_congr rfl (g := fun _ => F 0), Finset.sum_const, Finset.card_compl, Finset.card_image_of_injOn hinj, Fintype.card_fin]
    intro p hp
    rw [pack_off E v]
    intro t ht h
    exact (Finset.mem_compl.mp hp) (Finset.mem_image.mpr ⟨t, Finset.mem_filter.mpr ⟨Finset.mem_univ t, ht⟩, Fin.ext h⟩)

end pack

/-! ### Weighing before or after summing -/

section weigh

theorem mul_self_nonneg' (a : EReal) : 0 ≤ a * a := by
  induction a using EReal.rec with
  | bot => simp
  | coe r => rw [← EReal.coe_mul]; exact_mod_cast mul_self_nonneg r
  | top => simp

theorem exp_nonneg (a : EReal) : 0 ≤ Ideal.exp a := by
  induction a using EReal.rec with
  | bot => simp
  | coe r => rw [Ideal.exp_coe]; exact_mod_cast (Real.exp_pos r).le
  | top => simp

theorem div_top (a : EReal) : Ideal.div a ⊤ = 0 := by
  unfold Ideal.div
  rw [if_neg (by simp), EReal.inv_top, mul_zero]

theorem div_zero_zero : Ideal.div 0 0 = ⊥ := by unfold Ideal.div; simp

/-- With one entry infinite the normalised rows are zero. -/
theorem unit_top (p : Fin 4 → Fin 256 → EReal) (k0 : Fin 4) (d0 : Fin 256) (h : p k0 d0 * p k0 d0 = ⊤) (k : Fin 4) (d : Fin 256) : unit p k d = 0 := by
  unfold unit
  have e : ∑ k, ∑ d, p k d * p k d = ⊤ := by
    refine le_antisymm le_top ?_
    rw [← h]
    exact (Finset.single_le_sum (f := fun d => p k0 d * p k0 d) (fun d _ => mul_self_nonneg' _) (Finset.mem_univ d0)).trans
      (Finset.single_le_sum (f := fun k => ∑ d, p k d * p k d) (fun k _ => Finset.sum_nonneg fun d _ => mul_self_nonneg' _) (Finset.mem_univ k0))
  rw [e, Ideal.sqrt_top, max_eq_left le_top, div_top]

/-- Zero rows stay zero. -/
theorem unit_zero (p : Fin 4 → Fin 256 → EReal) (h : ∀ k d, p k d = 0) (k : Fin 4) (d : Fin 256) : unit p k d = 0 := by
  unfold unit
  rw [h k d]
  unfold Ideal.div
  have ht : 0 < tiny := by
    obtain ⟨r, hr, e⟩ := tiny_pos
    rw [e]; exact_mod_cast hr
  rw [if_neg (lt_of_lt_of_le ht (le_max_right _ _)).ne', zero_mul]

theorem sum_bot {N : ℕ} (x : Fin N → EReal) (hx : ∀ p, IsReal (x p)) (s : Finset (Fin N)) :
    (∀ p ∈ s, x p = 0) ∧ ∑ p ∈ s, (⊥ : EReal) * x p = 0 ∨ ∑ p ∈ s, (⊥ : EReal) * x p = ⊤ ∨ ∑ p ∈ s, (⊥ : EReal) * x p = ⊥ := by
  induction s using Finset.induction_on with
  | empty => left; simp
  | insert a s ha ih =>
    rw [Finset.sum_insert ha]
    obtain ⟨r, hr⟩ := hx a
    rcases lt_trichotomy r 0 with h | h | h
    · right
      rw [hr, EReal.bot_mul_coe_of_neg h]
      rcases ih with ⟨-, ih⟩ | ih | ih <;> rw [ih] <;> simp
    · rw [h, EReal.coe_zero] at hr
      rw [hr, mul_zero, zero_add]
      rcases ih with ⟨i1, i2⟩ | ih
      · left
        refine ⟨fun p hp => ?_, i2⟩
        rcases Finset.mem_insert.mp hp with rfl | hp
        · exact hr
        · exact i1 p hp
      · right; exact ih
    · right; right
      rw [hr, EReal.bot_mul_coe_of_pos h, EReal.bot_add]

theorem coe_sum {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

theorem natCast_sub {a b : ℕ} (h : b ≤ a) : ((a : ℕ) : EReal) - ((b : ℕ) : EReal) = ((a - b : ℕ) : EReal) := by
  rw [← EReal.coe_coe_eq_natCast, ← EReal.coe_coe_eq_natCast, ← EReal.coe_coe_eq_natCast, ← EReal.coe_sub, Nat.cast_sub h]

variable {N : ℕ} (w : Fin 4 → Fin N → EReal) (x : Fin N → Fin 256 → EReal)

/-- Dividing the weighted sum by the weights' sum, or the weights first, is the same once the rows are normalised. -/
theorem unit_weigh (hw : ∀ k p, 0 ≤ w k p) (hx : ∀ p d, IsReal (x p d)) (k : Fin 4) (d : Fin 256) :
    unit (fun k d => Ideal.div (∑ p, w k p * x p d) (∑ p, w k p)) k d = unit (fun k d => ∑ p, Ideal.div (w k p) (∑ p, w k p) * x p d) k d := by
  by_cases h0 : ∃ k0, ∑ p, w k0 p = 0
  · obtain ⟨k0, h0⟩ := h0
    have hz : ∀ p, w k0 p = 0 := fun p => (Finset.sum_eq_zero_iff_of_nonneg fun p _ => hw k0 p).mp h0 p (Finset.mem_univ p)
    rw [unit_top _ k0 d (by simp only [hz, zero_mul, Finset.sum_const_zero, div_zero_zero]; simp)]
    by_cases hall : ∀ p d, x p d = 0
    · rw [unit_zero]
      intro k d
      exact Finset.sum_eq_zero fun p _ => by rw [hall, mul_zero]
    · push Not at hall
      obtain ⟨p1, d1, h1⟩ := hall
      rw [unit_top _ k0 d1]
      simp only [hz, Finset.sum_const_zero, div_zero_zero]
      rcases sum_bot (fun p => x p d1) (fun p => hx p d1) Finset.univ with ⟨h, -⟩ | h | h
      · exact absurd (h p1 (Finset.mem_univ _)) h1
      · rw [h]; simp
      · rw [h]; simp
  · push Not at h0
    congr 1
    funext k d
    by_cases ht : ∑ p, w k p = ⊤
    · simp only [ht, div_top, zero_mul, Finset.sum_const_zero]
    · have hr : ∀ p, IsReal (w k p) := by
        intro p
        have h1 : w k p ≤ ∑ p, w k p := Finset.single_le_sum (f := fun p => w k p) (fun p _ => hw k p) (Finset.mem_univ p)
        refine ⟨(w k p).toReal, (EReal.coe_toReal ?_ ?_).symm⟩
        · intro h; rw [h] at h1; exact ht (le_antisymm le_top h1)
        · intro h; have := hw k p; rw [h] at this; simp at this
      obtain ⟨e, he⟩ := IsReal.sum Finset.univ (fun p => w k p) hr
      choose a ha using hr
      choose y hy using fun p => hx p d
      have hne : (∑ p, w k p) ≠ 0 := h0 k
      unfold Ideal.div
      simp only [if_neg hne]
      rw [he]
      simp only [ha, hy, ← EReal.coe_inv, ← EReal.coe_mul]
      rw [← coe_sum, ← coe_sum, ← EReal.coe_mul]
      congr 1
      rw [Finset.sum_mul]
      exact Finset.sum_congr rfl fun p _ => by ring

end weigh

/-! ### The two pooled rows -/

variable (W : Wts) (x : ℕ → Fin 256 → EReal) (mk : ℕ → EReal)

/-- Where a run of equal codes ends. -/
def ends (t : Fin 1022) : Prop := word W x mk (t.val + 1) ≠ word W x mk t.val ∨ t.val = 1021

instance : DecidablePred (ends W x mk) := fun t => inferInstanceAs (Decidable (_ ∨ _))

/-- The states at the ends of runs, packed to the front. -/
def packed : Fin 1022 → Fin 256 → EReal := pack (ends W x mk) fun t => gseq W x mk (t.val + 1)

/-- The reference's pooled rows. -/
def pooledR (k : Fin 4) (d : Fin 256) : EReal :=
  ∑ p, Ideal.div (Ideal.exp (score W k (packed W x mk p))) (∑ p, Ideal.exp (score W k (packed W x mk p))) * packed W x mk p d

theorem isReal_gseq : ∀ t d, IsReal (gseq W x mk t d)
  | 0, d => isReal_zero
  | t + 1, d => by
    refine isReal_gate _ _ _ (fun d => (isReal_gseq t d).mul ?_) d
    unfold keep; split
    · exact isReal_one
    · exact isReal_zero

theorem isReal_packed (p : Fin 1022) (d : Fin 256) : IsReal (packed W x mk p d) := by
  unfold packed pack
  exact IsReal.sum _ _ fun t => IsReal.mul (by split; exacts [isReal_one, isReal_zero]) (isReal_gseq W x mk _ d)

theorem lastE_ends (t : Fin 1022) : lastE W x mk t.val = if ends W x mk t then 1 else 0 := by
  unfold lastE ends
  exact if_congr ⟨fun h => h.1, fun h => ⟨h, t.isLt⟩⟩ rfl rfl

theorem sum_ends (F : ℕ → EReal) : ∑ t ∈ Finset.range 1022, F t * lastE W x mk t = ∑ t ∈ Finset.univ.filter (ends W x mk), F t.val := by
  rw [← Fin.sum_univ_eq_sum_range (fun t => F t * lastE W x mk t) 1022, Finset.sum_filter]
  exact Finset.sum_congr rfl fun t _ => by rw [lastE_ends, mul_ite, mul_one, mul_zero]

theorem seg_card : seg W x mk 1022 = (((Finset.univ.filter (ends W x mk)).card : ℕ) : EReal) := by
  have h := sum_ends W x mk fun _ => 1
  simp only [one_mul] at h
  rw [seg, h, Finset.sum_const, nsmul_one]

theorem score_zero (k : Fin 4) : score W k 0 = score0 W k := by
  unfold score score0
  simp only [Pi.zero_apply, zero_mul, Finset.sum_const_zero, zero_add]

theorem num_packed (k : Fin 4) (d : Fin 256) :
    num W x mk k 1022 d = ∑ p, Ideal.exp (score W k (packed W x mk p)) * packed W x mk p d := by
  rw [packed, pack_sum (ends W x mk) _ fun v => Ideal.exp (score W k v) * v d, Pi.zero_apply, mul_zero, smul_zero, add_zero,
    ← sum_ends W x mk fun t => Ideal.exp (score W k (gseq W x mk (t + 1))) * gseq W x mk (t + 1) d]
  exact Finset.sum_congr rfl fun t _ => mul_right_comm _ _ _

theorem total_packed (k : Fin 4) : total W x mk k = ∑ p, Ideal.exp (score W k (packed W x mk p)) := by
  rw [packed, pack_sum (ends W x mk) _ fun v => Ideal.exp (score W k v), score_zero, total, seg_card,
    ← sum_ends W x mk fun t => Ideal.exp (score W k (gseq W x mk (t + 1)))]
  congr 1
  have hle : (Finset.univ.filter (ends W x mk)).card ≤ 1022 := (Finset.card_le_univ _).trans_eq (Fintype.card_fin _)
  rw [EReal.nsmul_eq_mul, ← natCast_sub hle]
  rfl

/-- The same rows, normalised. -/
theorem unit_meet (k : Fin 4) (d : Fin 256) : unit (pooled W x mk) k d = unit (pooledR W x mk) k d := by
  have e : pooled W x mk = fun k d => Ideal.div (∑ p, Ideal.exp (score W k (packed W x mk p)) * packed W x mk p d) (∑ p, Ideal.exp (score W k (packed W x mk p))) := by
    funext k d
    rw [pooled, num_packed, total_packed]
  rw [e]
  exact unit_weigh (fun k p => Ideal.exp (score W k (packed W x mk p))) (packed W x mk) (fun k p => exp_nonneg _) (isReal_packed W x mk) k d

end Cert.Spec

end
-- ==== Proof.ReferenceIdealOut.lean ====
/- What the reference makes of the loop's results. -/
module

public import proofs.«01_k».proof.Proof.ReferenceIdealEntry
public import proofs.«01_k».proof.Proof.Meet

@[expose] public section

set_option maxRecDepth 65536

noncomputable section

namespace Cert.ReferenceIdeal.Hand

open Cert.ReferenceIdeal.Gen Cert.ReferenceIdeal.Value Cert.Spec
open Idealize.ShloMosaic Idealize.ShloMosaic.TcCoe Idealize.ShloMosaic.StableHlo

/-- Where runs of equal codes end. -/
def lastW (idx : IVec S1022x32 32) : IVec S1022x32 1 :=
  concatenate S1022x32 0 [⟨S1021x32, cmpi .ne (extractStridedSlice S1021x32 ![1, 0] idx slices_S1022x32_S1021x32_1_0)
      (extractStridedSlice S1021x32 ![0, 0] idx slices_S1022x32_S1021x32_0_0)⟩,
    ⟨S1x32, broadcastInDim S1x32 ![] bcast_S_S1x32 (constantI S_ 1 1#1)⟩] concatenates_S1021x32_S1x32_S1022x32_d0

/-- How many runs end before each position. -/
def posW (last : IVec S1022x32 1) : IVec S1022x32 32 :=
  Host.reduce (IntOp.addi (w := 32)) (select (broadcastInDim S1022x1022x32 ![0, 1, 2] bcast_S1022x1022x1_S1022x1022x32_0_1_2
      (broadcastInDim S1022x1022x1 ![0, 1] bcast_S1022x1022_S1022x1022x1_0_1
        (cmpi .slt (broadcastInDim S1022x1022 ![0, 1] bcast_S1022x1_S1022x1022_0_1 (broadcastInDim S1022x1 ![0] bcast_S1022_S1022x1_0 (iotaInDim S1022 32 0)))
          (broadcastInDim S1022x1022 ![0, 1] bcast_S1x1022_S1022x1022_0_1 (broadcastInDim S1x1022 ![1] bcast_S1022_S1x1022_1 (iotaInDim S1022 32 0))))))
      (broadcastInDim S1022x1022x32 ![0, 1, 2] bcast_S1022x1x32_S1022x1022x32_0_1_2 (extui 32 (broadcastInDim S1022x1x32 ![0, 2] bcast_S1022x32_S1022x1x32_0_2 last) natLt_1_32))
      (broadcastInDim S1022x1022x32 ![] bcast_S_S1022x1022x32 (constantI S_ 32 0#32)))
    (constantI S_ 32 0#32) reducesTo_S1022x1022x32_S1022x32_d0 h_S_

/-- Which position each packed place takes. -/
def putW (last : IVec S1022x32 1) (pos : IVec S1022x32 32) : IVec S1022x1022x32 1 :=
  andi (cmpi .eq (broadcastInDim S1022x1022x32 ![0, 1, 2] bcast_S1x1022x32_S1022x1022x32_0_1_2 (broadcastInDim S1x1022x32 ![1, 2] bcast_S1022x32_S1x1022x32_1_2 pos))
      (broadcastInDim S1022x1022x32 ![0, 1, 2] bcast_S1022x1x1_S1022x1022x32_0_1_2 (broadcastInDim S1022x1x1 ![0] bcast_S1022_S1022x1x1_0 (iotaInDim S1022 32 0))))
    (broadcastInDim S1022x1022x32 ![0, 1, 2] bcast_S1x1022x32_S1022x1022x32_0_1_2 (broadcastInDim S1x1022x32 ![1, 2] bcast_S1022x32_S1x1022x32_1_2 last))

def packV (put : IVec S1022x1022x32 1) (hs : FVec Ideal S1022x32x256 .f32) : FVec Ideal S32x1022x256 .f32 :=
  Host.dotGeneral dot_S1022x1022x32_S1022x32x256_S32x1022x256_1_0_0_2_2_1 none (uitofp (F := Ideal) .f32 put) hs

/-- The heads' weights, not yet normalised. -/
def weightV (aw : FVec Ideal S4x256x128 .f32) (ab au : FVec Ideal S4x128 .f32) (p : FVec Ideal S32x1022x256 .f32) : FVec Ideal S32x4x1022 .f32 :=
  Host.exp (transpose S32x4x1022 [1, 0, 2] (Host.dotGeneral dot_S4x128_S32x4x1022x128_S4x32x1022_1_3_n_02_0_1 none au
    (Host.tanh (addf (transpose S32x4x1022x128 [2, 0, 3, 1] (Host.dotGeneral dot_S4x256x128_S32x1022x256_S4x128x32x1022_1_2_02_01_n_n none aw p) transposes_S4x128x32x1022_S32x4x1022x128_2_0_3_1)
      (broadcastInDim S32x4x1022x128 ![0, 1, 2, 3] bcast_S1x4x1x128_S32x4x1022x128_0_1_2_3 (broadcastInDim S1x4x1x128 ![1, 3] bcast_S4x128_S1x4x1x128_1_3 ab)))))
    transposes_S4x32x1022_S32x4x1022_1_0_2)

def shareV (w : FVec Ideal S32x4x1022 .f32) : FVec Ideal S32x4x1022 .f32 :=
  Host.divf w (broadcastInDim S32x4x1022 ![0, 1, 2] bcast_S32x4x1_S32x4x1022_0_1_2 (broadcastInDim S32x4x1 ![0, 1] bcast_S32x4_S32x4x1_0_1
    (Host.reduceAdd w (constant S_ .f32 0x00000000#32) reducesTo_S32x4x1022_S32x4_d2 h_S_)))

def sumV (a : FVec Ideal S32x4x1022 .f32) (p : FVec Ideal S32x1022x256 .f32) : FVec Ideal S32x1024 .f32 :=
  shapeCast _ (Host.dotGeneral dot_S32x4x1022_S32x1022x256_S32x4x256_2_1_1_2_0_0 none a p) shapeCasts_S32x4x256_S32x1024

def normV (v : FVec Ideal S32x1024 .f32) : FVec Ideal S32x1024 .f32 :=
  Host.divf v (broadcastInDim S32x1024 ![0, 1] bcast_S32x1_S32x1024_0_1 (maximumf (Host.sqrt (broadcastInDim S32x1 ![0] bcast_S32_S32x1_0
    (Host.reduceAdd (mulf v v) (constant S_ .f32 0x00000000#32) reducesTo_S32x1024_S32_d1 h_S_))) (broadcastInDim S32x1 ![] bcast_S_S32x1 (constant S_ .f32 0x2B8CBCCC#32))))

theorem out_parts (V : Valuation τ sig (Elt Ideal)) :
    out_main_v102 V = normV (sumV (shareV (weightV (V (Proc.devRef .tc main_arg13)) (V (Proc.devRef .tc main_arg14)) (V (Proc.devRef .tc main_arg15))
        (packV (putW (lastW (V (Proc.devRef .tc main_v54_15))) (posW (lastW (V (Proc.devRef .tc main_v54_15))))) (V (Proc.devRef .tc main_v54_16)))))
      (packV (putW (lastW (V (Proc.devRef .tc main_v54_15))) (posW (lastW (V (Proc.devRef .tc main_v54_15))))) (V (Proc.devRef .tc main_v54_16)))) := rfl

variable {W : Wts} {x : Fin 32 → ℕ → Fin 256 → EReal} {mk : Fin 32 → ℕ → EReal} {V : Valuation τ sig (Elt Ideal)}

theorem lastW_at (idx : IVec S1022x32 32) (h : ∀ (t : Fin 1022) b, idx (ix2 t b) = word W (x b) (mk b) t) (t : Fin 1022) (b : Fin 32) :
    lastW idx (ix2 t b) = if ends W (x b) (mk b) t then 1#1 else 0#1 := by
  pointwise [lastW]
  split
  · rename_i ht
    rw [h, h, cmpi_ne_ite]
    refine if_congr ?_ rfl rfl
    show word W (x b) (mk b) (1 + t.val) ≠ word W (x b) (mk b) t.val ↔ _
    rw [Nat.add_comm]
    unfold ends
    exact ⟨fun h => .inl h, fun h => h.resolve_right (by omega)⟩
  · rename_i ht
    rw [if_pos (show ends W (x b) (mk b) t from .inr (by omega))]

theorem fold_addi {ι : Type} [DecidableEq ι] (s : Finset ι) (f : ι → BitVec 32) (n : ι → ℕ) (h : ∀ i, f i = BitVec.ofNat 32 (n i)) :
    Finset.fold IntOp.addi (0#32) f s = BitVec.ofNat 32 (∑ i ∈ s, n i) := by
  induction s using Finset.induction_on with
  | empty => rfl
  | insert a s ha ih =>
    rw [Finset.fold_insert ha, Finset.sum_insert ha, ih, h, BitVec.ofNat_add]
    rfl

theorem posW_at (last : IVec S1022x32 1) (h : ∀ t b, last (ix2 t b) = if ends W (x b) (mk b) t then 1#1 else 0#1) (t : Fin 1022) (b : Fin 32) :
    posW last (ix2 t b) = BitVec.ofNat 32 (rank (ends W (x b) (mk b)) t) := by
  unfold posW
  rw [Host.reduce_eq_fold]
  pointwise
  unfold rank
  rw [Finset.card_filter]
  refine fold_addi _ _ _ fun i => ?_
  have hi := i.isLt
  have ht := t.isLt
  rw [cmpi_slt_ite, toInt_small _ (by omega), toInt_small _ (by omega), h]
  by_cases h1 : i < t
  · rw [if_pos (by exact_mod_cast h1)]
    by_cases h2 : ends W (x b) (mk b) i
    · rw [if_pos h2, if_pos ⟨h1, h2⟩]; rfl
    · rw [if_neg h2, if_neg (fun h => h2 h.2)]; rfl
  · rw [if_neg (by exact_mod_cast h1), if_neg (show ¬(i < t ∧ ends W (x b) (mk b) i) from fun h => h1 h.1)]; rfl

theorem putW_at (last : IVec S1022x32 1) (h : ∀ t b, last (ix2 t b) = if ends W (x b) (mk b) t then 1#1 else 0#1) (pos : IVec S1022x32 32)
    (hp : ∀ t b, pos (ix2 t b) = BitVec.ofNat 32 (rank (ends W (x b) (mk b)) t)) (p t : Fin 1022) (b : Fin 32) :
    putW last pos (ix3 p t b) = if rank (ends W (x b) (mk b)) t = p.val ∧ ends W (x b) (mk b) t then 1#1 else 0#1 := by
  pointwise [putW]
  rw [h, hp, cmpi_eq_ite, andi_ite]
  refine if_congr (and_congr ⟨fun e => ?_, fun e => by rw [e]⟩ Iff.rfl) rfl rfl
  have h1 := rank_lt (ends W (x b) (mk b)) t
  have h2 := p.isLt
  have := congrArg BitVec.toNat e
  rw [BitVec.toNat_ofNat, BitVec.toNat_ofNat] at this
  omega

/-- The packed states. -/
def packedV (V : Valuation τ sig (Elt Ideal)) : FVec Ideal S32x1022x256 .f32 :=
  packV (putW (lastW (V (Proc.devRef .tc main_v54_15))) (posW (lastW (V (Proc.devRef .tc main_v54_15))))) (V (Proc.devRef .tc main_v54_16))

theorem packedV_at (L : Loop W x mk 1022 V) (b : Fin 32) (p : Fin 1022) (d : Fin 256) :
    packedV V (ix3 b p d) = packed W (x b) (mk b) p d := by
  have h := lastW_at (W := W) (x := x) (mk := mk) (V (Proc.devRef .tc main_v54_15)) fun t b => L.words t b t.isLt
  have hp := posW_at (W := W) (x := x) (mk := mk) _ h
  unfold packedV
  pointwise [packV]
  simp only [putW_at (W := W) (x := x) (mk := mk) _ h _ hp, flag_two]
  unfold packed pack
  exact Finset.sum_congr rfl fun t _ => congrArg (_ * ·) (L.states t b d t.isLt)

theorem weightV_at (aw : FVec Ideal S4x256x128 .f32) (ab au : FVec Ideal S4x128 .f32) (q : FVec Ideal S32x1022x256 .f32)
    (haw : ∀ k d e, aw (ix3 k d e) = W.aw k d e) (hab : ∀ k e, ab (ix2 k e) = W.ab k e) (hau : ∀ k e, au (ix2 k e) = W.au k e)
    (hq : ∀ b p d, q (ix3 b p d) = packed W (x b) (mk b) p d) (b : Fin 32) (k : Fin 4) (p : Fin 1022) :
    weightV aw ab au q (ix3 b k p) = Ideal.exp (score W k (packed W (x b) (mk b) p)) := by
  pointwise [weightV]
  simp only [haw, hab, hau, hq]
  unfold score
  simp only [mul_comm]

theorem sum_heads (f : Fin 4 → Fin 256 → EReal) :
    ∑ j : Fin 1024, f ⟨j.val / 256, by omega⟩ ⟨j.val % 256, by omega⟩ = ∑ k, ∑ d, f k d := by
  rw [Fin.sum_univ_tiles 4 256 rfl]
  refine Finset.sum_congr rfl fun k _ => Finset.sum_congr rfl fun d _ => ?_
  exact congr (congrArg f (Fin.ext (by show (k.val * 256 + d.val) / 256 = k.val; omega))) (Fin.ext (by show (k.val * 256 + d.val) % 256 = d.val; omega))

theorem normV_at (v : FVec Ideal S32x1024 .f32) (f : Fin 4 → Fin 256 → EReal) (b : Fin 32)
    (hv : ∀ j : Fin 1024, v (ix2 b j) = f ⟨j.val / 256, by omega⟩ ⟨j.val % 256, by omega⟩) (j : Fin 1024) :
    normV v (ix2 b j) = unit f ⟨j.val / 256, by omega⟩ ⟨j.val % 256, by omega⟩ := by
  pointwise [normV]
  simp only [hv]
  rw [sum_heads fun k d => f k d * f k d]
  rfl

/-- The reference's result. -/
theorem out_at (L : Loop W x mk 1022 V) (haw : ∀ k d e, V (Proc.devRef .tc main_arg13) (ix3 k d e) = W.aw k d e)
    (hab : ∀ k e, V (Proc.devRef .tc main_arg14) (ix2 k e) = W.ab k e) (hau : ∀ k e, V (Proc.devRef .tc main_arg15) (ix2 k e) = W.au k e)
    (b : Fin 32) (j : Fin 1024) :
    (out_main_v102 V : Vec Ideal S32x1024 .f32) (ix2 b j) = unit (pooledR W (x b) (mk b)) ⟨j.val / 256, by omega⟩ ⟨j.val % 256, by omega⟩ := by
  have e : (out_main_v102 V : Vec Ideal S32x1024 .f32) = normV (sumV (shareV (weightV (V (Proc.devRef .tc main_arg13)) (V (Proc.devRef .tc main_arg14))
    (V (Proc.devRef .tc main_arg15)) (packedV V))) (packedV V)) := out_parts V
  rw [e]
  refine normV_at _ _ b (fun j => ?_) j
  have hw := weightV_at (W := W) (x := x) (mk := mk) _ _ _ (packedV V) haw hab hau (packedV_at L)
  pointwise [sumV, shareV]
  simp only [hw, packedV_at L]
  rfl

end Cert.ReferenceIdeal.Hand

end
-- ==== Proof.Algebraic.lean ====
/- The kernel and the reference end with the same rows. -/
module

public import proofs.«01_k».proof.Defs
public import proofs.«01_k».proof.Proof.KernelIdealFrame
public import proofs.«01_k».proof.Proof.KernelIdealFeeds
public import proofs.«01_k».proof.Proof.KernelIdealInv
public import proofs.«01_k».proof.Proof.ReferenceIdealOut
public import Idealize.ShloMosaic.Lib.Claim

@[expose] public section

set_option maxRecDepth 65536

noncomputable section

namespace Cert.Spec

open Idealize.ShloMosaic

/-- What both programs compute of the arguments. -/
def Args.out (a : Args) : Vec Ideal ⟨2, ![32, 1024]⟩ .f32 := fun i =>
  unit (pooled a.W (a.conv (i 0)) (a.mask (i 0))) ⟨(i 1).val / 256, Nat.div_lt_of_lt_mul (i 1).isLt⟩ ⟨(i 1).val % 256, Nat.mod_lt _ (by decide)⟩

theorem idx_pair (i : (⟨2, ![32, 1024]⟩ : Shape).Idx) : ∃ (b : Fin 32) (j : Fin 1024), i = ix2 b j :=
  ⟨i 0, i 1, funext fun a => match a with | ⟨0, _⟩ => rfl | ⟨1, _⟩ => rfl⟩

end Cert.Spec

namespace Cert.KernelIdeal.Hand

open Cert.KernelIdeal.Gen Cert.Spec
open Idealize.ShloMosaic Idealize.ShloMosaic.TcCoe Idealize.ShloMosaic.StableHlo

variable (m : (l : Loc nD τ sig) → Buf (Elt Ideal) l) (c : Dev nD)

theorem coord_val : ∀ t : Fin cfg0.N, ((grid0.coords t) 0).val = t.val := by decide +kernel

theorem scratch_end (S0 : Scr Ideal) : Inv2 (args m c).W (args m c).conv (args m c).mask 16 1023 (scrSeq m c S0 17) :=
  (scratch_after (Xs := fun s => if h : s < 17 then insAt m c ⟨s, h⟩ else insAt m c ⟨0, by decide⟩)
    (co := fun s => if h : s < 17 then grid0.coords ⟨s, h⟩ else grid0.coords ⟨0, by decide⟩)
    (Sq := scrSeq m c S0)
    (fun s hs => by rw [dif_pos hs]; exact feeds m c ⟨s, hs⟩) (fun s hs => by rw [dif_pos hs]; exact coord_val ⟨s, hs⟩)
    (fun s hs => by rw [dif_pos hs, dif_pos hs]; exact scrSeq_succ m c S0 ⟨s, hs⟩) 15 le_rfl).2.1

theorem result_at {r : PUnit × MemSt nD τ sig (Elt Ideal)}
    (h : Pipeline.RDat.FramePost (cfgs 0) (fun c => (valDats (F := Ideal) m 0 c).toRRel forgotten (outHeld m c)) (V m) r) :
    r.2.mem ((c.tc : Thread nD τ).loc main_v36) = (args m c).out := by
  obtain ⟨S0, hS⟩ := out_after h c
  funext i
  obtain ⟨b, j, rfl⟩ := idx_pair i
  have e := out_spec (feeds m c ⟨16, by decide⟩) (scratch_end m c S0) hS b ⟨j.val / 256, by omega⟩ ⟨j.val % 256, by omega⟩
  have hj : (⟨256 * (j.val / 256) + j.val % 256, by omega⟩ : Fin 1024) = j := Fin.ext (by show 256 * (j.val / 256) + j.val % 256 = j.val; omega)
  rw [hj] at e
  exact e

end Cert.KernelIdeal.Hand

namespace Cert.ReferenceIdeal.Hand

open Cert.ReferenceIdeal.Gen Cert.ReferenceIdeal.Value Cert.Spec
open Idealize.ShloMosaic Idealize.ShloMosaic.TcCoe Idealize.ShloMosaic.StableHlo

variable (m : (l : Loc nD τ sig) → Buf (Elt Ideal) l) (c : Dev nD)

theorem result_at : out_main_v102 (STEP^[1022] (entryContents preI m c)) = (args m c).out := by
  funext i
  obtain ⟨b, j, rfl⟩ := idx_pair i
  refine (out_at (loop_end m c) (fun k d e => ?_) (fun k e => ?_) (fun k e => ?_) b j).trans (unit_meet _ _ _ _ _).symm
  · rw [iter_main_arg13]; rfl
  · rw [iter_main_arg14]; rfl
  · rw [iter_main_arg15]; rfl

end Cert.ReferenceIdeal.Hand

namespace Cert.Proof

open Idealize.ShloMosaic Idealize.SL.Sem

/-- The kernel and the reference compute the same. -/
theorem algebraic_kernelIdeal_referenceIdeal : Cert.algebraic_KernelIdeal_ReferenceIdeal := by
  intro m g m' g' _ hargs
  refine ⟨fun c => (Cert.KernelIdeal.Hand.args m c).out, ?_, ?_⟩
  · exact (θ_run _ _ _).mono (fun r h c => ⟨Cert.KernelIdeal.Hand.result_at m c h.1.1, Cert.KernelIdeal.Hand.args_unchanged h.2.1 c⟩)
      (θ_run_and (Cert.KernelIdeal.Hand.val_run m g) (Cert.KernelIdeal.Hand.frame_run m g))
  · refine (θ_run _ _ _).mono (fun r h c => ⟨(h c).1.trans ((Cert.ReferenceIdeal.Hand.result_at m' c).trans ?_), (h c).2⟩) (Cert.ReferenceIdeal.Value.run m' g')
    obtain ⟨h0, h1, h2, h3, h4, h5, h6, h7, h8, h9, h10, h11, h12, h13, h14, h15⟩ := hargs c
    refine congrArg Cert.Spec.Args.out ?_
    unfold Cert.ReferenceIdeal.Hand.args Cert.KernelIdeal.Hand.args
    rw [h0, h1, h2, h3, h4, h5, h6, h7, h8, h9, h10, h11, h12, h13, h14, h15]

end Cert.Proof

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.KernelIdealFrame
public import proofs.«01_k».proof.Proof.Algebraic
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel runs, its arguments end unchanged, every counter at zero. -/
theorem quiescent_kernel : Cert.quiescent_Kernel := fun m g _ =>
  (θ_run _ _ _).mono (fun _ h => ⟨fun c => Cert.Kernel.Hand.args_unchanged h.1 c, h.2⟩) (Cert.Kernel.Hand.frame_run m g)

/-- The same of its idealization. -/
theorem quiescent_kernelIdeal : Cert.quiescent_KernelIdeal := fun m g _ =>
  (θ_run _ _ _).mono (fun _ h => ⟨fun c => Cert.KernelIdeal.Hand.args_unchanged h.1 c, h.2⟩) (Cert.KernelIdeal.Hand.frame_run m g)

/-- The same of the reference: it is host operations alone and declares no semaphore. -/
theorem quiescent_referenceIdeal : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  quiescent_kernel, quiescent_kernelIdeal, quiescent_referenceIdeal, trivial, algebraic_kernelIdeal_referenceIdeal⟩

end Cert.Proof

end
